-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v4)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v4) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v19) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v57_0)) (v1 : (c : Dev Cert.KernelInIdeal.nD) → Buf (Elt Ideal) ((c.tc : Thread Cert.KernelInIdeal.nD Cert.KernelInIdeal.τ).loc Cert.KernelInIdeal.main_v57_1)) (v2 : (c : Dev Cert.KernelInIdeal.nD) → Buf (Elt Ideal) ((c.tc : Thread Cert.KernelInIdeal.nD Cert.KernelInIdeal.τ).loc Cert.KernelInIdeal.main_v57_2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v57_0) = v0 c
          ∧ r.2.mem ((c.tc : Thread Cert.KernelInIdeal.nD Cert.KernelInIdeal.τ).loc Cert.KernelInIdeal.main_v57_1) = v1 c
          ∧ r.2.mem ((c.tc : Thread Cert.KernelInIdeal.nD Cert.KernelInIdeal.τ).loc Cert.KernelInIdeal.main_v57_2) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v168) = v0 c
          ∧ r.2.mem ((c.tc : Thread Cert.ReferenceInIdeal.nD Cert.ReferenceInIdeal.τ).loc Cert.ReferenceInIdeal.main_v169) = v1 c
          ∧ r.2.mem ((c.tc : Thread Cert.ReferenceInIdeal.nD Cert.ReferenceInIdeal.τ).loc Cert.ReferenceInIdeal.main_v171) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
-- ==== Pre_finite.lean ====
abbrev S16384x7680 : Shape := ⟨2, ![16384, 7680]⟩
abbrev S16384x128 : Shape := ⟨2, ![16384, 128]⟩
abbrev S1x4x3072 : Shape := ⟨3, ![1, 4, 3072]⟩
abbrev S1x8 : Shape := ⟨2, ![1, 8]⟩
abbrev S1x128 : Shape := ⟨2, ![1, 128]⟩
abbrev S_ : Shape := ⟨0, ![]⟩

class Facts : Prop where
  bcast_S_S16384x7680 : S_.BroadcastsInDim S16384x7680 (![] : Fin 0 → Fin S16384x7680.rank)
  reducesTo_S16384x7680_S_d0_1 : S16384x7680.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S1x4x3072 : S_.BroadcastsInDim S1x4x3072 (![] : Fin 0 → Fin S1x4x3072.rank)
  reducesTo_S1x4x3072_S_d0_1_2 : S1x4x3072.ReducesTo [0, 1, 2] S_
  bcast_S_S1x8 : S_.BroadcastsInDim S1x8 (![] : Fin 0 → Fin S1x8.rank)
  reducesTo_S1x8_S_d0_1 : S1x8.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x8 .f32) (main_arg5 : FVec F S1x128 .f32) (main_v13 : IVec S_ 1) (main_v16 : IVec S1x8 1) : IVec S_ 1 :=
  let main_c_5 : IVec S_ 1 := constantI S_ 1 1#1
  let main_v17 : IVec S_ 1 := (fun x v => Host.reduce IntOp.andi x v reducesTo_S1x8_S_d0_1 h_S_) main_v16 main_c_5
  let main_v18 : IVec S_ 1 := andi main_v13 main_v17
  let main_v19 : FVec F S1x8 .f32 := Host.absf main_arg4
  let main_cst_6 : FVec F S_ .f32 := constant S_ .f32 0x7F800000#32
  let main_v20 : FVec F S1x8 .f32 := broadcastInDim S1x8 ![] bcast_S_S1x8 main_cst_6
  let main_v21 : IVec S1x8 1 := cmpf .olt main_v19 main_v20
  let main_c_7 : IVec S_ 1 := constantI S_ 1 1#1
  let main_v22 : IVec S_ 1 := (fun x v => Host.reduce IntOp.andi x v reducesTo_S1x8_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  main_v28

def fn {F : FTy → Type} [FloatOps F] (main_arg0 : FVec F S16384x7680 .bf16) (main_arg1 : FVec F S16384x128 .f32) (main_arg2 : FVec F S1x4x3072 .f32) (main_arg3 : FVec F S1x8 .f32) (main_arg4 : FVec F S1x8 .f32) (main_arg5 : FVec F S1x128 .f32) : IVec S_ 1 :=
  let main_v0 : FVec F S16384x7680 .bf16 := Host.absf main_arg0
  let main_cst : FVec F S_ .bf16 := constant S_ .bf16 0x7F80#16
  let main_v1 : FVec F S16384x7680 .bf16 := broadcastInDim S16384x7680 ![] bcast_S_S16384x7680 main_cst
  let main_v2 : IVec S16384x7680 1 := cmpf .olt main_v0 main_v1
  let main_c : IVec S_ 1 := constantI S_ 1 1#1
  let main_v3 : IVec S_ 1 := (fun x v => Host.reduce IntOp.andi x v reducesTo_S16384x7680_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S1x4x3072 .f32 := Host.absf main_arg2
  let main_cst_2 : FVec F S_ .f32 := constant S_ .f32 0x7F800000#32
  let main_v10 : FVec F S1x4x3072 .f32 := broadcastInDim S1x4x3072 ![] bcast_S_S1x4x3072 main_cst_2
  let main_v11 : IVec S1x4x3072 1 := cmpf .olt main_v9 main_v10
  let main_c_3 : IVec S_ 1 := constantI S_ 1 1#1
  let main_v12 : IVec S_ 1 := (fun x v => Host.reduce IntOp.andi x v reducesTo_S1x4x3072_S_d0_1_2 h_S_) main_v11 main_c_3
  let main_v13 : IVec S_ 1 := andi main_v8 main_v12
  let main_v14 : FVec F S1x8 .f32 := Host.absf main_arg3
  let main_cst_4 : FVec F S_ .f32 := constant S_ .f32 0x7F800000#32
  let main_v15 : FVec F S1x8 .f32 := broadcastInDim S1x8 ![] bcast_S_S1x8 main_cst_4
  let main_v16 : IVec S1x8 1 := cmpf .olt main_v14 main_v15
  fn_part1 (F := F) main_arg4 main_arg5 main_v13 main_v16
-- ==== Kernel.lean ====
abbrev S16384x7680 : Shape := ⟨2, ![16384, 7680]⟩
abbrev S16384x128 : Shape := ⟨2, ![16384, 128]⟩
abbrev S1x4x3072 : Shape := ⟨3, ![1, 4, 3072]⟩
abbrev S1x8 : Shape := ⟨2, ![1, 8]⟩
abbrev S1x128 : Shape := ⟨2, ![1, 128]⟩
abbrev S4x3072 : Shape := ⟨2, ![4, 3072]⟩
abbrev S8 : Shape := ⟨1, ![8]⟩
abbrev S4x8 : Shape := ⟨2, ![4, 8]⟩
abbrev S32 : Shape := ⟨1, ![32]⟩
abbrev S32x1 : Shape := ⟨2, ![32, 1]⟩
abbrev S32x128 : Shape := ⟨2, ![32, 128]⟩
abbrev S128 : Shape := ⟨1, ![128]⟩
abbrev S16384x1024 : Shape := ⟨2, ![16384, 1024]⟩
abbrev S256x1024 : Shape := ⟨2, ![256, 1024]⟩
abbrev S4x1024 : Shape := ⟨2, ![4, 1024]⟩
abbrev S256x128 : Shape := ⟨2, ![256, 128]⟩
abbrev S8x128x128 : Shape := ⟨3, ![8, 128, 128]⟩
abbrev S3x8x1024 : Shape := ⟨3, ![3, 8, 1024]⟩
abbrev S2x32x128 : Shape := ⟨3, ![2, 32, 128]⟩
abbrev S32x8x1024 : Shape := ⟨3, ![32, 8, 1024]⟩
abbrev S1x8x1024 : Shape := ⟨3, ![1, 8, 1024]⟩
abbrev S8x1024 : Shape := ⟨2, ![8, 1024]⟩
abbrev S264x1024 : Shape := ⟨2, ![264, 1024]⟩
abbrev S33x8x1024 : Shape := ⟨3, ![33, 8, 1024]⟩
abbrev S1x1024 : Shape := ⟨2, ![1, 1024]⟩
abbrev S256 : Shape := ⟨1, ![256]⟩
abbrev S256x1 : Shape := ⟨2, ![256, 1]⟩
abbrev S128x256 : Shape := ⟨2, ![128, 256]⟩
abbrev S8x64 : Shape := ⟨2, ![8, 64]⟩
abbrev S1x8x64 : Shape := ⟨3, ![1, 8, 64]⟩
abbrev S1x32x128 : Shape := ⟨3, ![1, 32, 128]⟩
abbrev S96x128 : Shape := ⟨2, ![96, 128]⟩
abbrev S128x128 : Shape := ⟨2, ![128, 128]⟩
abbrev S64x64 : Shape := ⟨2, ![64, 64]⟩
abbrev S64x128 : Shape := ⟨2, ![64, 128]⟩
abbrev S64x1 : Shape := ⟨2, ![64, 1]⟩
abbrev S1x64 : Shape := ⟨2, ![1, 64]⟩
abbrev S128x64 : Shape := ⟨2, ![128, 64]⟩
abbrev S64x256 : Shape := ⟨2, ![64, 256]⟩
abbrev S192x128 : Shape := ⟨2, ![192, 128]⟩
abbrev S1x128x128 : Shape := ⟨3, ![1, 128, 128]⟩
abbrev S64 : Shape := ⟨1, ![64]⟩

abbrev nBuf : Space → Nat
  | .hbm => 22
  | .vmem => 21
  | .smem => 0
  | _ => 0

abbrev bufTy : (tb : Table) → Fin (tcTables nBuf tb) → BufTy
  | .hbm, ⟨0, _⟩ => ⟨S16384x7680, .bf16⟩
  | .hbm, ⟨1, _⟩ => ⟨S16384x128, .f32⟩
  | .hbm, ⟨2, _⟩ => ⟨S1x4x3072, .f32⟩
  | .hbm, ⟨3, _⟩ => ⟨S1x8, .f32⟩
  | .hbm, ⟨4, _⟩ => ⟨S1x8, .f32⟩
  | .hbm, ⟨5, _⟩ => ⟨S1x128, .f32⟩
  | .hbm, ⟨6, _⟩ => ⟨S4x3072, .f32⟩
  | .hbm, ⟨7, _⟩ => ⟨S8, .f32⟩
  | .hbm, ⟨8, _⟩ => ⟨S1x8, .f32⟩
  | .hbm, ⟨9, _⟩ => ⟨S4x8, .f32⟩
  | .hbm, ⟨10, _⟩ => ⟨S32, .f32⟩
  | .hbm, ⟨11, _⟩ => ⟨S32x1, .f32⟩
  | .hbm, ⟨12, _⟩ => ⟨S32x128, .f32⟩
  | .hbm, ⟨13, _⟩ => ⟨S8, .f32⟩
  | .hbm, ⟨14, _⟩ => ⟨S1x8, .f32⟩
  | .hbm, ⟨15, _⟩ => ⟨S4x8, .f32⟩
  | .hbm, ⟨16, _⟩ => ⟨S32, .f32⟩
  | .hbm, ⟨17, _⟩ => ⟨S32x1, .f32⟩
  | .hbm, ⟨18, _⟩ => ⟨S32x128, .f32⟩
  | .hbm, ⟨19, _⟩ => ⟨S128, .f32⟩
  | .hbm, ⟨20, _⟩ => ⟨S1x128, .f32⟩
  | .hbm, ⟨21, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S4x1024, .f32⟩
  | .local _ .vmem, ⟨9, _⟩ => ⟨S4x1024, .f32⟩
  | .local _ .vmem, ⟨10, _⟩ => ⟨S4x1024, .f32⟩
  | .local _ .vmem, ⟨11, _⟩ => ⟨S256x128, .f32⟩
  | .local _ .vmem, ⟨12, _⟩ => ⟨S256x128, .f32⟩
  | .local _ .vmem, ⟨13, _⟩ => ⟨S32x128, .f32⟩
  | .local _ .vmem, ⟨14, _⟩ => ⟨S32x128, .f32⟩
  | .local _ .vmem, ⟨15, _⟩ => ⟨S1x128, .f32⟩
  | .local _ .vmem, ⟨16, _⟩ => ⟨S256x1024, .bf16⟩
  | .local _ .vmem, ⟨17, _⟩ => ⟨S256x1024, .bf16⟩
  | .local _ .vmem, ⟨18, _⟩ => ⟨S8x128x128, .f32⟩
  | .local _ .vmem, ⟨19, _⟩ => ⟨S3x8x1024, .f32⟩
  | .local _ .vmem, ⟨20, _⟩ => ⟨S2x32x128, .f32⟩
  | _, _ => ⟨S16384x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S16384x7680 : Shape := ⟨2, ![16384, 7680]⟩
abbrev S16384x128 : Shape := ⟨2, ![16384, 128]⟩
abbrev S1x4x3072 : Shape := ⟨3, ![1, 4, 3072]⟩
abbrev S1x8 : Shape := ⟨2, ![1, 8]⟩
abbrev S1x128 : Shape := ⟨2, ![1, 128]⟩
abbrev S16384x3072 : Shape := ⟨2, ![16384, 3072]⟩
abbrev S4x4096x3072 : Shape := ⟨3, ![4, 4096, 3072]⟩
abbrev S16384x8 : Shape := ⟨2, ![16384, 8]⟩
abbrev S4x4096x8 : Shape := ⟨3, ![4, 4096, 8]⟩
abbrev S4x3072 : Shape := ⟨2, ![4, 3072]⟩
abbrev S_ : Shape := ⟨0, ![]⟩
abbrev S4x4099x3072 : Shape := ⟨3, ![4, 4099, 3072]⟩
abbrev S1x3072 : Shape := ⟨2, ![1, 3072]⟩
abbrev S3072 : Shape := ⟨1, ![3072]⟩
abbrev S1x1x3072 : Shape := ⟨3, ![1, 1, 3072]⟩
abbrev S4x4096x1024 : Shape := ⟨3, ![4, 4096, 1024]⟩
abbrev S4x4096x8x128 : Shape := ⟨4, ![4, 4096, 8, 128]⟩
abbrev S8 : Shape := ⟨1, ![8]⟩
abbrev S1x1x8 : Shape := ⟨3, ![1, 1, 8]⟩
abbrev S4x4096x8x1 : Shape := ⟨4, ![4, 4096, 8, 1]⟩
abbrev S4x8x128x128 : Shape := ⟨4, ![4, 8, 128, 128]⟩
abbrev S4096x4x8x128 : Shape := ⟨4, ![4096, 4, 8, 128]⟩
abbrev S4096x4x8 : Shape := ⟨3, ![4096, 4, 8]⟩
abbrev S1x4x8x128 : Shape := ⟨4, ![1, 4, 8, 128]⟩
abbrev S4x8x128 : Shape := ⟨3, ![4, 8, 128]⟩
abbrev S1x4x8 : Shape := ⟨3, ![1, 4, 8]⟩
abbrev S4x8 : Shape := ⟨2, ![4, 8]⟩
abbrev S4x8x1x1 : Shape := ⟨4, ![4, 8, 1, 1]⟩
abbrev S4x8x1 : Shape := ⟨3, ![4, 8, 1]⟩
abbrev S4x8x128x1 : Shape := ⟨4, ![4, 8, 128, 1]⟩
abbrev S4x8x1x128 : Shape := ⟨4, ![4, 8, 1, 128]⟩
abbrev S128 : Shape := ⟨1, ![128]⟩
abbrev S1x1x1x128 : Shape := ⟨4, ![1, 1, 1, 128]⟩
abbrev S16384x1024 : Shape := ⟨2, ![16384, 1024]⟩

abbrev nBuf : Space → Nat
  | .hbm => 214
  | .vmem => 0
  | .smem => 0
  | _ => 0

abbrev hbmTy0_0 (i : Nat) : BufTy := match i % 128 with
  | 0 => ⟨S16384x7680, .bf16⟩
  | 1 => ⟨S16384x128, .f32⟩
  | 2 => ⟨S1x4x3072, .f32⟩
  | 3 => ⟨S1x8, .f32⟩
  | 4 => ⟨S1x8, .f32⟩
  | 5 => ⟨S1x128, .f32⟩
  | 6 => ⟨S16384x7680, .f32⟩
  | 7 => ⟨S16384x3072, .f32⟩
  | 8 => ⟨S4x4096x3072, .f32⟩
  | 9 => ⟨S16384x8, .f32⟩
  | 10 => ⟨S4x4096x8, .f32⟩
  | 11 => ⟨S16384x8, .f32⟩
  | 12 => ⟨S4x4096x8, .f32⟩
  | 13 => ⟨S4x3072, .f32⟩
  | 14 => ⟨S_, .i32⟩
  | 15 => ⟨S_, .f32⟩
  | 16 => ⟨S4x4099x3072, .f32⟩
  | 17 => ⟨S4x4096x3072, .f32⟩
  | 18 => ⟨S1x3072, .f32⟩
  | 19 => ⟨S3072, .f32⟩
  | 20 => ⟨S1x1x3072, .f32⟩
  | 21 => ⟨S4x4096x3072, .f32⟩
  | 22 => ⟨S4x4096x3072, .f32⟩
  | 23 => ⟨S4x4096x3072, .f32⟩
  | 24 => ⟨S1x3072, .f32⟩
  | 25 => ⟨S3072, .f32⟩
  | 26 => ⟨S1x1x3072, .f32⟩
  | 27 => ⟨S4x4096x3072, .f32⟩
  | 28 => ⟨S4x4096x3072, .f32⟩
  | 29 => ⟨S4x4096x3072, .f32⟩
  | 30 => ⟨S4x4096x3072, .f32⟩
  | 31 => ⟨S1x3072, .f32⟩
  | 32 => ⟨S3072, .f32⟩
  | 33 => ⟨S1x1x3072, .f32⟩
  | 34 => ⟨S4x4096x3072, .f32⟩
  | 35 => ⟨S4x4096x3072, .f32⟩
  | 36 => ⟨S4x4096x3072, .f32⟩
  | 37 => ⟨S4x4096x3072, .f32⟩
  | 38 => ⟨S1x3072, .f32⟩
  | 39 => ⟨S3072, .f32⟩
  | 40 => ⟨S1x1x3072, .f32⟩
  | 41 => ⟨S4x4096x3072, .f32⟩
  | 42 => ⟨S4x4096x3072, .f32⟩
  | 43 => ⟨S4x4096x3072, .f32⟩
  | 44 => ⟨S4x4096x3072, .f32⟩
  | 45 => ⟨S4x4096x3072, .f32⟩
  | 46 => ⟨S_, .f32⟩
  | 47 => ⟨S4x4096x3072, .f32⟩
  | 48 => ⟨S4x4096x3072, .f32⟩
  | 49 => ⟨S_, .f32⟩
  | 50 => ⟨S4x4096x3072, .f32⟩
  | 51 => ⟨S4x4096x3072, .f32⟩
  | 52 => ⟨S4x4096x3072, .f32⟩
  | 53 => ⟨S4x4096x1024, .f32⟩
  | 54 => ⟨S4x4096x8x128, .f32⟩
  | 55 => ⟨S4x4096x1024, .f32⟩
  | 56 => ⟨S4x4096x8x128, .f32⟩
  | 57 => ⟨S4x4096x1024, .f32⟩
  | 58 => ⟨S4x4096x8x128, .f32⟩
  | 59 => ⟨S8, .f32⟩
  | 60 => ⟨S8, .f32⟩
  | 61 => ⟨S8, .f32⟩
  | 62 => ⟨S8, .f32⟩
  | 63 => ⟨S1x1x8, .f32⟩
  | 64 => ⟨S4x4096x8, .f32⟩
  | 65 => ⟨S4x4096x8, .f32⟩
  | 66 => ⟨S_, .f32⟩
  | 67 => ⟨S4x4096x8, .f32⟩
  | 68 => ⟨S4x4096x8, .f32⟩
  | 69 => ⟨S4x4096x8, .f32⟩
  | 70 => ⟨S4x4096x8, .f32⟩
  | 71 => ⟨S4x4096x8, .i1⟩
  | 72 => ⟨S4x4096x8, .f32⟩
  | 73 => ⟨S4x4096x8, .f32⟩
  | 74 => ⟨S4x4096x8, .f32⟩
  | 75 => ⟨S4x4096x8, .f32⟩
  | 76 => ⟨S4x4096x8, .f32⟩
  | 77 => ⟨S4x4096x8, .f32⟩
  | 78 => ⟨S4x4096x8, .f32⟩
  | 79 => ⟨S4x4096x8, .f32⟩
  | 80 => ⟨S1x1x8, .f32⟩
  | 81 => ⟨S4x4096x8, .f32⟩
  | 82 => ⟨S4x4096x8, .f32⟩
  | 83 => ⟨S4x4096x8, .f32⟩
  | 84 => ⟨S4x4096x8, .f32⟩
  | 85 => ⟨S_, .f32⟩
  | 86 => ⟨S4x4096x8, .f32⟩
  | 87 => ⟨S4x4096x8, .f32⟩
  | 88 => ⟨S_, .f32⟩
  | 89 => ⟨S4x4096x8, .f32⟩
  | 90 => ⟨S4x4096x8, .f32⟩
  | 91 => ⟨S4x4096x8x128, .f32⟩
  | 92 => ⟨S_, .f32⟩
  | 93 => ⟨S4x4096x8, .f32⟩
  | 94 => ⟨S4x4096x8x1, .f32⟩
  | 95 => ⟨S_, .f32⟩
  | 96 => ⟨S4x4096x8x1, .f32⟩
  | 97 => ⟨S4x4096x8x1, .f32⟩
  | 98 => ⟨S4x4096x8x1, .f32⟩
  | 99 => ⟨S4x4096x8x128, .f32⟩
  | 100 => ⟨S4x4096x8x128, .f32⟩
  | 101 => ⟨S_, .f32⟩
  | 102 => ⟨S4x4096x8x128, .f32⟩
  | 103 => ⟨S4x4096x8x128, .f32⟩
  | 104 => ⟨S4x4096x8x128, .f32⟩
  | 105 => ⟨S_, .f32⟩
  | 106 => ⟨S4x4096x8, .f32⟩
  | 107 => ⟨S4x4096x8x1, .f32⟩
  | 108 => ⟨S_, .f32⟩
  | 109 => ⟨S4x4096x8x1, .f32⟩
  | 110 => ⟨S4x4096x8x1, .f32⟩
  | 111 => ⟨S4x4096x8x1, .f32⟩
  | 112 => ⟨S4x4096x8x128, .f32⟩
  | 113 => ⟨S4x4096x8x128, .f32⟩
  | 114 => ⟨S_, .f32⟩
  | 115 => ⟨S4x8x128x128, .f32⟩
  | 116 => ⟨S4096x4x8x128, .f32⟩
  | 117 => ⟨S4096x4x8x128, .f32⟩
  | 118 => ⟨S4096x4x8x128, .f32⟩
  | 119 => ⟨S4096x4x8, .f32⟩
  | 120 => ⟨S4096x4x8, .f32⟩
  | 121 => ⟨S_, .f32⟩
  | 122 => ⟨S4096x4x8x128, .f32⟩
  | 123 => ⟨S_, .i32⟩
  | 124 => ⟨S4096x4x8x128, .f32⟩
  | 125 => ⟨S4096x4x8x128, .f32⟩
  | 126 => ⟨S4096x4x8x128, .f32⟩
  | 127 => ⟨S4096x4x8, .f32⟩
  | _ => ⟨S16384x7680, .bf16⟩

abbrev hbmTy0_1 (i : Nat) : BufTy := match i % 128 with
  | 0 => ⟨S4096x4x8, .f32⟩
  | 1 => ⟨S_, .i32⟩
  | 2 => ⟨S4x8x128x128, .f32⟩
  | 3 => ⟨S4096x4x8x128, .f32⟩
  | 4 => ⟨S_, .i32⟩
  | 5 => ⟨S_, .i1⟩
  | 6 => ⟨S_, .i32⟩
  | 7 => ⟨S_, .i32⟩
  | 8 => ⟨S_, .i32⟩
  | 9 => ⟨S1x4x8x128, .f32⟩
  | 10 => ⟨S4x8x128, .f32⟩
  | 11 => ⟨S_, .i32⟩
  | 12 => ⟨S_, .i32⟩
  | 13 => ⟨S_, .i32⟩
  | 14 => ⟨S1x4x8x128, .f32⟩
  | 15 => ⟨S4x8x128, .f32⟩
  | 16 => ⟨S_, .i32⟩
  | 17 => ⟨S_, .i32⟩
  | 18 => ⟨S_, .i32⟩
  | 19 => ⟨S1x4x8x128, .f32⟩
  | 20 => ⟨S4x8x128, .f32⟩
  | 21 => ⟨S_, .i32⟩
  | 22 => ⟨S_, .i32⟩
  | 23 => ⟨S1x4x8, .f32⟩
  | 24 => ⟨S4x8, .f32⟩
  | 25 => ⟨S_, .i32⟩
  | 26 => ⟨S_, .i32⟩
  | 27 => ⟨S1x4x8, .f32⟩
  | 28 => ⟨S4x8, .f32⟩
  | 29 => ⟨S4x8, .f32⟩
  | 30 => ⟨S4x8x1x1, .f32⟩
  | 31 => ⟨S4x8x128x128, .f32⟩
  | 32 => ⟨S4x8x128x128, .f32⟩
  | 33 => ⟨S4x8x1, .f32⟩
  | 34 => ⟨S4x8x128, .f32⟩
  | 35 => ⟨S4x8x128, .f32⟩
  | 36 => ⟨S4x8x128, .f32⟩
  | 37 => ⟨S4x8x128, .f32⟩
  | 38 => ⟨S4x8x128x1, .f32⟩
  | 39 => ⟨S4x8x1x128, .f32⟩
  | 40 => ⟨S4x8x128x128, .f32⟩
  | 41 => ⟨S4x8x128x128, .f32⟩
  | 42 => ⟨S4x8x128x128, .f32⟩
  | 43 => ⟨S4x8x128x128, .f32⟩
  | 44 => ⟨S4x8x128, .f32⟩
  | 45 => ⟨S1x4x8x128, .f32⟩
  | 46 => ⟨S_, .i32⟩
  | 47 => ⟨S_, .i32⟩
  | 48 => ⟨S_, .i32⟩
  | 49 => ⟨S4096x4x8x128, .f32⟩
  | 50 => ⟨S_, .i32⟩
  | 51 => ⟨S_, .i32⟩
  | 52 => ⟨S4x4096x8x128, .f32⟩
  | 53 => ⟨S4x4096x8x128, .f32⟩
  | 54 => ⟨S_, .f32⟩
  | 55 => ⟨S4x4096x8, .f32⟩
  | 56 => ⟨S4x4096x8x1, .f32⟩
  | 57 => ⟨S_, .f32⟩
  | 58 => ⟨S4x4096x8x1, .f32⟩
  | 59 => ⟨S4x4096x8x1, .f32⟩
  | 60 => ⟨S_, .f32⟩
  | 61 => ⟨S4x4096x8x1, .f32⟩
  | 62 => ⟨S4x4096x8x1, .f32⟩
  | 63 => ⟨S4x4096x8x1, .f32⟩
  | 64 => ⟨S4x4096x8x128, .f32⟩
  | 65 => ⟨S4x4096x8x128, .f32⟩
  | 66 => ⟨S128, .f32⟩
  | 67 => ⟨S1x1x1x128, .f32⟩
  | 68 => ⟨S4x4096x8x128, .f32⟩
  | 69 => ⟨S4x4096x8x128, .f32⟩
  | 70 => ⟨S16384x1024, .bf16⟩
  | 71 => ⟨S16384x1024, .f32⟩
  | 72 => ⟨S4x4096x1024, .f32⟩
  | 73 => ⟨S4x4096x1024, .f32⟩
  | 74 => ⟨S4x4096x1024, .f32⟩
  | 75 => ⟨S4x4096x1024, .f32⟩
  | 76 => ⟨S_, .f32⟩
  | 77 => ⟨S4x4096x1024, .f32⟩
  | 78 => ⟨S4x4096x1024, .f32⟩
  | 79 => ⟨S_, .f32⟩
  | 80 => ⟨S4x4096x1024, .f32⟩
  | 81 => ⟨S4x4096x1024, .f32⟩
  | 82 => ⟨S4x4096x1024, .f32⟩
  | 83 => ⟨S4x4096x1024, .f32⟩
  | 84 => ⟨S4x4096x1024, .bf16⟩
  | 85 => ⟨S16384x1024, .bf16⟩
  | _ => ⟨S16384x7680, .bf16⟩

abbrev hbmTy (i : Nat) : BufTy := match i / 128 with
  | 0 => hbmTy0_0 i
  | 1 => hbmTy0_1 i
  | _ => ⟨S16384x7680, .bf16⟩

abbrev bufTy : (tb : Table) → Fin (tcTables nBuf tb) → BufTy
  | .hbm, ⟨i, _⟩ => hbmTy i
  | _, _ => ⟨S16384x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst : Ref sig .tc := ⟨.hbm, 85, rfl⟩
abbrev main_v56 : Ref sig .tc := ⟨.hbm, 86, rfl⟩
abbrev main_v57 : Ref sig .tc := ⟨.hbm, 87, rfl⟩
abbrev main_cst_0 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_1 : Ref sig .tc := ⟨.hbm, 92, rfl⟩
abbrev main_v61 : Ref sig .tc := ⟨.hbm, 93, rfl⟩
abbrev main_v62 : Ref sig .tc := ⟨.hbm, 94, rfl⟩
abbrev main_cst_2 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_3 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_4 : Ref sig .tc := ⟨.hbm, 105, rfl⟩
abbrev main_v71 : Ref sig .tc := ⟨.hbm, 106, rfl⟩
abbrev main_v72 : Ref sig .tc := ⟨.hbm, 107, rfl⟩
abbrev main_cst_5 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_6 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_7 : Ref sig .tc := ⟨.hbm, 121, rfl⟩
abbrev main_v84 : Ref sig .tc := ⟨.hbm, 122, rfl⟩
abbrev main_c_8 : Ref sig .tc := ⟨.hbm, 123, rfl⟩
abbrev main_v85_0 : Ref sig .tc := ⟨.hbm, 124, rfl⟩
abbrev main_v85_1 : Ref sig .tc := ⟨.hbm, 125, rfl⟩
abbrev main_v85_2 : Ref sig .tc := ⟨.hbm, 126, rfl⟩
abbrev main_v85_3 : Ref sig .tc := ⟨.hbm, 127, rfl⟩
abbrev main_v85_4 : Ref sig .tc := ⟨.hbm, 128, rfl⟩
abbrev main_v85_5 : Ref sig .tc := ⟨.hbm, 129, rfl⟩
abbrev main_v85_6 : Ref sig .tc := ⟨.hbm, 130, rfl⟩
abbrev main_v85_7 : Ref sig .tc := ⟨.hbm, 131, rfl⟩
abbrev main_while0c_c_19 : Ref sig .tc := ⟨.hbm, 132, rfl⟩
abbrev main_while0c_v109 : Ref sig .tc := ⟨.hbm, 133, rfl⟩
abbrev main_while0b_call3_c : Ref sig .tc := ⟨.hbm, 134, rfl⟩
abbrev main_while0b_call3_c_0 : Ref sig .tc := ⟨.hbm, 135, rfl⟩
abbrev main_while0b_call3_c_1 : Ref sig .tc := ⟨.hbm, 136, rfl⟩
abbrev main_while0b_call3_v0 : Ref sig .tc := ⟨.hbm, 137, rfl⟩
abbrev main_while0b_v109 : Ref sig .tc := ⟨.hbm, 138, rfl⟩
abbrev main_while0b_call4_c : Ref sig .tc := ⟨.hbm, 139, rfl⟩
abbrev main_while0b_call4_c_0 : Ref sig .tc := ⟨.hbm, 140, rfl⟩
abbrev main_while0b_call4_c_1 : Ref sig .tc := ⟨.hbm, 141, rfl⟩
abbrev main_while0b_call4_v0 : Ref sig .tc := ⟨.hbm, 142, rfl⟩
abbrev main_while0b_v110 : Ref sig .tc := ⟨.hbm, 143, rfl⟩
abbrev main_while0b_call5_c : Ref sig .tc := ⟨.hbm, 144, rfl⟩
abbrev main_while0b_call5_c_0 : Ref sig .tc := ⟨.hbm, 145, rfl⟩
abbrev main_while0b_call5_c_1 : Ref sig .tc := ⟨.hbm, 146, rfl⟩
abbrev main_while0b_call5_v0 : Ref sig .tc := ⟨.hbm, 147, rfl⟩
abbrev main_while0b_v111 : Ref sig .tc := ⟨.hbm, 148, rfl⟩
abbrev main_while0b_call6_c : Ref sig .tc := ⟨.hbm, 149, rfl⟩
abbrev main_while0b_call6_c_0 : Ref sig .tc := ⟨.hbm, 150, rfl⟩
abbrev main_while0b_call6_v0 : Ref sig .tc := ⟨.hbm, 151, rfl⟩
abbrev main_while0b_v112 : Ref sig .tc := ⟨.hbm, 152, rfl⟩
abbrev main_while0b_call7_c : Ref sig .tc := ⟨.hbm, 153, rfl⟩
abbrev main_while0b_call7_c_0 : Ref sig .tc := ⟨.hbm, 154, rfl⟩
abbrev main_while0b_call7_v0 : Ref sig .tc := ⟨.hbm, 155, rfl⟩
abbrev main_while0b_v113 : Ref sig .tc := ⟨.hbm, 156, rfl⟩
abbrev main_while0b_v114 : Ref sig .tc := ⟨.hbm, 157, rfl⟩
abbrev main_while0b_v115 : Ref sig .tc := ⟨.hbm, 158, rfl⟩
abbrev main_while0b_v116 : Ref sig .tc := ⟨.hbm, 159, rfl⟩
abbrev main_while0b_v117 : Ref sig .tc := ⟨.hbm, 160, rfl⟩
abbrev main_while0b_v118 : Ref sig .tc := ⟨.hbm, 161, rfl⟩
abbrev main_while0b_v119 : Ref sig .tc := ⟨.hbm, 162, rfl⟩
abbrev main_while0b_v120 : Ref sig .tc := ⟨.hbm, 163, rfl⟩
abbrev main_while0b_v121 : Ref sig .tc := ⟨.hbm, 164, rfl⟩
abbrev main_while0b_v122 : Ref sig .tc := ⟨.hbm, 165, rfl⟩
abbrev main_while0b_v123 : Ref sig .tc := ⟨.hbm, 166, rfl⟩
abbrev main_while0b_v124 : Ref sig .tc := ⟨.hbm, 167, rfl⟩
abbrev main_while0b_v125 : Ref sig .tc := ⟨.hbm, 168, rfl⟩
abbrev main_while0b_v126 : Ref sig .tc := ⟨.hbm, 169, rfl⟩
abbrev main_while0b_v127 : Ref sig .tc := ⟨.hbm, 170, rfl⟩
abbrev main_while0b_v128 : Ref sig .tc := ⟨.hbm, 171, rfl⟩
abbrev main_while0b_v129 : Ref sig .tc := ⟨.hbm, 172, rfl⟩
abbrev main_while0b_call8_v0 : Ref sig .tc := ⟨.hbm, 173, rfl⟩
abbrev main_while0b_call8_c : Ref sig .tc := ⟨.hbm, 174, rfl⟩
abbrev main_while0b_call8_c_0 : Ref sig .tc := ⟨.hbm, 175, rfl⟩
abbrev main_while0b_call8_c_1 : Ref sig .tc := ⟨.hbm, 176, rfl⟩
abbrev main_while0b_v130 : Ref sig .tc := ⟨.hbm, 177, rfl⟩
abbrev main_while0b_c_19 : Ref sig .tc := ⟨.hbm, 178, rfl⟩
abbrev main_while0b_v131 : Ref sig .tc := ⟨.hbm, 179, rfl⟩
abbrev main_v86 : Ref sig .tc := ⟨.hbm, 180, rfl⟩
abbrev main_v87 : Ref sig .tc := ⟨.hbm, 181, rfl⟩
abbrev main_cst_9 : Ref sig .tc := ⟨.hbm, 182, rfl⟩
abbrev main_v88 : Ref sig .tc := ⟨.hbm, 183, rfl⟩
abbrev main_v89 : Ref sig .tc := ⟨.hbm, 184, rfl⟩
abbrev main_cst_10 : Ref sig .tc := ⟨.hbm, 185, rfl⟩
abbrev main_v90 : Ref sig .tc := ⟨.hbm, 186, rfl⟩
abbrev main_v91 : Ref sig .tc := ⟨.hbm, 187, rfl⟩
abbrev main_cst_11 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_call9_v0 : Ref sig .tc := ⟨.hbm, 202, rfl⟩
abbrev main_call9_v1 : Ref sig .tc := ⟨.hbm, 203, rfl⟩
abbrev main_call9_cst : Ref sig .tc := ⟨.hbm, 204, rfl⟩
abbrev main_call9_v2 : Ref sig .tc := ⟨.hbm, 205, rfl⟩
abbrev main_call9_v3 : Ref sig .tc := ⟨.hbm, 206, rfl⟩
abbrev main_call9_cst_0 : Ref sig .tc := ⟨.hbm, 207, rfl⟩
abbrev main_call9_v4 : Ref sig .tc := ⟨.hbm, 208, rfl⟩
abbrev main_call9_v5 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩

abbrev nD : Nat := 1
abbrev τ : Topo := Topo.v7x

variable {F : FTy → Type} [FloatOps F]

abbrev main_while0_count : Scf.Loop 32 := ⟨0#32, 4096#32, 1#32⟩
-- ==== KernelOut.lean ====
abbrev S16384x1024 : Shape := ⟨2, ![16384, 1024]⟩
abbrev S4x4096x2048 : Shape := ⟨3, ![4, 4096, 2048]⟩
abbrev S1x2048x2048 : Shape := ⟨3, ![1, 2048, 2048]⟩
abbrev S2048 : Shape := ⟨1, ![2048]⟩
abbrev S16384x2048 : Shape := ⟨2, ![16384, 2048]⟩
abbrev S2048x2048 : Shape := ⟨2, ![2048, 2048]⟩
abbrev S1x2048 : Shape := ⟨2, ![1, 2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x2048, .f32⟩
  | .hbm, ⟨3, _⟩ => ⟨S1x2048x2048, .f32⟩
  | .hbm, ⟨4, _⟩ => ⟨S2048, .f32⟩
  | .hbm, ⟨5, _⟩ => ⟨S16384x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutIdeal.lean ====
abbrev S16384x1024 : Shape := ⟨2, ![16384, 1024]⟩
abbrev S4x4096x2048 : Shape := ⟨3, ![4, 4096, 2048]⟩
abbrev S1x2048x2048 : Shape := ⟨3, ![1, 2048, 2048]⟩
abbrev S2048 : Shape := ⟨1, ![2048]⟩
abbrev S16384x2048 : Shape := ⟨2, ![16384, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x2048, .f32⟩
  | .hbm, ⟨3, _⟩ => ⟨S1x2048x2048, .f32⟩
  | .hbm, ⟨4, _⟩ => ⟨S2048, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S16384x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelIn.lean ====
abbrev S4x4096x2048 : Shape := ⟨3, ![4, 4096, 2048]⟩
abbrev S4x4096 : Shape := ⟨2, ![4, 4096]⟩
abbrev S1x2048 : Shape := ⟨2, ![1, 2048]⟩
abbrev S1x2048x7776 : Shape := ⟨3, ![1, 2048, 7776]⟩
abbrev S2048x7776 : Shape := ⟨2, ![2048, 7776]⟩
abbrev S2048x3584 : Shape := ⟨2, ![2048, 3584]⟩
abbrev S2048x16 : Shape := ⟨2, ![2048, 16]⟩
abbrev S2048x80 : Shape := ⟨2, ![2048, 80]⟩
abbrev S_ : Shape := ⟨0, ![]⟩
abbrev S2048x32 : Shape := ⟨2, ![2048, 32]⟩
abbrev S2048x128 : Shape := ⟨2, ![2048, 128]⟩
abbrev S16384x2048 : Shape := ⟨2, ![16384, 2048]⟩
abbrev S2048 : Shape := ⟨1, ![2048]⟩
abbrev S128 : Shape := ⟨1, ![128]⟩
abbrev S16384x1 : Shape := ⟨2, ![16384, 1]⟩
abbrev S1x128 : Shape := ⟨2, ![1, 128]⟩
abbrev S16384x128 : Shape := ⟨2, ![16384, 128]⟩
abbrev S16384x7680 : Shape := ⟨2, ![16384, 7680]⟩
abbrev S16384x64 : Shape := ⟨2, ![16384, 64]⟩
abbrev S256x2048 : Shape := ⟨2, ![256, 2048]⟩
abbrev S2048x4096 : Shape := ⟨2, ![2048, 4096]⟩
abbrev S256x128 : Shape := ⟨2, ![256, 128]⟩
abbrev S256x7680 : Shape := ⟨2, ![256, 7680]⟩
abbrev S256x64 : Shape := ⟨2, ![256, 64]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩

abbrev nBuf : Space → Nat
  | .hbm => 126
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S1x2048, .f32⟩
  | .hbm, ⟨3, _⟩ => ⟨S1x2048x7776, .f32⟩
  | .hbm, ⟨4, _⟩ => ⟨S2048x7776, .f32⟩
  | .hbm, ⟨5, _⟩ => ⟨S2048x7776, .bf16⟩
  | .hbm, ⟨6, _⟩ => ⟨S2048x3584, .bf16⟩
  | .hbm, ⟨7, _⟩ => ⟨S2048x16, .bf16⟩
  | .hbm, ⟨8, _⟩ => ⟨S2048x80, .bf16⟩
  | .hbm, ⟨9, _⟩ => ⟨S_, .bf16⟩
  | .hbm, ⟨10, _⟩ => ⟨S2048x32, .bf16⟩
  | .hbm, ⟨11, _⟩ => ⟨S2048x128, .bf16⟩
  | .hbm, ⟨12, _⟩ => ⟨S16384x2048, .f32⟩
  | .hbm, ⟨13, _⟩ => ⟨S2048, .f32⟩
  | .hbm, ⟨14, _⟩ => ⟨S1x2048, .f32⟩
  | .hbm, ⟨15, _⟩ => ⟨S128, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i1⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S_, .i32⟩
  | .hbm, ⟨31, _⟩ => ⟨S_, .i1⟩
  | .hbm, ⟨32, _⟩ => ⟨S128, .i1⟩
  | .hbm, ⟨33, _⟩ => ⟨S128, .i1⟩
  | .hbm, ⟨34, _⟩ => ⟨S128, .i1⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S_, .i32⟩
  | .hbm, ⟨60, _⟩ => ⟨S_, .i1⟩
  | .hbm, ⟨61, _⟩ => ⟨S128, .i1⟩
  | .hbm, ⟨62, _⟩ => ⟨S128, .i1⟩
  | .hbm, ⟨63, _⟩ => ⟨S128, .i1⟩
  | .hbm, ⟨64, _⟩ => ⟨S128, .i32⟩
  | .hbm, ⟨65, _⟩ => ⟨S128, .i32⟩
  | .hbm, ⟨66, _⟩ => ⟨S128, .i32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S_, .i32⟩
  | .hbm, ⟨75, _⟩ => ⟨S128, .i32⟩
  | .hbm, ⟨76, _⟩ => ⟨S128, .i1⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S_, .i32⟩
  | .hbm, ⟨82, _⟩ => ⟨S128, .i32⟩
  | .hbm, ⟨83, _⟩ => ⟨S128, .i1⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S_, .i32⟩
  | .hbm, ⟨94, _⟩ => ⟨S128, .i32⟩
  | .hbm, ⟨95, _⟩ => ⟨S128, .i1⟩
  | .hbm, ⟨96, _⟩ => ⟨S_, .i32⟩
  | .hbm, ⟨97, _⟩ => ⟨S128, .i32⟩
  | .hbm, ⟨98, _⟩ => ⟨S128, .i1⟩
  | .hbm, ⟨99, _⟩ => ⟨S_, .i32⟩
  | .hbm, ⟨100, _⟩ => ⟨S128, .i32⟩
  | .hbm, ⟨101, _⟩ => ⟨S128, .i32⟩
  | .hbm, ⟨102, _⟩ => ⟨S_, .i32⟩
  | .hbm, ⟨103, _⟩ => ⟨S128, .i32⟩
  | .hbm, ⟨104, _⟩ => ⟨S128, .i1⟩
  | .hbm, ⟨105, _⟩ => ⟨S128, .i1⟩
  | .hbm, ⟨106, _⟩ => ⟨S_, .f32⟩
  | .hbm, ⟨107, _⟩ => ⟨S_, .f32⟩
  | .hbm, ⟨108, _⟩ => ⟨S128, .f32⟩
  | .hbm, ⟨109, _⟩ => ⟨S128, .f32⟩
  | .hbm, ⟨110, _⟩ => ⟨S128, .f32⟩
  | .hbm, ⟨111, _⟩ => ⟨S128, .f32⟩
  | .hbm, ⟨112, _⟩ => ⟨S4x4096, .f32⟩
  | .hbm, ⟨113, _⟩ => ⟨S16384x1, .f32⟩
  | .hbm, ⟨114, _⟩ => ⟨S1x128, .f32⟩
  | .hbm, ⟨115, _⟩ => ⟨S16384x128, .f32⟩
  | .hbm, ⟨116, _⟩ => ⟨S16384x128, .f32⟩
  | .hbm, ⟨117, _⟩ => ⟨S16384x128, .f32⟩
  | .hbm, ⟨118, _⟩ => ⟨S16384x128, .f32⟩
  | .hbm, ⟨119, _⟩ => ⟨S16384x128, .f32⟩
  | .hbm, ⟨120, _⟩ => ⟨S1x128, .f32⟩
  | .hbm, ⟨121, _⟩ => ⟨S16384x128, .f32⟩
  | .hbm, ⟨122, _⟩ => ⟨S16384x128, .f32⟩
  | .hbm, ⟨123, _⟩ => ⟨S16384x7680, .bf16⟩
  | .hbm, ⟨124, _⟩ => ⟨S16384x128, .f32⟩
  | .hbm, ⟨125, _⟩ => ⟨S16384x64, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x4096, .bf16⟩
  | .local _ .vmem, ⟨4, _⟩ => ⟨S2048x3584, .bf16⟩
  | .local _ .vmem, ⟨5, _⟩ => ⟨S2048x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x7680, .bf16⟩
  | .local _ .vmem, ⟨11, _⟩ => ⟨S256x7680, .bf16⟩
  | .local _ .vmem, ⟨12, _⟩ => ⟨S256x128, .f32⟩
  | .local _ .vmem, ⟨13, _⟩ => ⟨S256x128, .f32⟩
  | .local _ .vmem, ⟨14, _⟩ => ⟨S256x64, .bf16⟩
  | .local _ .vmem, ⟨15, _⟩ => ⟨S256x64, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v11 : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_v14 : Ref sig .tc := ⟨.hbm, 41, rfl⟩
abbrev main_cst_1 : Ref sig .tc := ⟨.hbm, 42, rfl⟩
abbrev main_v15 : Ref sig .tc := ⟨.hbm, 43, rfl⟩
abbrev main_v16 : Ref sig .tc := ⟨.hbm, 44, rfl⟩
abbrev main_c_2 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v17 : Ref sig .tc := ⟨.hbm, 66, rfl⟩
abbrev main_v18 : Ref sig .tc := ⟨.hbm, 67, rfl⟩
abbrev main_cst_3 : Ref sig .tc := ⟨.hbm, 68, rfl⟩
abbrev main_v19 : Ref sig .tc := ⟨.hbm, 69, rfl⟩
abbrev main_v20 : Ref sig .tc := ⟨.hbm, 70, rfl⟩
abbrev main_cst_4 : Ref sig .tc := ⟨.hbm, 71, rfl⟩
abbrev main_v21 : Ref sig .tc := ⟨.hbm, 72, rfl⟩
abbrev main_v22 : Ref sig .tc := ⟨.hbm, 73, rfl⟩
abbrev main_c_5 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_cst_6 : Ref sig .tc := ⟨.hbm, 78, rfl⟩
abbrev main_v26 : Ref sig .tc := ⟨.hbm, 79, rfl⟩
abbrev main_v27 : Ref sig .tc := ⟨.hbm, 80, rfl⟩
abbrev main_c_7 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_cst_8 : Ref sig .tc := ⟨.hbm, 85, rfl⟩
abbrev main_v31 : Ref sig .tc := ⟨.hbm, 86, rfl⟩
abbrev main_v32 : Ref sig .tc := ⟨.hbm, 87, rfl⟩
abbrev main_cst_9 : Ref sig .tc := ⟨.hbm, 88, rfl⟩
abbrev main_call2_v0 : Ref sig .tc := ⟨.hbm, 89, rfl⟩
abbrev main_call2_v1 : Ref sig .tc := ⟨.hbm, 90, rfl⟩
abbrev main_v33 : Ref sig .tc := ⟨.hbm, 91, rfl⟩
abbrev main_v34 : Ref sig .tc := ⟨.hbm, 92, rfl⟩
abbrev main_c_10 : Ref sig .tc := ⟨.hbm, 93, rfl⟩
abbrev main_v35 : Ref sig .tc := ⟨.hbm, 94, rfl⟩
abbrev main_v36 : Ref sig .tc := ⟨.hbm, 95, rfl⟩
abbrev main_c_11 : Ref sig .tc := ⟨.hbm, 96, rfl⟩
abbrev main_v37 : Ref sig .tc := ⟨.hbm, 97, rfl⟩
abbrev main_v38 : Ref sig .tc := ⟨.hbm, 98, rfl⟩
abbrev main_c_12 : Ref sig .tc := ⟨.hbm, 99, rfl⟩
abbrev main_v39 : Ref sig .tc := ⟨.hbm, 100, rfl⟩
abbrev main_v40 : Ref sig .tc := ⟨.hbm, 101, rfl⟩
abbrev main_c_13 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_cst_14 : Ref sig .tc := ⟨.hbm, 106, rfl⟩
abbrev main_cst_15 : Ref sig .tc := ⟨.hbm, 107, rfl⟩
abbrev main_call5_v0 : Ref sig .tc := ⟨.hbm, 108, rfl⟩
abbrev main_call5_v1 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57_0 : Ref sig .tc := ⟨.hbm, 123, rfl⟩
abbrev main_v57_1 : Ref sig .tc := ⟨.hbm, 124, rfl⟩
abbrev main_v57_2 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x7680 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceInIdeal.lean ====
abbrev S4x4096x2048 : Shape := ⟨3, ![4, 4096, 2048]⟩
abbrev S4x4096 : Shape := ⟨2, ![4, 4096]⟩
abbrev S1x2048 : Shape := ⟨2, ![1, 2048]⟩
abbrev S1x2048x7776 : Shape := ⟨3, ![1, 2048, 7776]⟩
abbrev S_ : Shape := ⟨0, ![]⟩
abbrev S4x4096x1 : Shape := ⟨3, ![4, 4096, 1]⟩
abbrev S2048 : Shape := ⟨1, ![2048]⟩
abbrev S1x1x2048 : Shape := ⟨3, ![1, 1, 2048]⟩
abbrev S2048x7776 : Shape := ⟨2, ![2048, 7776]⟩
abbrev S4x4096x7776 : Shape := ⟨3, ![4, 4096, 7776]⟩
abbrev S4x4096x4096 : Shape := ⟨3, ![4, 4096, 4096]⟩
abbrev S4x4096x8 : Shape := ⟨3, ![4, 4096, 8]⟩
abbrev S4x4096x1024 : Shape := ⟨3, ![4, 4096, 1024]⟩
abbrev S4x4096x256 : Shape := ⟨3, ![4, 4096, 256]⟩
abbrev S4x4096x64 : Shape := ⟨3, ![4, 4096, 64]⟩
abbrev S4x4096x16 : Shape := ⟨3, ![4, 4096, 16]⟩
abbrev S4x4096x8x128 : Shape := ⟨4, ![4, 4096, 8, 128]⟩
abbrev S16 : Shape := ⟨1, ![16]⟩
abbrev S1x1x16 : Shape := ⟨3, ![1, 1, 16]⟩
abbrev S4x4096x1x16 : Shape := ⟨4, ![4, 4096, 1, 16]⟩
abbrev S4x4096x8x16 : Shape := ⟨4, ![4, 4096, 8, 16]⟩
abbrev S4x4096x8x96 : Shape := ⟨4, ![4, 4096, 8, 96]⟩
abbrev S4x4096x1x64 : Shape := ⟨4, ![4, 4096, 1, 64]⟩
abbrev S8 : Shape := ⟨1, ![8]⟩
abbrev S1x1x8 : Shape := ⟨3, ![1, 1, 8]⟩
abbrev S4x4096x1x8 : Shape := ⟨4, ![4, 4096, 1, 8]⟩
abbrev S4x4096x1x48 : Shape := ⟨4, ![4, 4096, 1, 48]⟩
abbrev S4x4096x16x64 : Shape := ⟨4, ![4, 4096, 16, 64]⟩
abbrev S4x4096x16x8 : Shape := ⟨4, ![4, 4096, 16, 8]⟩
abbrev S4x4096x16x48 : Shape := ⟨4, ![4, 4096, 16, 48]⟩
abbrev S4x4096x2x128 : Shape := ⟨4, ![4, 4096, 2, 128]⟩
abbrev S4x4096x2x16 : Shape := ⟨4, ![4, 4096, 2, 16]⟩
abbrev S4x4096x2x96 : Shape := ⟨4, ![4, 4096, 2, 96]⟩
abbrev S4x4096x7680 : Shape := ⟨3, ![4, 4096, 7680]⟩
abbrev S4x4096x32 : Shape := ⟨3, ![4, 4096, 32]⟩
abbrev S4x4096x128 : Shape := ⟨3, ![4, 4096, 128]⟩
abbrev S16384x7680 : Shape := ⟨2, ![16384, 7680]⟩
abbrev S16384x128 : Shape := ⟨2, ![16384, 128]⟩
abbrev S16384x64 : Shape := ⟨2, ![16384, 64]⟩

abbrev nBuf : Space → Nat
  | .hbm => 193
  | .vmem => 0
  | .smem => 0
  | _ => 0

abbrev hbmTy0_0 (i : Nat) : BufTy := match i % 128 with
  | 0 => ⟨S4x4096x2048, .f32⟩
  | 1 => ⟨S4x4096, .i32⟩
  | 2 => ⟨S1x2048, .f32⟩
  | 3 => ⟨S1x2048x7776, .f32⟩
  | 4 => ⟨S4x4096x2048, .f32⟩
  | 5 => ⟨S_, .f32⟩
  | 6 => ⟨S4x4096, .f32⟩
  | 7 => ⟨S4x4096x1, .f32⟩
  | 8 => ⟨S_, .f32⟩
  | 9 => ⟨S4x4096x1, .f32⟩
  | 10 => ⟨S4x4096x1, .f32⟩
  | 11 => ⟨S_, .f32⟩
  | 12 => ⟨S4x4096x1, .f32⟩
  | 13 => ⟨S4x4096x1, .f32⟩
  | 14 => ⟨S4x4096x1, .f32⟩
  | 15 => ⟨S4x4096x2048, .f32⟩
  | 16 => ⟨S4x4096x2048, .f32⟩
  | 17 => ⟨S2048, .f32⟩
  | 18 => ⟨S1x1x2048, .f32⟩
  | 19 => ⟨S4x4096x2048, .f32⟩
  | 20 => ⟨S4x4096x2048, .f32⟩
  | 21 => ⟨S2048x7776, .f32⟩
  | 22 => ⟨S4x4096x7776, .f32⟩
  | 23 => ⟨S4x4096x4096, .f32⟩
  | 24 => ⟨S4x4096x8, .f32⟩
  | 25 => ⟨S4x4096x8, .f32⟩
  | 26 => ⟨S4x4096x1024, .f32⟩
  | 27 => ⟨S4x4096x256, .f32⟩
  | 28 => ⟨S4x4096x256, .f32⟩
  | 29 => ⟨S4x4096x1024, .f32⟩
  | 30 => ⟨S4x4096x1024, .f32⟩
  | 31 => ⟨S4x4096x64, .f32⟩
  | 32 => ⟨S4x4096x16, .f32⟩
  | 33 => ⟨S4x4096x8x128, .f32⟩
  | 34 => ⟨S16, .i32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S16, .f32⟩
  | 43 => ⟨S_, .f32⟩
  | 44 => ⟨S16, .f32⟩
  | 45 => ⟨S16, .f32⟩
  | 46 => ⟨S4x4096, .f32⟩
  | 47 => ⟨S4x4096x1, .f32⟩
  | 48 => ⟨S1x1x16, .f32⟩
  | 49 => ⟨S4x4096x16, .f32⟩
  | 50 => ⟨S4x4096x16, .f32⟩
  | 51 => ⟨S4x4096x16, .f32⟩
  | 52 => ⟨S4x4096x16, .f32⟩
  | 53 => ⟨S4x4096x1x16, .f32⟩
  | 54 => ⟨S4x4096x16, .f32⟩
  | 55 => ⟨S4x4096x1x16, .f32⟩
  | 56 => ⟨S4x4096x8x16, .f32⟩
  | 57 => ⟨S4x4096x8x16, .f32⟩
  | 58 => ⟨S4x4096x8x96, .f32⟩
  | 59 => ⟨S4x4096x8x16, .f32⟩
  | 60 => ⟨S4x4096x8x16, .f32⟩
  | 61 => ⟨S4x4096x8x16, .f32⟩
  | 62 => ⟨S4x4096x8x16, .f32⟩
  | 63 => ⟨S4x4096x8x16, .f32⟩
  | 64 => ⟨S4x4096x8x16, .f32⟩
  | 65 => ⟨S4x4096x8x16, .f32⟩
  | 66 => ⟨S4x4096x8x16, .f32⟩
  | 67 => ⟨S4x4096x8x16, .f32⟩
  | 68 => ⟨S4x4096x8x16, .f32⟩
  | 69 => ⟨S4x4096x8x128, .f32⟩
  | 70 => ⟨S4x4096x1024, .f32⟩
  | 71 => ⟨S_, .f32⟩
  | 72 => ⟨S4x4096x1024, .f32⟩
  | 73 => ⟨S4x4096x1024, .f32⟩
  | 74 => ⟨S4x4096x1x64, .f32⟩
  | 75 => ⟨S8, .i32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S_, .f32⟩
  | 85 => ⟨S8, .f32⟩
  | 86 => ⟨S8, .f32⟩
  | 87 => ⟨S4x4096, .f32⟩
  | 88 => ⟨S4x4096x1, .f32⟩
  | 89 => ⟨S1x1x8, .f32⟩
  | 90 => ⟨S4x4096x8, .f32⟩
  | 91 => ⟨S4x4096x8, .f32⟩
  | 92 => ⟨S4x4096x8, .f32⟩
  | 93 => ⟨S4x4096x8, .f32⟩
  | 94 => ⟨S4x4096x1x8, .f32⟩
  | 95 => ⟨S4x4096x8, .f32⟩
  | 96 => ⟨S4x4096x1x8, .f32⟩
  | 97 => ⟨S4x4096x1x8, .f32⟩
  | 98 => ⟨S4x4096x1x8, .f32⟩
  | 99 => ⟨S4x4096x1x48, .f32⟩
  | 100 => ⟨S4x4096x1x8, .f32⟩
  | 101 => ⟨S4x4096x1x8, .f32⟩
  | 102 => ⟨S4x4096x1x8, .f32⟩
  | 103 => ⟨S4x4096x1x8, .f32⟩
  | 104 => ⟨S4x4096x1x8, .f32⟩
  | 105 => ⟨S4x4096x1x8, .f32⟩
  | 106 => ⟨S4x4096x1x64, .f32⟩
  | 107 => ⟨S4x4096x64, .f32⟩
  | 108 => ⟨S4x4096x16x64, .f32⟩
  | 109 => ⟨S8, .i32⟩
  | 110 => ⟨S8, .f32⟩
  | 111 => ⟨S_, .f32⟩
  | 112 => ⟨S8, .f32⟩
  | 113 => ⟨S8, .f32⟩
  | 114 => ⟨S_, .f32⟩
  | 115 => ⟨S8, .f32⟩
  | 116 => ⟨S8, .f32⟩
  | 117 => ⟨S8, .f32⟩
  | 118 => ⟨S_, .f32⟩
  | 119 => ⟨S8, .f32⟩
  | 120 => ⟨S8, .f32⟩
  | 121 => ⟨S4x4096, .f32⟩
  | 122 => ⟨S4x4096x1, .f32⟩
  | 123 => ⟨S1x1x8, .f32⟩
  | 124 => ⟨S4x4096x8, .f32⟩
  | 125 => ⟨S4x4096x8, .f32⟩
  | 126 => ⟨S4x4096x8, .f32⟩
  | 127 => ⟨S4x4096x8, .f32⟩
  | _ => ⟨S4x4096x2048, .f32⟩

abbrev hbmTy0_1 (i : Nat) : BufTy := match i % 128 with
  | 0 => ⟨S4x4096x1x8, .f32⟩
  | 1 => ⟨S4x4096x8, .f32⟩
  | 2 => ⟨S4x4096x1x8, .f32⟩
  | 3 => ⟨S4x4096x16x8, .f32⟩
  | 4 => ⟨S4x4096x16x8, .f32⟩
  | 5 => ⟨S4x4096x16x48, .f32⟩
  | 6 => ⟨S4x4096x16x8, .f32⟩
  | 7 => ⟨S4x4096x16x8, .f32⟩
  | 8 => ⟨S4x4096x16x8, .f32⟩
  | 9 => ⟨S4x4096x16x8, .f32⟩
  | 10 => ⟨S4x4096x16x8, .f32⟩
  | 11 => ⟨S4x4096x16x8, .f32⟩
  | 12 => ⟨S4x4096x16x8, .f32⟩
  | 13 => ⟨S4x4096x16x8, .f32⟩
  | 14 => ⟨S4x4096x16x8, .f32⟩
  | 15 => ⟨S4x4096x16x8, .f32⟩
  | 16 => ⟨S4x4096x16x64, .f32⟩
  | 17 => ⟨S4x4096x1024, .f32⟩
  | 18 => ⟨S4x4096x2x128, .f32⟩
  | 19 => ⟨S16, .i32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S16, .f32⟩
  | 28 => ⟨S_, .f32⟩
  | 29 => ⟨S16, .f32⟩
  | 30 => ⟨S16, .f32⟩
  | 31 => ⟨S4x4096, .f32⟩
  | 32 => ⟨S4x4096x1, .f32⟩
  | 33 => ⟨S1x1x16, .f32⟩
  | 34 => ⟨S4x4096x16, .f32⟩
  | 35 => ⟨S4x4096x16, .f32⟩
  | 36 => ⟨S4x4096x16, .f32⟩
  | 37 => ⟨S4x4096x16, .f32⟩
  | 38 => ⟨S4x4096x1x16, .f32⟩
  | 39 => ⟨S4x4096x16, .f32⟩
  | 40 => ⟨S4x4096x1x16, .f32⟩
  | 41 => ⟨S4x4096x2x16, .f32⟩
  | 42 => ⟨S4x4096x2x16, .f32⟩
  | 43 => ⟨S4x4096x2x96, .f32⟩
  | 44 => ⟨S4x4096x2x16, .f32⟩
  | 45 => ⟨S4x4096x2x16, .f32⟩
  | 46 => ⟨S4x4096x2x16, .f32⟩
  | 47 => ⟨S4x4096x2x16, .f32⟩
  | 48 => ⟨S4x4096x2x16, .f32⟩
  | 49 => ⟨S4x4096x2x16, .f32⟩
  | 50 => ⟨S4x4096x2x16, .f32⟩
  | 51 => ⟨S4x4096x2x16, .f32⟩
  | 52 => ⟨S4x4096x2x16, .f32⟩
  | 53 => ⟨S4x4096x2x16, .f32⟩
  | 54 => ⟨S4x4096x2x128, .f32⟩
  | 55 => ⟨S4x4096x256, .f32⟩
  | 56 => ⟨S4x4096x7680, .f32⟩
  | 57 => ⟨S_, .f32⟩
  | 58 => ⟨S4x4096x32, .f32⟩
  | 59 => ⟨S4x4096x128, .f32⟩
  | 60 => ⟨S4x4096x7680, .bf16⟩
  | 61 => ⟨S16384x7680, .bf16⟩
  | 62 => ⟨S16384x128, .f32⟩
  | 63 => ⟨S4x4096x64, .bf16⟩
  | 64 => ⟨S16384x64, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_5 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_6 : Ref sig .tc := ⟨.hbm, 77, rfl⟩
abbrev main_v66 : Ref sig .tc := ⟨.hbm, 78, rfl⟩
abbrev main_v67 : Ref sig .tc := ⟨.hbm, 79, rfl⟩
abbrev main_cst_7 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_8 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_cst_9 : Ref sig .tc := ⟨.hbm, 111, rfl⟩
abbrev main_v97 : Ref sig .tc := ⟨.hbm, 112, rfl⟩
abbrev main_v98 : Ref sig .tc := ⟨.hbm, 113, rfl⟩
abbrev main_cst_10 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_11 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_cst_12 : Ref sig .tc := ⟨.hbm, 149, rfl⟩
abbrev main_v132 : Ref sig .tc := ⟨.hbm, 150, rfl⟩
abbrev main_v133 : Ref sig .tc := ⟨.hbm, 151, rfl⟩
abbrev main_cst_13 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_cst_14 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_cst_15 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩

abbrev nD : Nat := 1
abbrev τ : Topo := Topo.v7x

variable {F : FTy → Type} [FloatOps F]
-- ==== Proof.Math.lean ====
/- The gated delta rule over the real numbers: the token-by-token recurrence, and the chunked form of it. -/
module

public import Mathlib.Analysis.SpecialFunctions.Exp
public import Mathlib.Data.Matrix.Mul
public import Mathlib.Algebra.BigOperators.Fin
public import Mathlib.Tactic.NoncommRing

@[expose] public section

noncomputable section

namespace Cert.Gdn

open Finset Real

/-- The product of two matrices given as functions of natural numbers, over `n` inner places. -/
def mm (n : ℕ) (A B : ℕ → ℕ → ℝ) (i j : ℕ) : ℝ := ∑ k ∈ range n, A i k * B k j

/-- The product of a matrix and the transpose of another. -/
def mmT (n : ℕ) (A B : ℕ → ℕ → ℝ) (i j : ℕ) : ℝ := ∑ k ∈ range n, A i k * B j k

/-- The product of the transpose of a matrix and another. -/
def mTm (n : ℕ) (A B : ℕ → ℕ → ℝ) (i j : ℕ) : ℝ := ∑ k ∈ range n, A k i * B k j

/-- What a token adds along its key: its gate times the value less what the decayed state holds at the key. -/
def uval (d : ℕ) (g b : ℝ) (k v : ℕ → ℝ) (S : ℕ → ℕ → ℝ) (c : ℕ) : ℝ :=
  b * (v c - ∑ x ∈ range d, k x * (S x c * exp g))

/-- One token of the gated delta rule: the state decays, then the token's outer product is added. -/
def dstep (d : ℕ) (g b : ℝ) (k v : ℕ → ℝ) (S : ℕ → ℕ → ℝ) (a c : ℕ) : ℝ :=
  S a c * exp g + k a * uval d g b k v S c

/-- The state after `n` tokens. -/
def drun (d : ℕ) (g b : ℕ → ℝ) (k v : ℕ → ℕ → ℝ) (S : ℕ → ℕ → ℝ) : ℕ → ℕ → ℕ → ℝ
  | 0 => S
  | n + 1 => dstep d (g n) (b n) (k n) (v n) (drun d g b k v S n)

/-- Running `a + n` tokens is running `a` of them and then `n` more. -/
theorem drun_add (d : ℕ) (g b : ℕ → ℝ) (k v : ℕ → ℕ → ℝ) (S : ℕ → ℕ → ℝ) (a n : ℕ) :
    drun d g b k v S (a + n) =
      drun d (fun i => g (a + i)) (fun i => b (a + i)) (fun i => k (a + i)) (fun i => v (a + i)) (drun d g b k v S a) n := by
  induction n with
  | zero => rfl
  | succ n ih => rw [← add_assoc]; simp only [drun, ih]

/-- The running sum of the gates' logarithms, the token's own included. -/
def GI (g : ℕ → ℝ) (i : ℕ) : ℝ := ∑ l ∈ range (i + 1), g l

/-- The decay from token `j` to token `i`, zero where `j` comes after `i`. -/
def DEC (G : ℕ → ℝ) (i j : ℕ) : ℝ := if j ≤ i then exp (if j ≤ i then G i - G j else 0) else 0

/-- Minus the strictly lower triangle of the chunk's system. -/
def XM (d : ℕ) (G b : ℕ → ℝ) (k : ℕ → ℕ → ℝ) (i j : ℕ) : ℝ :=
  -(if j < i then b i * mmT d k k i j * DEC G i j else 0)

/-- The identity. -/
def EYE (i j : ℕ) : ℝ := if i = j then 1 else 0

/-- The inverse of one minus a matrix, by repeated squaring: the product's first `m + 1` factors. -/
def TN (n : ℕ) (X : ℕ → ℕ → ℝ) : ℕ → (ℕ → ℕ → ℝ) × (ℕ → ℕ → ℝ)
  | 0 => (fun i j => EYE i j + X i j, mm n X X)
  | m + 1 => (fun i j => (TN n X m).1 i j + mm n (TN n X m).1 (TN n X m).2 i j, mm n (TN n X m).2 (TN n X m).2)

/-- The inverse for a chunk: six factors. -/
def TM (n : ℕ) (X : ℕ → ℕ → ℝ) : ℕ → ℕ → ℝ := (TN n X 5).1

/-- A corner of a function of two natural numbers as a matrix. -/
def mat (n m : ℕ) (A : ℕ → ℕ → ℝ) : Matrix (Fin n) (Fin m) ℝ := fun i j => A i j

theorem mat_mm (a n m : ℕ) (A B : ℕ → ℕ → ℝ) : mat a m (mm n A B) = mat a n A * mat n m B := by
  funext i j
  simp only [mat, mm, Matrix.mul_apply, Finset.sum_range]

theorem mat_EYE (n : ℕ) : mat n n EYE = 1 := by
  funext i j
  simp [mat, EYE, Matrix.one_apply, Fin.ext_iff]

theorem mat_add (n m : ℕ) (A B : ℕ → ℕ → ℝ) : mat n m (fun i j => A i j + B i j) = mat n m A + mat n m B := rfl
theorem mat_sub (n m : ℕ) (A B : ℕ → ℕ → ℝ) : mat n m (fun i j => A i j - B i j) = mat n m A - mat n m B := rfl

/-- The partial products times one minus the matrix. -/
theorem TN_spec (n : ℕ) (X : ℕ → ℕ → ℝ) (m : ℕ) :
    mat n n (TN n X m).1 * (1 - mat n n X) = 1 - mat n n X ^ 2 ^ (m + 1) ∧ mat n n (TN n X m).2 = mat n n X ^ 2 ^ (m + 1) := by
  induction m with
  | zero =>
    refine ⟨?_, ?_⟩
    · simp only [TN, mat_add, mat_EYE]; rw [zero_add, pow_one, pow_two]; noncomm_ring
    · simp only [TN, mat_mm]; rw [zero_add, pow_one, pow_two]
  | succ m ih =>
    obtain ⟨h1, h2⟩ := ih
    refine ⟨?_, ?_⟩
    · simp only [TN, mat_add, mat_mm]
      have hc : mat n n X ^ 2 ^ (m + 1) * (1 - mat n n X) = (1 - mat n n X) * mat n n X ^ 2 ^ (m + 1) :=
        (((Commute.one_right _).sub_right (Commute.refl _)).pow_left _)
      rw [h2, add_mul, mul_assoc, hc, ← mul_assoc, h1, pow_succ 2 (m + 1), pow_mul]
      noncomm_ring
    · simp only [TN, mat_mm]
      rw [h2, ← pow_add]; congr 1; ring

/-- A power of a strictly lower triangular matrix vanishes near the diagonal. -/
theorem pow_lower (n : ℕ) (X : Matrix (Fin n) (Fin n) ℝ) (hX : ∀ i j : Fin n, i.val ≤ j.val → X i j = 0) (p : ℕ) :
    ∀ i j : Fin n, i.val < j.val + p → (X ^ p) i j = 0 := by
  induction p with
  | zero => intro i j h; rw [pow_zero, Matrix.one_apply_ne]; intro e; subst e; omega
  | succ p ih =>
    intro i j h
    rw [pow_succ, Matrix.mul_apply]
    refine Finset.sum_eq_zero fun k _ => ?_
    by_cases hk : i.val < k.val + p
    · rw [ih i k hk, zero_mul]
    · rw [hX k j (by omega), mul_zero]

/-- The chunk's inverse, times one minus the strictly lower triangular matrix, is the identity. -/
theorem TM_spec (X : ℕ → ℕ → ℝ) (hX : ∀ i j, i ≤ j → X i j = 0) :
    mat 64 64 (TM 64 X) * (1 - mat 64 64 X) = 1 := by
  have h := (TN_spec 64 X 5).1
  rw [TM, h, sub_eq_self]
  funext i j
  exact pow_lower 64 _ (fun i j h => hX i j h) _ i j (by have := i.isLt; norm_num; omega)

section chunk
variable (d : ℕ) (g b : ℕ → ℝ) (k v q : ℕ → ℕ → ℝ) (S : ℕ → ℕ → ℝ)

/-- What token `n` adds along its key, in the run. -/
def UU (n c : ℕ) : ℝ := uval d (g n) (b n) (k n) (v n) (drun d g b k v S n) c

/-- The state after `n` tokens, unrolled. -/
theorem drun_closed (n a c : ℕ) : drun d g b k v S n a c =
    exp (∑ l ∈ range n, g l) * S a c + ∑ j ∈ range n, exp (∑ l ∈ range n, g l - GI g j) * k j a * UU d g b k v S j c := by
  induction n with
  | zero => simp [drun]
  | succ n ih =>
    have e : drun d g b k v S (n + 1) a c = drun d g b k v S n a c * exp (g n) + k n a * UU d g b k v S n c := rfl
    rw [e, ih, Finset.sum_range_succ (fun j => exp (∑ l ∈ range (n + 1), g l - GI g j) * k j a * UU d g b k v S j c)]
    have e2 : ∑ l ∈ range (n + 1), g l - GI g n = 0 := by simp [GI]
    rw [e2, exp_zero, one_mul, Finset.sum_range_succ g, exp_add, add_mul, Finset.sum_mul, ← add_assoc]
    congr 1; congr 1
    · ring
    · refine Finset.sum_congr rfl fun j _ => ?_
      rw [show ∑ l ∈ range n, g l + g n - GI g j = (∑ l ∈ range n, g l - GI g j) + g n by ring, exp_add]; ring

/-- What the keys' rows, each decayed to token `i`, meet of a row. -/
theorem row_drun (r : ℕ → ℝ) (i c : ℕ) : ∑ x ∈ range d, r x * drun d g b k v S (i + 1) x c =
    exp (GI g i) * ∑ x ∈ range d, r x * S x c +
      ∑ j ∈ range (i + 1), (∑ x ∈ range d, r x * k j x) * exp (GI g i - GI g j) * UU d g b k v S j c := by
  simp only [drun_closed, mul_add, Finset.sum_add_distrib, Finset.mul_sum, Finset.sum_mul]
  congr 1
  · exact Finset.sum_congr rfl fun x _ => by simp only [GI]; ring
  · rw [Finset.sum_comm]
    exact Finset.sum_congr rfl fun j _ => Finset.sum_congr rfl fun x _ => by simp only [GI]; ring

theorem row_drun' (r : ℕ → ℝ) (i c : ℕ) : ∑ x ∈ range d, r x * (drun d g b k v S i x c * exp (g i)) =
    exp (GI g i) * ∑ x ∈ range d, r x * S x c +
      ∑ j ∈ range i, (∑ x ∈ range d, r x * k j x) * exp (GI g i - GI g j) * UU d g b k v S j c := by
  have e := row_drun d g b k v S r i c
  rw [Finset.sum_range_succ] at e
  have h : ∀ x, drun d g b k v S (i + 1) x c = drun d g b k v S i x c * exp (g i) + k i x * UU d g b k v S i c := fun _ => rfl
  simp only [h, mul_add, Finset.sum_add_distrib] at e
  rw [sub_self, exp_zero, mul_one, ← add_assoc] at e
  have e3 : ∑ x ∈ range d, r x * (k i x * UU d g b k v S i c) = (∑ x ∈ range d, r x * k i x) * UU d g b k v S i c := by
    rw [Finset.sum_mul]; exact Finset.sum_congr rfl fun x _ => by ring
  rw [e3] at e
  exact add_right_cancel e

theorem sum_lt (n i : ℕ) (h : i ≤ n) (f : ℕ → ℝ) : ∑ j ∈ range i, f j = ∑ j ∈ range n, if j < i then f j else 0 := by
  rw [← Finset.sum_filter]
  refine Finset.sum_congr ?_ fun _ _ => rfl
  ext x; simp only [mem_range, mem_filter]; omega

/-- The chunk's triangular system. -/
theorem UU_system (i c : ℕ) (hi : i < 64) : UU d g b k v S i c =
    (v i c * b i - mm d (fun i x => k i x * (b i * exp (GI g i))) S i c) + mm 64 (XM d (GI g) b k) (UU d g b k v S) i c := by
  have e : UU d g b k v S i c = b i * (v i c - ∑ x ∈ range d, k i x * (drun d g b k v S i x c * exp (g i))) := rfl
  rw [e, row_drun', sum_lt 64 i hi.le, mul_sub, mul_add, sub_add_eq_sub_sub, sub_eq_add_neg (_ - _)]
  congr 1
  · congr 1
    · ring
    · simp only [mm, Finset.mul_sum]; exact Finset.sum_congr rfl fun x _ => by ring
  · simp only [mm, Finset.mul_sum, ← Finset.sum_neg_distrib]
    refine Finset.sum_congr rfl fun j _ => ?_
    simp only [XM, DEC, mmT]
    by_cases h : j < i
    · simp only [h, h.le, if_true]; ring
    · simp [h]

/-- The two products of the chunk's inverse: with the decayed keys, and with the values. -/
def WM : ℕ → ℕ → ℝ := mm 64 (TM 64 (XM d (GI g) b k)) (fun i x => k i x * (b i * exp (GI g i)))
def UM : ℕ → ℕ → ℝ := mm 64 (TM 64 (XM d (GI g) b k)) (fun i c => v i c * b i)

theorem UU_solved (m : ℕ) : mat 64 m (UU d g b k v S) =
    mat 64 m (UM d g b k v) - mat 64 d (WM d g b k) * mat d m S := by
  have hs : mat 64 m (UU d g b k v S) =
      (mat 64 m (fun i c => v i c * b i) - mat 64 d (fun i x => k i x * (b i * exp (GI g i))) * mat d m S)
        + mat 64 64 (XM d (GI g) b k) * mat 64 m (UU d g b k v S) := by
    rw [← mat_mm, ← mat_mm]; funext i c; exact UU_system d g b k v S i c i.isLt
  have hT := TM_spec (XM d (GI g) b k) (fun i j h => by simp [XM, not_lt.mpr h])
  rw [UM, WM, mat_mm, mat_mm, Matrix.mul_assoc, ← Matrix.mul_sub]
  have h2 : (1 - mat 64 64 (XM d (GI g) b k)) * mat 64 m (UU d g b k v S) =
      mat 64 m (fun i c => v i c * b i) - mat 64 d (fun i x => k i x * (b i * exp (GI g i))) * mat d m S := by
    rw [Matrix.sub_mul, Matrix.one_mul]; exact sub_eq_iff_eq_add.mpr hs
  rw [← h2, ← Matrix.mul_assoc, hT, Matrix.one_mul]

theorem UU_solved_apply (i c : ℕ) (hi : i < 64) : UU d g b k v S i c = UM d g b k v i c - mm d (WM d g b k) S i c := by
  have h := congrFun (congrFun (UU_solved d g b k v S (c + 1)) ⟨i, hi⟩) ⟨c, Nat.lt_succ_self c⟩
  rw [← mat_mm] at h
  exact h

/-- A product with the solved system, split. -/
theorem mm_split (A : ℕ → ℕ → ℝ) (i c : ℕ) : ∑ j ∈ range 64, A i j * UU d g b k v S j c =
    mm 64 A (UM d g b k v) i c - mm d (mm 64 A (WM d g b k)) S i c := by
  have h1 : ∑ j ∈ range 64, A i j * UU d g b k v S j c =
      ∑ j ∈ range 64, A i j * (UM d g b k v j c - mm d (WM d g b k) S j c) :=
    Finset.sum_congr rfl fun j hj => by rw [UU_solved_apply d g b k v S j c (mem_range.mp hj)]
  rw [h1]
  simp only [mul_sub, Finset.sum_sub_distrib]
  congr 1
  simp only [mm, Finset.mul_sum, Finset.sum_mul]
  rw [Finset.sum_comm]
  exact Finset.sum_congr rfl fun x _ => Finset.sum_congr rfl fun j _ => by ring

/-- A chunk's outputs: the query meets the state after its token. -/
theorem chunk_out (i c : ℕ) (hi : i < 64) :
    mm d (fun i x => q i x * exp (GI g i) - mm 64 (fun i j => mmT d q k i j * DEC (GI g) i j) (WM d g b k) i x) S i c
      + mm 64 (fun i j => mmT d q k i j * DEC (GI g) i j) (UM d g b k v) i c
      = ∑ x ∈ range d, q i x * drun d g b k v S (i + 1) x c := by
  rw [row_drun, sum_lt 64 (i + 1) hi]
  have h1 : (∑ j ∈ range 64, if j < i + 1 then (∑ x ∈ range d, q i x * k j x) * exp (GI g i - GI g j) * UU d g b k v S j c else 0)
      = ∑ j ∈ range 64, (fun i j => mmT d q k i j * DEC (GI g) i j) i j * UU d g b k v S j c :=
    Finset.sum_congr rfl fun j _ => by
      simp only [DEC, mmT, Nat.lt_succ_iff]
      by_cases h : j ≤ i
      · simp [h]
      · simp [h]
  rw [h1, mm_split d g b k v S (fun i j => mmT d q k i j * DEC (GI g) i j)]
  have h2 : mm d (fun i x => q i x * exp (GI g i) - mm 64 (fun i j => mmT d q k i j * DEC (GI g) i j) (WM d g b k) i x) S i c =
      exp (GI g i) * ∑ x ∈ range d, q i x * S x c - mm d (mm 64 (fun i j => mmT d q k i j * DEC (GI g) i j) (WM d g b k)) S i c := by
    simp only [mm, sub_mul, Finset.sum_sub_distrib, Finset.mul_sum]
    congr 1
    exact Finset.sum_congr rfl fun x _ => by ring
  rw [h2]; ring

/-- The state after a chunk. -/
theorem chunk_state (a c : ℕ) :
    S a c * exp (GI g 63) - mm d (mTm 64 (fun i x => k i x * exp (GI g 63 - GI g i)) (WM d g b k)) S a c
      + mTm 64 (fun i x => k i x * exp (GI g 63 - GI g i)) (UM d g b k v) a c
      = drun d g b k v S 64 a c := by
  rw [drun_closed]
  have h1 : (∑ j ∈ range 64, exp (∑ l ∈ range 64, g l - GI g j) * k j a * UU d g b k v S j c)
      = ∑ j ∈ range 64, (fun a j => k j a * exp (GI g 63 - GI g j)) a j * UU d g b k v S j c :=
    Finset.sum_congr rfl fun j _ => by simp only [GI]; ring
  rw [h1, mm_split d g b k v S (fun a j => k j a * exp (GI g 63 - GI g j))]
  have e : ∀ B, mm 64 (fun a j => k j a * exp (GI g 63 - GI g j)) B = mTm 64 (fun i x => k i x * exp (GI g 63 - GI g i)) B := fun _ => rfl
  rw [e, e]
  simp only [GI]; ring

end chunk

end Cert.Gdn
-- ==== Proof.Vec.lean ====
/- The kernel's vector operations on vectors of real numbers, each as a formula on functions of natural numbers. -/
module

public import Idealize.ShloMosaic.Lib.Pipeline.Value
public import Idealize.ShloMosaic.Lib.MatmulPlain
public import Idealize.ShloMosaic.Lib.Pointwise
public import proofs.«01_k».proof.Proof.Math

@[expose] public section

noncomputable section

namespace Cert.Gdn

open Idealize.ShloMosaic Finset

/-- A one-axis vector of real numbers, from a function of the coordinate. -/
def c1 {a : ℕ} {φ : FTy} (f : ℕ → ℝ) : FVec Ideal ⟨1, ![a]⟩ φ := fun i => ((f (i 0).val : ℝ) : EReal)

/-- A two-axis vector of real numbers, from a function of the coordinates. -/
def c2 {a b : ℕ} {φ : FTy} (A : ℕ → ℕ → ℝ) : FVec Ideal ⟨2, ![a, b]⟩ φ := fun i => ((A (i 0).val (i 1).val : ℝ) : EReal)

/-- A three-axis vector of real numbers, from a function of the coordinates. -/
def c3 {a b c : ℕ} {φ : FTy} (A : ℕ → ℕ → ℕ → ℝ) : FVec Ideal ⟨3, ![a, b, c]⟩ φ :=
  fun i => ((A (i 0).val (i 1).val (i 2).val : ℝ) : EReal)

variable {a b c a' b' n : ℕ} {φ ψ : FTy}

/-- Two functions equal in the vector's range give the same vector. -/
theorem c2_congr {A B : ℕ → ℕ → ℝ} (h : ∀ i < a, ∀ j < b, A i j = B i j) : (c2 A : FVec Ideal ⟨2, ![a, b]⟩ φ) = c2 B :=
  funext fun i => congrArg _ (h _ (i 0).isLt _ (i 1).isLt)

/-- The three-axis form. -/
theorem c3_congr {A B : ℕ → ℕ → ℕ → ℝ} (h : ∀ i < a, ∀ j < b, ∀ k < c, A i j k = B i j k) :
    (c3 A : FVec Ideal ⟨3, ![a, b, c]⟩ φ) = c3 B :=
  funext fun i => congrArg _ (h _ (i 0).isLt _ (i 1).isLt _ (i 2).isLt)

/-! ### Elementwise -/

theorem addf_c2 (A B : ℕ → ℕ → ℝ) :
    addf (c2 A : FVec Ideal ⟨2, ![a, b]⟩ φ) (c2 B) = c2 fun i j => A i j + B i j :=
  funext fun _ => (EReal.coe_add _ _).symm

theorem subf_c2 (A B : ℕ → ℕ → ℝ) :
    subf (c2 A : FVec Ideal ⟨2, ![a, b]⟩ φ) (c2 B) = c2 fun i j => A i j - B i j :=
  funext fun _ => (EReal.coe_sub _ _).symm

theorem mulf_c2 (A B : ℕ → ℕ → ℝ) :
    mulf (c2 A : FVec Ideal ⟨2, ![a, b]⟩ φ) (c2 B) = c2 fun i j => A i j * B i j :=
  funext fun _ => (EReal.coe_mul _ _).symm

theorem divf_c2 (A B : ℕ → ℕ → ℝ) (h : ∀ i j, B i j ≠ 0) :
    divf (c2 A : FVec Ideal ⟨2, ![a, b]⟩ φ) (c2 B) = c2 fun i j => A i j / B i j :=
  funext fun i => by
    show Ideal.div ((A _ _ : ℝ) : EReal) ((B _ _ : ℝ) : EReal) = ((A _ _ / B _ _ : ℝ) : EReal)
    rw [Ideal.div_coe (h _ _), ← EReal.coe_mul]; congr 1; ring

theorem exp_c2 (A : ℕ → ℕ → ℝ) : exp (c2 A : FVec Ideal ⟨2, ![a, b]⟩ φ) = c2 fun i j => Real.exp (A i j) := rfl

theorem log_c2 (A : ℕ → ℕ → ℝ) (h : ∀ i j, 0 < A i j) :
    log (c2 A : FVec Ideal ⟨2, ![a, b]⟩ φ) = c2 fun i j => Real.log (A i j) :=
  funext fun i => by
    show Ideal.log ((A _ _ : ℝ) : EReal) = _
    rw [Ideal.log_coe, if_neg (not_le.2 (h _ _))]; rfl

theorem rsqrt_c2 (A : ℕ → ℕ → ℝ) (h : ∀ i j, 0 < A i j) :
    rsqrt (c2 A : FVec Ideal ⟨2, ![a, b]⟩ φ) = c2 fun i j => (Real.sqrt (A i j))⁻¹ :=
  funext fun i => by
    show Ideal.rsqrt ((A _ _ : ℝ) : EReal) = _
    rw [Ideal.rsqrt_coe, if_neg (not_lt.2 (h _ _).le), if_neg (h _ _).ne']; rfl

theorem maximumf_c2 (A B : ℕ → ℕ → ℝ) :
    maximumf (c2 A : FVec Ideal ⟨2, ![a, b]⟩ φ) (c2 B) = c2 fun i j => max (A i j) (B i j) :=
  funext fun _ => (EReal.coe_strictMono.monotone.map_max).symm

theorem absf_c2 (A : ℕ → ℕ → ℝ) : absf (c2 A : FVec Ideal ⟨2, ![a, b]⟩ φ) = c2 fun i j => |A i j| :=
  funext fun i => by
    show (max ((A _ _ : ℝ) : EReal) (-((A _ _ : ℝ) : EReal))) = _
    rw [← EReal.coe_neg, ← EReal.coe_strictMono.monotone.map_max]; rfl

theorem extf_c2 (A : ℕ → ℕ → ℝ) (h : φ.bits < ψ.bits) : extf ψ (c2 A : FVec Ideal ⟨2, ![a, b]⟩ φ) h = c2 A := rfl
theorem truncf_c2 (A : ℕ → ℕ → ℝ) (h : ψ.bits < φ.bits) : truncf ψ (c2 A : FVec Ideal ⟨2, ![a, b]⟩ φ) h = c2 A := rfl

theorem broadcast_c2 (w : BitVec φ.bits) (x : ℝ) (h : Ideal.ofBits φ w = (x : EReal)) :
    (broadcast ⟨2, ![a, b]⟩ (Scalar.ofBits φ w : Ideal φ) : FVec Ideal ⟨2, ![a, b]⟩ φ) = c2 fun _ _ => x :=
  funext fun _ => h

theorem constant_c2 (w : BitVec φ.bits) (x : ℝ) (h : Ideal.ofBits φ w = (x : EReal)) :
    (constant ⟨2, ![a, b]⟩ φ w : FVec Ideal ⟨2, ![a, b]⟩ φ) = c2 fun _ _ => x :=
  funext fun _ => h

/-! ### Slices, broadcasts, concatenations, transposes -/

theorem slice_c2 (A : ℕ → ℕ → ℝ) (o p : ℕ) (h : Shape.Slices ⟨2, ![a, b]⟩ ![o, p] ⟨2, ![a', b']⟩) :
    extractStridedSlice ⟨2, ![a', b']⟩ ![o, p] (c2 A : FVec Ideal ⟨2, ![a, b]⟩ φ) h = (c2 (fun i j => A (o + i) (p + j)) : FVec Ideal _ φ) :=
  rfl

theorem bcol_c2 (A : ℕ → ℕ → ℝ) (hb : a ≠ 1) (h : Shape.Broadcasts ⟨2, ![a, 1]⟩ ⟨2, ![a, b]⟩) :
    broadcastTo ⟨2, ![a, b]⟩ (c2 A : FVec Ideal ⟨2, ![a, 1]⟩ φ) h = (c2 (fun i _ => A i 0) : FVec Ideal _ φ) := by
  funext j
  refine (broadcastTo_apply _ h j (ValueIdx.ix2 (j 0) 0) fun x => ?_).trans rfl
  match x with
  | ⟨0, _⟩ => exact (if_neg hb).symm
  | ⟨1, _⟩ => rfl

theorem brow_c2 (A : ℕ → ℕ → ℝ) (hb : b ≠ 1) (h : Shape.Broadcasts ⟨2, ![1, b]⟩ ⟨2, ![a, b]⟩) :
    broadcastTo ⟨2, ![a, b]⟩ (c2 A : FVec Ideal ⟨2, ![1, b]⟩ φ) h = (c2 (fun _ j => A 0 j) : FVec Ideal _ φ) := by
  funext j
  refine (broadcastTo_apply _ h j (ValueIdx.ix2 0 (j 1)) fun x => ?_).trans rfl
  match x with
  | ⟨0, _⟩ => rfl
  | ⟨1, _⟩ => exact (if_neg hb).symm

theorem concat0_c2 (A B : ℕ → ℕ → ℝ)
    (h : Shape.Concatenates [⟨2, ![a, b]⟩, ⟨2, ![a', b]⟩] ⟨2, ![n, b]⟩ 0) :
    concatenate ⟨2, ![n, b]⟩ 0 [⟨⟨2, ![a, b]⟩, (c2 A : FVec Ideal ⟨2, ![a, b]⟩ φ)⟩, ⟨⟨2, ![a', b]⟩, (c2 B : FVec Ideal ⟨2, ![a', b]⟩ φ)⟩] h
      = (c2 (fun i j => if i < a then A i j else B (i - a) j) : FVec Ideal _ φ) := by
  funext j
  rw [concatenate_pair_apply]
  by_cases hlt : (j 0).val < a
  · refine (dif_pos hlt).trans ?_
    show _ = (((if (j 0).val < a then _ else _ : ℝ)) : EReal)
    rw [if_pos hlt]; rfl
  · refine (dif_neg hlt).trans ?_
    show _ = (((if (j 0).val < a then _ else _ : ℝ)) : EReal)
    rw [if_neg hlt]; rfl

theorem concat1_c2 (A B : ℕ → ℕ → ℝ)
    (h : Shape.Concatenates [⟨2, ![a, b]⟩, ⟨2, ![a, b']⟩] ⟨2, ![a, n]⟩ 1) :
    concatenate ⟨2, ![a, n]⟩ 1 [⟨⟨2, ![a, b]⟩, (c2 A : FVec Ideal ⟨2, ![a, b]⟩ φ)⟩, ⟨⟨2, ![a, b']⟩, (c2 B : FVec Ideal ⟨2, ![a, b']⟩ φ)⟩] h
      = (c2 (fun i j => if j < b then A i j else B i (j - b)) : FVec Ideal _ φ) := by
  funext j
  rw [concatenate_pair_apply]
  by_cases hlt : (j 1).val < b
  · refine (dif_pos hlt).trans ?_
    show _ = (((if (j 1).val < b then _ else _ : ℝ)) : EReal)
    rw [if_pos hlt]; rfl
  · refine (dif_neg hlt).trans ?_
    show _ = (((if (j 1).val < b then _ else _ : ℝ)) : EReal)
    rw [if_neg hlt]; rfl

theorem transpose_c2 (A : ℕ → ℕ → ℝ) (h : Shape.Transposes ⟨2, ![a, b]⟩ [1, 0] ⟨2, ![b, a]⟩) :
    transpose ⟨2, ![b, a]⟩ [1, 0] (c2 A : FVec Ideal ⟨2, ![a, b]⟩ φ) h = (c2 (fun i j => A j i) : FVec Ideal _ φ) := by
  funext j
  refine (transpose_apply _ _ h j (ValueIdx.ix2 (j 1) (j 0)) fun x => ?_).trans rfl
  match x with
  | ⟨0, _⟩ => rfl
  | ⟨1, _⟩ => rfl

/-- A rotation along the second axis by `k` reads `k` places before, around the end. -/
theorem rotate_c2 (A : ℕ → ℕ → ℝ) (k : BitVec 32) (h : Shape.Rotates ⟨2, ![a, b]⟩ 1 none) :
    dynamicRotate 1 k none (c2 A : FVec Ideal ⟨2, ![a, b]⟩ φ) h = c2 fun i j => A i ((j + b - k.toNat % b) % b) := by
  funext j
  rw [Pointwise.dynamicRotate_apply]
  show ((A _ _ : ℝ) : EReal) = _
  rfl

/-! ### Masks -/

theorem cmp_lt {x y : ℕ} (hx : x < 2 ^ 31) (hy : y < 2 ^ 31) :
    (BitVec.ofNat 32 x).slt (BitVec.ofNat 32 y) = decide (x < y) := by
  have e : ∀ z, z < 2 ^ 31 → (BitVec.ofNat 32 z).toInt = z := fun z hz => by
    rw [BitVec.toInt_eq_toNat_of_lt (by rw [BitVec.toNat_ofNat]; omega), BitVec.toNat_ofNat]; omega
  rw [BitVec.slt, e x hx, e y hy]; simp

theorem cmp_le {x y : ℕ} (hx : x < 2 ^ 31) (hy : y < 2 ^ 31) :
    (BitVec.ofNat 32 x).sle (BitVec.ofNat 32 y) = decide (x ≤ y) := by
  have e : ∀ z, z < 2 ^ 31 → (BitVec.ofNat 32 z).toInt = z := fun z hz => by
    rw [BitVec.toInt_eq_toNat_of_lt (by rw [BitVec.toNat_ofNat]; omega), BitVec.toNat_ofNat]; omega
  rw [BitVec.sle, e x hx, e y hy]; simp

/-- A choice by a mask that holds where `p` does. -/
theorem select_c2 (m : IVec ⟨2, ![a, b]⟩ 1) (p : ℕ → ℕ → Prop) [∀ i j, Decidable (p i j)]
    (hm : ∀ i : (⟨2, ![a, b]⟩ : Shape).Idx, m i = BitVec.ofBool (decide (p (i 0).val (i 1).val))) (A B : ℕ → ℕ → ℝ) :
    select m (c2 A : FVec Ideal ⟨2, ![a, b]⟩ φ) (c2 B) = c2 fun i j => if p i j then A i j else B i j := by
  funext i
  rw [ValueIdx.select_apply, hm]
  show _ = (((if p (i 0).val (i 1).val then _ else _ : ℝ)) : EReal)
  by_cases h : p (i 0).val (i 1).val
  · simp only [h, decide_true, if_true]; rfl
  · simp only [h, decide_false, if_false]; rfl

/-! ### Products and sums -/

theorem coe_sum (s : Finset ℕ) (f : ℕ → ℝ) : (∑ k ∈ s, ((f k : ℝ) : EReal)) = ((∑ k ∈ s, f k : ℝ) : EReal) := by
  induction s using Finset.induction_on with
  | empty => simp
  | insert x s hx ih => rw [Finset.sum_insert hx, Finset.sum_insert hx, ih, EReal.coe_add]

theorem coe_sum_fin (n : ℕ) (f : ℕ → ℝ) : (∑ k : Fin n, ((f k.val : ℝ) : EReal)) = ((∑ k ∈ range n, f k : ℝ) : EReal) := by
  rw [← coe_sum, Finset.sum_range]

/-- `[M,K] × [K,N]` from a zero accumulator. -/
theorem matmul_c2 {M K N : ℕ} (prec : Option ContractPrecision) (A B C : ℕ → ℕ → ℝ) (hC : ∀ i j, C i j = 0) :
    matmul (DotDims.plain M K N) prec (c2 A : FVec Ideal ⟨2, ![M, K]⟩ φ) (c2 B : FVec Ideal ⟨2, ![K, N]⟩ ψ) (c2 C)
      = c2 (mm K A B) := by
  funext j
  rw [ValueIdx.eq_ix2 j]
  refine (Ideal.matmul_plain_apply prec _ _ _ _ _).trans ?_
  show ((C _ _ : ℝ) : EReal) + ∑ k : Fin K, ((A _ k.val : ℝ) : EReal) * ((B k.val _ : ℝ) : EReal) = ((mm K A B _ _ : ℝ) : EReal)
  simp only [hC, EReal.coe_zero, zero_add, ← EReal.coe_mul]
  exact coe_sum_fin K fun k => A (j 0).val k * B k (j 1).val

/-- `[M,K] × [N,K]ᵀ` from a zero accumulator. -/
theorem matmulT_c2 {M K N : ℕ} (prec : Option ContractPrecision) (A B C : ℕ → ℕ → ℝ) (hC : ∀ i j, C i j = 0) :
    matmul (DotDims.transposedRhs M K N) prec (c2 A : FVec Ideal ⟨2, ![M, K]⟩ φ) (c2 B : FVec Ideal ⟨2, ![N, K]⟩ ψ) (c2 C)
      = c2 (mmT K A B) := by
  funext j
  rw [ValueIdx.eq_ix2 j]
  refine (Ideal.matmul_transposedRhs_apply prec _ _ _ _ _).trans ?_
  show ((C _ _ : ℝ) : EReal) + ∑ k : Fin K, ((A _ k.val : ℝ) : EReal) * ((B _ k.val : ℝ) : EReal) = ((mmT K A B _ _ : ℝ) : EReal)
  simp only [hC, EReal.coe_zero, zero_add, ← EReal.coe_mul]
  exact coe_sum_fin K fun k => A (j 0).val k * B (j 1).val k

/-- The dimension numbers of `[K,M]ᵀ × [K,N]`. -/
def TDims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [], by simpa [List.finRange] using List.Perm.swap 0 1 [],
    rfl, Nat.two_pos, fun b => by fin_cases b <;> rfl⟩

/-- `[K,M]ᵀ × [K,N]` from a zero accumulator. -/
theorem Tmatmul_c2 {M K N : ℕ} (prec : Option ContractPrecision) (A B C : ℕ → ℕ → ℝ) (hC : ∀ i j, C i j = 0) :
    matmul (TDims K M N) prec (c2 A : FVec Ideal ⟨2, ![K, M]⟩ φ) (c2 B : FVec Ideal ⟨2, ![K, N]⟩ ψ) (c2 C)
      = c2 (mTm K A B) := by
  funext j
  have hr : (TDims K M N).contr.rank = 1 := rfl
  have hs : (TDims K M N).contr.size ⟨0, by omega⟩ = K := rfl
  show Ideal.matmul (TDims K M N) _ _ _ j = _
  unfold Ideal.matmul
  rw [← Equiv.sum_comp (ValueIdx.contrEquiv1 (TDims K M N) K hr hs).symm]
  have hl : ∀ k : Fin K, (c2 A : FVec Ideal ⟨2, ![K, M]⟩ φ) ((TDims K M N).lhsIdx j ((ValueIdx.contrEquiv1 (TDims K M N) K hr hs).symm k))
      = ((A k.val (j 0).val : ℝ) : EReal) := fun k => by
    have hk := ValueIdx.contrEquiv1_symm_val (TDims K M N) K hr hs k
    show ((A _ _ : ℝ) : EReal) = _
    congr 2
  have hrr : ∀ k : Fin K, (c2 B : FVec Ideal ⟨2, ![K, N]⟩ ψ) ((TDims K M N).rhsIdx j ((ValueIdx.contrEquiv1 (TDims K M N) K hr hs).symm k))
      = ((B k.val (j 1).val : ℝ) : EReal) := fun k => by
    have hk := ValueIdx.contrEquiv1_symm_val (TDims K M N) K hr hs k
    show ((B _ _ : ℝ) : EReal) = _
    congr 2
  simp only [hl, hrr]
  show ((C _ _ : ℝ) : EReal) + _ = ((mTm K A B _ _ : ℝ) : EReal)
  simp only [hC, EReal.coe_zero, zero_add, ← EReal.coe_mul]
  exact coe_sum_fin K fun k => A k (j 0).val * B k (j 1).val

/-- The sum along the second axis, as a column. -/
theorem rowsum_c2 (A : ℕ → ℕ → ℝ) (acc : BitVec φ.bits) (h : Shape.Reduces ⟨2, ![a, b]⟩ [1] ⟨1, ![a]⟩) (hφ : FKind.Formats φ)
    (hacc : acc = FKind.add.neutral φ hφ) (hs : Shape.ShapeCasts ⟨1, ![a]⟩ ⟨2, ![a, 1]⟩) :
    shapeCast ⟨2, ![a, 1]⟩ (multiReduction .add [1] ⟨1, ![a]⟩ (c2 A : FVec Ideal ⟨2, ![a, b]⟩ φ) acc h hφ hacc) hs
      = (c2 (fun i _ => ∑ x ∈ range b, A i x) : FVec Ideal _ φ) := by
  funext j
  rw [shapeCast_apply _ hs j (ValueIdx.ix1 (j 0))
    (by rw [Shape.rowMajor_val_one, Shape.rowMajor_val_two]
        have h1 : (j 1).val < 1 := (j 1).isLt
        have h2 : (j 1).val = 0 := by omega
        rw [h2]; show (j 0).val = (j 0).val * 1 + 0; omega)]
  rw [multiReduction_add_apply]
  refine (Ideal.reduceAdd_r2_a1 h (c2 A : FVec Ideal ⟨2, ![a, b]⟩ φ) _).trans ?_
  exact coe_sum_fin b fun x => A (j 0).val x

/-- A cast to the same shape. -/
theorem cast_same {s : Shape} {α : Type} (v : s.Idx → α) (h : s.ShapeCasts s) : shapeCast s v h = v := shapeCast_self v h

/-- A leading axis of one element dropped. -/
theorem cast_drop (A : ℕ → ℕ → ℕ → ℝ) (hs : Shape.ShapeCasts ⟨3, ![1, a, b]⟩ ⟨2, ![a, b]⟩) :
    shapeCast ⟨2, ![a, b]⟩ (c3 A : FVec Ideal ⟨3, ![1, a, b]⟩ φ) hs = (c2 (A 0) : FVec Ideal _ φ) := by
  funext j
  refine (shapeCast_apply _ hs j (ValueIdx.ix3 0 (j 0) (j 1)) ?_).trans rfl
  rw [Shape.rowMajor_val_three, Shape.rowMajor_val_two]
  show (0 * a + (j 0).val) * b + (j 1).val = (j 0).val * b + (j 1).val
  rw [zero_mul, zero_add]

/-- A leading axis of one element added. -/
theorem cast_add (A : ℕ → ℕ → ℝ) (hs : Shape.ShapeCasts ⟨2, ![a, b]⟩ ⟨3, ![1, a, b]⟩) :
    shapeCast ⟨3, ![1, a, b]⟩ (c2 A : FVec Ideal ⟨2, ![a, b]⟩ φ) hs = (c3 (fun _ i j => A i j) : FVec Ideal _ φ) := by
  funext j
  refine (shapeCast_apply _ hs j (ValueIdx.ix2 (j 1) (j 2)) ?_).trans rfl
  have h1 : (j 0).val < 1 := (j 0).isLt
  have h2 : (j 0).val = 0 := by omega
  rw [Shape.rowMajor_val_three, Shape.rowMajor_val_two, h2]
  show (j 1).val * b + (j 2).val = (0 * a + (j 1).val) * b + (j 2).val
  rw [zero_mul, zero_add]

end Cert.Gdn
-- ==== Proof.Stage.lean ====
/- The kernel's body for one block of 256 tokens as named vector operations: what its 32 chunk-and-head blocks compute, each of the
   block's inputs as it was loaded. -/
module

public import proofs.«01_k».proof.Proof.Vec

@[expose] public section

noncomputable section

namespace Cert.Gdn

open Idealize.ShloMosaic

/-- A two-axis f32 vector of the ideal reading. -/
abbrev V2 (a b : ℕ) : Type := FVec Ideal ⟨2, ![a, b]⟩ .f32
/-- A two-axis bf16 vector of the ideal reading. -/
abbrev B2 (a b : ℕ) : Type := FVec Ideal ⟨2, ![a, b]⟩ .bf16
/-- A three-axis f32 vector of the ideal reading. -/
abbrev V3 (a b c : ℕ) : Type := FVec Ideal ⟨3, ![a, b, c]⟩ .f32

/-- The loads of one block: the projections of q, k, v, the convolution's carried rows, its weights, the decay's parameters, the
    rows of the two gates, the norm's scale, the gate of each chunk and head, the state of each head. -/
@[ext] structure Loads where
  xq : B2 256 1024
  xk : B2 256 1024
  xv : B2 256 1024
  hq : V3 1 8 1024
  hk : V3 1 8 1024
  hv : V3 1 8 1024
  wq : V2 4 1024
  wk : V2 4 1024
  wv : V2 4 1024
  al : V2 32 128
  dt : V2 32 128
  ga : V3 1 32 128
  gb : V3 1 32 128
  ng : V2 1 128
  z : Fin 32 → B2 64 128
  s : Fin 8 → V3 1 128 128

/-- A two-axis slice lies inside. -/
theorem sl2 {a b a' b' : ℕ} (o p : ℕ) (h : o + a' ≤ a) (h' : p + b' ≤ b) : Shape.Slices ⟨2, ![a, b]⟩ ![o, p] ⟨2, ![a', b']⟩ :=
  ⟨rfl, fun x => by fin_cases x <;> assumption⟩

/-- The zero vector a product accumulates into. -/
abbrev zz (a b : ℕ) : V2 a b := constant ⟨2, ![a, b]⟩ .f32 0x00000000#32
/-- A constant over a vector. -/
abbrev bc (a b : ℕ) (w : BitVec 32) : V2 a b := broadcast ⟨2, ![a, b]⟩ (Scalar.ofBits (F := Ideal) .f32 w)

theorem bits : FTy.bf16.bits < FTy.f32.bits := by decide

theorem k264 : Shape.Concatenates [⟨2, ![8, 1024]⟩, ⟨2, ![256, 1024]⟩] ⟨2, ![264, 1024]⟩ 0 := by decide
theorem k128 : Shape.Concatenates [⟨2, ![32, 128]⟩, ⟨2, ![96, 128]⟩] ⟨2, ![128, 128]⟩ 0 := by decide
theorem kqk : Shape.Concatenates [⟨2, ![64, 128]⟩, ⟨2, ![64, 128]⟩] ⟨2, ![128, 128]⟩ 0 := by decide
theorem kst : Shape.Concatenates [⟨2, ![64, 64]⟩, ⟨2, ![64, 64]⟩] ⟨2, ![128, 64]⟩ 0 := by decide
theorem kwu : Shape.Concatenates [⟨2, ![64, 128]⟩, ⟨2, ![64, 128]⟩] ⟨2, ![64, 256]⟩ 1 := by decide
theorem k192 : Shape.Concatenates [⟨2, ![64, 128]⟩, ⟨2, ![128, 128]⟩] ⟨2, ![192, 128]⟩ 0 := by decide

/-! ### The convolution -/

/-- The carried rows, then the block's, in groups of eight. -/
def cRows (x : B2 256 1024) (h : V3 1 8 1024) : V3 33 8 1024 :=
  shapeCast ⟨3, ![33, 8, 1024]⟩ (concatenate ⟨2, ![264, 1024]⟩ 0
    [⟨⟨2, ![8, 1024]⟩, (shapeCast ⟨2, ![8, 1024]⟩ h (by decide) : V2 8 1024)⟩, ⟨⟨2, ![256, 1024]⟩, (extf .f32 x bits : V2 256 1024)⟩] k264) (by decide)

/-- The rows `d` tokens earlier. -/
def cShift (d : BitVec 32) (y : V3 33 8 1024) : V2 256 1024 :=
  shapeCast ⟨2, ![256, 1024]⟩
    (select (cmpi .slt (iota .tc ⟨3, ![32, 8, 1024]⟩ 32 [1] (by decide)) (broadcast ⟨3, ![32, 8, 1024]⟩ d))
      (extractStridedSlice ⟨3, ![32, 8, 1024]⟩ ![0, 0, 0] (dynamicRotate 1 d none y (by decide)) (by decide) : V3 32 8 1024)
      (extractStridedSlice ⟨3, ![32, 8, 1024]⟩ ![1, 0, 0] (dynamicRotate 1 d none y (by decide)) (by decide))) (by decide)

/-- One tap of the convolution's weights, over the rows. -/
def cTap (w : V2 4 1024) (i : ℕ) (h : i + 1 ≤ 4) : V2 256 1024 :=
  broadcastTo ⟨2, ![256, 1024]⟩ (extractStridedSlice ⟨2, ![1, 1024]⟩ ![i, 0] (shapeCast ⟨2, ![4, 1024]⟩ w (by decide)) (sl2 _ _ h (by decide)) : V2 1 1024) (by decide)

/-- The four taps. -/
def cSum (x : B2 256 1024) (h : V3 1 8 1024) (w : V2 4 1024) : V2 256 1024 :=
  addf (addf (addf (mulf (extf .f32 x bits) (cTap w 3 (by decide))) (mulf (cShift 1#32 (cRows x h)) (cTap w 2 (by decide))))
    (mulf (cShift 2#32 (cRows x h)) (cTap w 1 (by decide)))) (mulf (cShift 3#32 (cRows x h)) (cTap w 0 (by decide)))

/-- The logistic function. -/
def vSig {a b : ℕ} (y : V2 a b) : V2 a b :=
  divf (bc a b 0x3F800000#32) (addf (bc a b 0x3F800000#32) (exp (subf (bc a b 0x00000000#32) y)))

/-- The convolved, activated rows. -/
def cOut (x : B2 256 1024) (h : V3 1 8 1024) (w : V2 4 1024) : V2 256 1024 := mulf (cSum x h w) (vSig (cSum x h w))

/-- The rows carried to the next block. -/
def cCarry (x : B2 256 1024) : V3 1 8 1024 :=
  shapeCast ⟨3, ![1, 8, 1024]⟩ (extractStridedSlice ⟨2, ![8, 1024]⟩ ![248, 0] (extf .f32 x bits : V2 256 1024) (sl2 _ _ (by decide) (by decide)) : V2 8 1024) (by decide)

/-- The columns of one head. -/
def hCols (y : V2 256 1024) (hl : Fin 8) : V2 256 128 :=
  extractStridedSlice ⟨2, ![256, 128]⟩ ![0, 128 * hl.val] y (sl2 _ _ (by decide) (by omega))

/-- The sum of a row's squares, as a column. -/
def vSq {a b : ℕ} (y : V2 a b) (h : Shape.Reduces ⟨2, ![a, b]⟩ [1] ⟨1, ![a]⟩) (hs : Shape.ShapeCasts ⟨1, ![a]⟩ ⟨2, ![a, 1]⟩) : V2 a 1 :=
  shapeCast ⟨2, ![a, 1]⟩ (multiReduction .add [1] ⟨1, ![a]⟩ (mulf y y) 0x00000000#32 h (by decide) rfl) hs

/-- A head's rows over their length. -/
def hNorm (y : V2 256 128) : V2 256 128 :=
  mulf y (broadcastTo ⟨2, ![256, 128]⟩ (rsqrt (addf (vSq y (by decide) (by decide)) (bc 256 1 0x358637BD#32))) (by decide))

/-! ### The gates -/

/-- The rows' decays. -/
def gRow (L : Loads) : V2 32 128 :=
  let x : V2 32 128 := addf (shapeCast ⟨2, ![32, 128]⟩ L.ga (by decide)) (shapeCast ⟨2, ![32, 128]⟩ L.dt (by decide))
  mulf (subf (bc 32 128 0x00000000#32) (exp (shapeCast ⟨2, ![32, 128]⟩ L.al (by decide))))
    (addf (maximumf x (bc 32 128 0x00000000#32))
      (log (addf (bc 32 128 0x3F800000#32) (exp (subf (bc 32 128 0x00000000#32) (absf x))))))

/-- One doubling of the running sum along a row. -/
def gAdd (k : BitVec 32) (y : V2 32 128) : V2 32 128 :=
  addf y (select (cmpi .sge (iota .tc ⟨2, ![32, 128]⟩ 32 [1] (by decide)) (broadcast ⟨2, ![32, 128]⟩ k)) (dynamicRotate 1 k none y (by decide))
    (bc 32 128 0x00000000#32))

def g1 (L : Loads) : V2 32 128 := gAdd 1#32 (gRow L)
def g2 (L : Loads) : V2 32 128 := gAdd 2#32 (g1 L)
def g3 (L : Loads) : V2 32 128 := gAdd 4#32 (g2 L)
def g4 (L : Loads) : V2 32 128 := gAdd 8#32 (g3 L)
def g5 (L : Loads) : V2 32 128 := gAdd 16#32 (g4 L)
/-- The running sums of the decays. -/
def gSum (L : Loads) : V2 32 128 := gAdd 32#32 (g5 L)
/-- The rows of beta. -/
def gBeta (L : Loads) : V2 32 128 := vSig (shapeCast ⟨2, ![32, 128]⟩ L.gb (by decide))

/-- Rows as columns. -/
def gT (y : V2 32 128) : V2 128 128 :=
  transpose ⟨2, ![128, 128]⟩ [1, 0] (concatenate ⟨2, ![128, 128]⟩ 0 [⟨⟨2, ![32, 128]⟩, y⟩, ⟨⟨2, ![96, 128]⟩, bc 96 128 0x00000000#32⟩] k128) (by decide)

/-- One column, over a block's columns. -/
def gCol (y : V2 128 128) (r : Fin 32) : V2 64 128 :=
  broadcastTo ⟨2, ![64, 128]⟩ (shapeCast ⟨2, ![64, 1]⟩ (extractStridedSlice ⟨2, ![64, 1]⟩ ![0, r.val] y (sl2 _ _ (by decide) (by omega)) : V2 64 1) (by decide) : V2 64 1) (by decide)

/-! ### One chunk of one head -/

section Chunk

variable (q k v G B : V2 64 128) (row : V2 1 64)

/-- The mask of the diagonal and below. -/
def mIncl : IVec ⟨2, ![64, 64]⟩ 1 := cmpi .sge (iota .tc ⟨2, ![64, 64]⟩ 32 [0] (by decide)) (iota .tc ⟨2, ![64, 64]⟩ 32 [1] (by decide))
/-- The mask below the diagonal. -/
def mStrict : IVec ⟨2, ![64, 64]⟩ 1 := cmpi .sgt (iota .tc ⟨2, ![64, 64]⟩ 32 [0] (by decide)) (iota .tc ⟨2, ![64, 64]⟩ 32 [1] (by decide))
/-- The mask of the diagonal. -/
def mEye : IVec ⟨2, ![64, 64]⟩ 1 := cmpi .eq (iota .tc ⟨2, ![64, 64]⟩ 32 [0] (by decide)) (iota .tc ⟨2, ![64, 64]⟩ 32 [1] (by decide))

/-- The first 64 columns. -/
def half (G : V2 64 128) : V2 64 64 := extractStridedSlice ⟨2, ![64, 64]⟩ ![0, 0] G (sl2 _ _ (by decide) (by decide))

/-- The decay from one token to a later one. -/
def vDec : V2 64 64 :=
  select mIncl (exp (select mIncl (subf (half G) (broadcastTo ⟨2, ![64, 64]⟩ row (by decide))) (bc 64 64 0x00000000#32))) (bc 64 64 0x00000000#32)

/-- The products of q and k with k. -/
def vQK : V2 128 64 :=
  matmul (DotDims.transposedRhs 128 128 64) none
    (truncf .bf16 (concatenate ⟨2, ![128, 128]⟩ 0 [⟨⟨2, ![64, 128]⟩, q⟩, ⟨⟨2, ![64, 128]⟩, k⟩] kqk : V2 128 128) bits) (truncf .bf16 k bits) (zz 128 64)

/-- The upper and lower 64 rows. -/
def up {b : ℕ} (y : V2 128 b) : V2 64 b := extractStridedSlice ⟨2, ![64, b]⟩ ![0, 0] y (sl2 _ _ (by decide) (by omega))
def low {b : ℕ} (y : V2 128 b) : V2 64 b := extractStridedSlice ⟨2, ![64, b]⟩ ![64, 0] y (sl2 _ _ (by decide) (by omega))

/-- The matrix whose powers are summed. -/
def vX (qk : V2 128 64) (D : V2 64 64) : V2 64 64 :=
  subf (bc 64 64 0x00000000#32) (select mStrict (mulf (mulf (half B) (low qk)) D) (bc 64 64 0x00000000#32))

/-- A square product. -/
def vMul (x y : V2 64 64) : V2 64 64 := matmul (DotDims.plain 64 64 64) none (truncf .bf16 x bits) (truncf .bf16 y bits) (zz 64 64)

/-- Two matrices, one above the other, times the second. -/
def vSt (t x : V2 64 64) : V2 128 64 :=
  matmul (DotDims.plain 128 64 64) none
    (truncf .bf16 (concatenate ⟨2, ![128, 64]⟩ 0 [⟨⟨2, ![64, 64]⟩, t⟩, ⟨⟨2, ![64, 64]⟩, x⟩] kst : V2 128 64) bits) (truncf .bf16 x bits) (zz 128 64)

/-- One doubling of the sum of powers. -/
def vT (t x : V2 64 64) : V2 64 64 := addf t (up (vSt t x))
def vN (t x : V2 64 64) : V2 64 64 := low (vSt t x)

def t0 (x : V2 64 64) : V2 64 64 :=
  addf (select mEye (bc 64 64 0x3F800000#32) (bc 64 64 0x00000000#32)) x
def x0 (x : V2 64 64) : V2 64 64 := vMul x x
def t1 (x : V2 64 64) : V2 64 64 := vT (t0 x) (x0 x)
def x1 (x : V2 64 64) : V2 64 64 := vN (t0 x) (x0 x)
def t2 (x : V2 64 64) : V2 64 64 := vT (t1 x) (x1 x)
def x2 (x : V2 64 64) : V2 64 64 := vN (t1 x) (x1 x)
def t3 (x : V2 64 64) : V2 64 64 := vT (t2 x) (x2 x)
def x3 (x : V2 64 64) : V2 64 64 := vN (t2 x) (x2 x)
def t4 (x : V2 64 64) : V2 64 64 := vT (t3 x) (x3 x)
def x4 (x : V2 64 64) : V2 64 64 := vN (t3 x) (x3 x)
/-- The sum of the powers. -/
def vTM (x : V2 64 64) : V2 64 64 := addf (t4 x) (vMul (t4 x) (x4 x))

/-- The sum of powers times k and v, scaled. -/
def vWU (t : V2 64 64) : B2 64 256 :=
  truncf .bf16 (matmul (DotDims.plain 64 64 256) none (truncf .bf16 t bits)
    (truncf .bf16 (concatenate ⟨2, ![64, 256]⟩ 1 [⟨⟨2, ![64, 128]⟩, mulf k (mulf B (exp G))⟩, ⟨⟨2, ![64, 128]⟩, mulf v B⟩] kwu : V2 64 256) bits) (zz 64 256)) bits

/-- The decayed products of q and k times those. -/
def vAWU (qk : V2 128 64) (D : V2 64 64) (wu : B2 64 256) : V2 64 256 :=
  matmul (DotDims.plain 64 64 256) none (truncf .bf16 (mulf (up qk) D) bits) wu (zz 64 256)

/-- The last row of the running decays. -/
def vLast : V2 1 128 := extractStridedSlice ⟨2, ![1, 128]⟩ ![63, 0] G (sl2 _ _ (by decide) (by decide))

/-- k, decayed to the chunk's end, against those. -/
def vMN (wu : B2 64 256) : V2 128 256 :=
  matmul (TDims 64 128 256) none (truncf .bf16 (mulf k (exp (subf (broadcastTo ⟨2, ![64, 128]⟩ (vLast G) (by decide)) G))) bits) wu (zz 128 256)

/-- What multiplies the state. -/
def vLhs (awu : V2 64 256) (mn : V2 128 256) : B2 192 128 :=
  truncf .bf16 (concatenate ⟨2, ![192, 128]⟩ 0
    [⟨⟨2, ![64, 128]⟩, subf (mulf q (exp G)) (extractStridedSlice ⟨2, ![64, 128]⟩ ![0, 0] awu (sl2 _ _ (by decide) (by decide)) : V2 64 128)⟩,
      ⟨⟨2, ![128, 128]⟩, (extractStridedSlice ⟨2, ![128, 128]⟩ ![0, 0] mn (sl2 _ _ (by decide) (by decide)) : V2 128 128)⟩] k192 : V2 192 128) bits

/-- The product with the state. -/
def vLS (lhs : B2 192 128) (s : V2 128 128) : V2 192 128 := matmul (DotDims.plain 192 128 128) none lhs (truncf .bf16 s bits) (zz 192 128)

/-- The chunk's output. -/
def vO (awu : V2 64 256) (ls : V2 192 128) : V2 64 128 :=
  addf (extractStridedSlice ⟨2, ![64, 128]⟩ ![0, 0] ls (sl2 _ _ (by decide) (by decide)) : V2 64 128)
    (extractStridedSlice ⟨2, ![64, 128]⟩ ![0, 128] awu (sl2 _ _ (by decide) (by decide)))

/-- The state after the chunk. -/
def vS (mn : V2 128 256) (s : V2 128 128) (ls : V2 192 128) : V2 128 128 :=
  addf (subf (mulf s (broadcastTo ⟨2, ![128, 128]⟩ (exp (vLast G)) (by decide)))
      (extractStridedSlice ⟨2, ![128, 128]⟩ ![64, 0] ls (sl2 _ _ (by decide) (by decide))))
    (extractStridedSlice ⟨2, ![128, 128]⟩ ![0, 128] mn (sl2 _ _ (by decide) (by decide)))

/-- The output normed and gated. -/
def vFin (o : V2 64 128) (ng : V2 1 128) (z : B2 64 128) : B2 64 128 :=
  truncf .bf16 (mulf (mulf (mulf o (broadcastTo ⟨2, ![64, 128]⟩ (rsqrt (addf (divf (vSq o (by decide) (by decide)) (bc 64 1 0x43000000#32)) (bc 64 1 0x358637BD#32))) (by decide)))
    (broadcastTo ⟨2, ![64, 128]⟩ (shapeCast ⟨2, ![1, 128]⟩ ng (by decide) : V2 1 128) (by decide))) (mulf (extf .f32 z bits) (vSig (extf .f32 z bits)))) bits

end Chunk

/-! ### The block -/

variable (L : Loads)

def Hd (r : Fin 32) : Fin 8 := ⟨r.val % 8, by omega⟩

def bq : V2 256 1024 := cOut L.xq L.hq L.wq
def bk : V2 256 1024 := cOut L.xk L.hk L.wk
def bv : V2 256 1024 := cOut L.xv L.hv L.wv
def hq (h : Fin 8) : V2 256 128 := mulf (hNorm (hCols (bq L) h)) (bc 256 128 0x3DB504F3#32)
def hk (h : Fin 8) : V2 256 128 := hNorm (hCols (bk L) h)
def hv (h : Fin 8) : V2 256 128 := hCols (bv L) h

/-- One chunk's rows. -/
def cut (y : V2 256 128) (r : Fin 32) : V2 64 128 := extractStridedSlice ⟨2, ![64, 128]⟩ ![64 * (r.val / 8), 0] y (sl2 _ _ (by omega) (by decide))

def rq (r : Fin 32) : V2 64 128 := cut (hq L (Hd r)) r
def rk (r : Fin 32) : V2 64 128 := cut (hk L (Hd r)) r
def rv (r : Fin 32) : V2 64 128 := cut (hv L (Hd r)) r
def gST : V2 128 128 := gT (gSum L)
def gBT : V2 128 128 := gT (gBeta L)
def rG (r : Fin 32) : V2 64 128 := gCol (gST L) r
def rB (r : Fin 32) : V2 64 128 := gCol (gBT L) r
def rRow (r : Fin 32) : V2 1 64 := extractStridedSlice ⟨2, ![1, 64]⟩ ![r.val, 0] (gSum L) (sl2 _ _ (by omega) (by decide))
def rD (r : Fin 32) : V2 64 64 := vDec (rG L r) (rRow L r)
def rQK (r : Fin 32) : V2 128 64 := vQK (rq L r) (rk L r)
def rX (r : Fin 32) : V2 64 64 := vX (rB L r) (rQK L r) (rD L r)
def rTM (r : Fin 32) : V2 64 64 := vTM (rX L r)
def rWU (r : Fin 32) : B2 64 256 := vWU (rk L r) (rv L r) (rG L r) (rB L r) (rTM L r)
def rAWU (r : Fin 32) : V2 64 256 := vAWU (rQK L r) (rD L r) (rWU L r)
def rMN (r : Fin 32) : V2 128 256 := vMN (rk L r) (rG L r) (rWU L r)
def rLhs (r : Fin 32) : B2 192 128 := vLhs (rq L r) (rG L r) (rAWU L r) (rMN L r)

/-- Chunk `c` of head `h`. -/
def at' (c : ℕ) (h : Fin 8) : Fin 32 := ⟨(8 * c + h.val) % 32, Nat.mod_lt _ (by decide)⟩

/-- Head `h`'s state before chunk `c`. -/
def sAt (h : Fin 8) : ℕ → V2 128 128 :=
  Nat.rec (shapeCast ⟨2, ![128, 128]⟩ (L.s h) (by decide)) fun c s =>
    vS (rG L (at' c h)) (rMN L (at' c h)) s (vLS (rLhs L (at' c h)) s)

def rLS (r : Fin 32) : V2 192 128 := vLS (rLhs L r) (sAt L (Hd r) (r.val / 8))
def rO (r : Fin 32) : V2 64 128 := vO (rAWU L r) (rLS L r)

/-- What the block stores for chunk and head `r`. -/
def rOut (r : Fin 32) : B2 64 128 := vFin (rO L r) L.ng (L.z r)

/-- The state the block leaves for head `h`. -/
def rS (h : Fin 8) : V3 1 128 128 := shapeCast ⟨3, ![1, 128, 128]⟩ (sAt L h 4) (by decide)

end Cert.Gdn
-- ==== Proof.BridgeB.lean ====
/- The stores of one block after the first of its batch, as the block's named operations of its loads. -/
module

public import proofs.«01_k».proof.Proof.Stage
public import proofs.«01_k».proof.Proof.Gen.KernelIdeal.Frame
public import Idealize.ShloMosaic.Lib.Tactic.Stretches

@[expose] public section

noncomputable section

namespace Cert.Gdn

open Idealize.ShloMosaic Cert.KernelIdeal Cert.KernelIdeal.Gen

/-- Chunk and head `r`'s place in a block of the output. -/
theorem inR (r : Fin 32) : ∀ a : Fin 2, (![64 * (r.val / 8), 128 * (r.val % 8)] : Fin 2 → ℕ) a + (![64, 128] : Fin 2 → ℕ) a ≤ S256x1024.size a := by
  intro a; fin_cases a
  · show 64 * (r.val / 8) + 64 ≤ 256; omega
  · show 128 * (r.val % 8) + 128 ≤ 1024; omega

/-- That place. -/
def rectR (r : Fin 32) : Rect S256x1024 := Rect.unit ![64 * (r.val / 8), 128 * (r.val % 8)] ![64, 128] (inR r)

/-- Head `h`'s place in the states. -/
theorem inS (h : Fin 8) : ∀ a : Fin 3, (![h.val, 0, 0] : Fin 3 → ℕ) a + (![1, 128, 128] : Fin 3 → ℕ) a ≤ S8x128x128.size a := by
  intro a; fin_cases a
  · show h.val + 1 ≤ 8; omega
  · show 0 + 128 ≤ 128; omega
  · show 0 + 128 ≤ 128; omega

def rectS (h : Fin 8) : Rect S8x128x128 := Rect.unit ![h.val, 0, 0] ![1, 128, 128] (inS h)

/-- Carry `i`'s place. -/
theorem inC (i : Fin 3) : ∀ a : Fin 3, (![i.val, 0, 0] : Fin 3 → ℕ) a + (![1, 8, 1024] : Fin 3 → ℕ) a ≤ S3x8x1024.size a := by
  intro a; fin_cases a
  · show i.val + 1 ≤ 3; omega
  · show 0 + 8 ≤ 8; omega
  · show 0 + 1024 ≤ 1024; omega

def rectC (i : Fin 3) : Rect S3x8x1024 := Rect.unit ![i.val, 0, 0] ![1, 8, 1024] (inC i)

/-- The stores into the output block. -/
def outPc (L : Loads) (r : Fin 32) : View.Piece (Elt Ideal) S256x1024 .bf16 := ⟨rectR r, rOut L r⟩
/-- The stores into the states. -/
def stPc (L : Loads) (h : Fin 8) : View.Piece (Elt Ideal) S8x128x128 .f32 := ⟨rectS h, rS L h⟩
/-- The stores into the carried rows. -/
def caPc (L : Loads) (i : Fin 3) : View.Piece (Elt Ideal) S3x8x1024 .f32 := ⟨rectC i, cCarry (match i with | 0 => L.xq | 1 => L.xk | 2 => L.xv)⟩

/-- The loads of a block. -/
def loadsB (c : Dev nD) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S256x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg14 : Memref sig .tc .vmem S8x128x128 .f32) (harg14 : arg14.IsWhole) (arg15 : Memref sig .tc .vmem S3x8x1024 .f32) (harg15 : arg15.IsWhole) (arg16 : Memref sig .tc .vmem S2x32x128 .f32) (x0 : Vec Ideal S256x1024 .bf16) (x1 : Vec Ideal S256x1024 .bf16) (x2 : Vec Ideal S256x1024 .bf16) (x3 : Vec Ideal S256x1024 .bf16) (x4 : Vec Ideal S4x1024 .f32) (x5 : Vec Ideal S4x1024 .f32) (x6 : Vec Ideal S4x1024 .f32) (x7 : Vec Ideal S256x128 .f32) (x8 : Vec Ideal S32x128 .f32) (x9 : Vec Ideal S32x128 .f32) (x10 : Vec Ideal S1x128 .f32) (xs0 : Vec Ideal S8x128x128 .f32) (xs1 : Vec Ideal S3x8x1024 .f32) : Loads where
  xq := View.readAt (Elt Ideal) arg2.view (Rect.unit ![0, 0] S256x1024.size inb_S256x1024_S256x1024_0_0).toLoadRect (harg2.unread x0)
  xk := View.readAt (Elt Ideal) arg3.view (Rect.unit ![0, 0] S256x1024.size inb_S256x1024_S256x1024_0_0).toLoadRect (harg3.unread x1)
  xv := View.readAt (Elt Ideal) arg4.view (Rect.unit ![0, 0] S256x1024.size inb_S256x1024_S256x1024_0_0).toLoadRect (harg4.unread x2)
  hq := View.readAt (Elt Ideal) arg15.view (rectC 0).toLoadRect (harg15.unread xs1)
  hk := View.readAt (Elt Ideal) arg15.view (rectC 1).toLoadRect (harg15.unread xs1)
  hv := View.readAt (Elt Ideal) arg15.view (rectC 2).toLoadRect (harg15.unread xs1)
  wq := View.readAt (Elt Ideal) arg6.view (Rect.unit ![0, 0] S4x1024.size inb_S4x1024_S4x1024_0_0).toLoadRect (harg6.unread x4)
  wk := View.readAt (Elt Ideal) arg7.view (Rect.unit ![0, 0] S4x1024.size inb_S4x1024_S4x1024_0_0).toLoadRect (harg7.unread x5)
  wv := View.readAt (Elt Ideal) arg8.view (Rect.unit ![0, 0] S4x1024.size inb_S4x1024_S4x1024_0_0).toLoadRect (harg8.unread x6)
  al := View.readAt (Elt Ideal) arg10.view (Rect.unit ![0, 0] S32x128.size inb_S32x128_S32x128_0_0).toLoadRect (harg10.unread x8)
  dt := View.readAt (Elt Ideal) arg11.view (Rect.unit ![0, 0] S32x128.size inb_S32x128_S32x128_0_0).toLoadRect (harg11.unread x9)
  ga := kernelRun0_B.sl.v375 c arg9 harg9 arg16 x7
  gb := kernelRun0_B.sl.v428 c arg9 harg9 arg16 x7
  ng := View.readAt (Elt Ideal) arg12.view (Rect.unit ![0, 0] S1x128.size inb_S1x128_S1x128_0_0).toLoadRect (harg12.unread x10)
  z := fun r => View.readAt (Elt Ideal) arg5.view (rectR r).toLoadRect (harg5.unread x3)
  s := fun h => View.readAt (Elt Ideal) arg14.view (rectS h).toLoadRect (harg14.unread xs0)

set_option maxRecDepth 100000 in
/-- The stores into the output. -/
theorem outB (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S256x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S8x128x128 .f32) (harg14 : arg14.IsWhole) (arg15 : Memref sig .tc .vmem S3x8x1024 .f32) (harg15 : arg15.IsWhole) (arg16 : Memref sig .tc .vmem S2x32x128 .f32) (harg16 : arg16.IsWhole) (hc0 : ¬cond0_0 i)
    (x0 : Vec Ideal S256x1024 .bf16) (x1 : Vec Ideal S256x1024 .bf16) (x2 : Vec Ideal S256x1024 .bf16) (x3 : Vec Ideal S256x1024 .bf16) (x4 : Vec Ideal S4x1024 .f32) (x5 : Vec Ideal S4x1024 .f32) (x6 : Vec Ideal S4x1024 .f32) (x7 : Vec Ideal S256x128 .f32) (x8 : Vec Ideal S32x128 .f32) (x9 : Vec Ideal S32x128 .f32) (x10 : Vec Ideal S1x128 .f32) (xs0 : Vec Ideal S8x128x128 .f32) (xs1 : Vec Ideal S3x8x1024 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1).1
      = List.map (outPc (loadsB c arg2 harg2 arg3 harg3 arg4 harg4 arg5 harg5 arg6 harg6 arg7 harg7 arg8 harg8 arg9 harg9 arg10 harg10 arg11 harg11 arg12 harg12 arg14 harg14 arg15 harg15 arg16 x0 x1 x2 x3 x4 x5 x6 x7 x8 x9 x10 xs0 xs1)) [31, 30, 29, 28, 27, 26, 25, 24, 23, 22, 21, 20, 19, 18, 17, 16, 15, 14, 13, 12, 11, 10, 9, 8, 7, 6, 5, 4, 3, 2, 1, 0] := by
  sl_kernel_rfl

set_option maxRecDepth 100000 in
/-- The stores into the states. -/
theorem stB (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S256x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S8x128x128 .f32) (harg14 : arg14.IsWhole) (arg15 : Memref sig .tc .vmem S3x8x1024 .f32) (harg15 : arg15.IsWhole) (arg16 : Memref sig .tc .vmem S2x32x128 .f32) (harg16 : arg16.IsWhole) (hc0 : ¬cond0_0 i)
    (x0 : Vec Ideal S256x1024 .bf16) (x1 : Vec Ideal S256x1024 .bf16) (x2 : Vec Ideal S256x1024 .bf16) (x3 : Vec Ideal S256x1024 .bf16) (x4 : Vec Ideal S4x1024 .f32) (x5 : Vec Ideal S4x1024 .f32) (x6 : Vec Ideal S4x1024 .f32) (x7 : Vec Ideal S256x128 .f32) (x8 : Vec Ideal S32x128 .f32) (x9 : Vec Ideal S32x128 .f32) (x10 : Vec Ideal S1x128 .f32) (xs0 : Vec Ideal S8x128x128 .f32) (xs1 : Vec Ideal S3x8x1024 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1).2.1
      = List.map (stPc (loadsB c arg2 harg2 arg3 harg3 arg4 harg4 arg5 harg5 arg6 harg6 arg7 harg7 arg8 harg8 arg9 harg9 arg10 harg10 arg11 harg11 arg12 harg12 arg14 harg14 arg15 harg15 arg16 x0 x1 x2 x3 x4 x5 x6 x7 x8 x9 x10 xs0 xs1)) [7, 6, 5, 4, 3, 2, 1, 0] := by
  sl_kernel_rfl

set_option maxRecDepth 100000 in
/-- The stores into the carried rows. -/
theorem caB (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S256x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S8x128x128 .f32) (harg14 : arg14.IsWhole) (arg15 : Memref sig .tc .vmem S3x8x1024 .f32) (harg15 : arg15.IsWhole) (arg16 : Memref sig .tc .vmem S2x32x128 .f32) (harg16 : arg16.IsWhole) (hc0 : ¬cond0_0 i)
    (x0 : Vec Ideal S256x1024 .bf16) (x1 : Vec Ideal S256x1024 .bf16) (x2 : Vec Ideal S256x1024 .bf16) (x3 : Vec Ideal S256x1024 .bf16) (x4 : Vec Ideal S4x1024 .f32) (x5 : Vec Ideal S4x1024 .f32) (x6 : Vec Ideal S4x1024 .f32) (x7 : Vec Ideal S256x128 .f32) (x8 : Vec Ideal S32x128 .f32) (x9 : Vec Ideal S32x128 .f32) (x10 : Vec Ideal S1x128 .f32) (xs0 : Vec Ideal S8x128x128 .f32) (xs1 : Vec Ideal S3x8x1024 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1).2.2.1
      = List.map (caPc (loadsB c arg2 harg2 arg3 harg3 arg4 harg4 arg5 harg5 arg6 harg6 arg7 harg7 arg8 harg8 arg9 harg9 arg10 harg10 arg11 harg11 arg12 harg12 arg14 harg14 arg15 harg15 arg16 x0 x1 x2 x3 x4 x5 x6 x7 x8 x9 x10 xs0 xs1)) [2, 1, 0] := by
  sl_kernel_rfl

end Cert.Gdn
-- ==== Proof.BridgeA.lean ====
/- The stores of one first block of a batch, as the block's named operations of its loads. -/
module

public import proofs.«01_k».proof.Proof.BridgeB
public import proofs.«01_k».proof.Proof.Gen.KernelIdeal.Frame
public import Idealize.ShloMosaic.Lib.Tactic.Stretches

@[expose] public section

noncomputable section

namespace Cert.Gdn

open Idealize.ShloMosaic Cert.KernelIdeal Cert.KernelIdeal.Gen

/-- The loads of a block. -/
def loadsA (c : Dev nD) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S256x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg14 : Memref sig .tc .vmem S8x128x128 .f32) (arg15 : Memref sig .tc .vmem S3x8x1024 .f32) (arg16 : Memref sig .tc .vmem S2x32x128 .f32) (x0 : Vec Ideal S256x1024 .bf16) (x1 : Vec Ideal S256x1024 .bf16) (x2 : Vec Ideal S256x1024 .bf16) (x3 : Vec Ideal S256x1024 .bf16) (x4 : Vec Ideal S4x1024 .f32) (x5 : Vec Ideal S4x1024 .f32) (x6 : Vec Ideal S4x1024 .f32) (x7 : Vec Ideal S256x128 .f32) (x8 : Vec Ideal S32x128 .f32) (x9 : Vec Ideal S32x128 .f32) (x10 : Vec Ideal S1x128 .f32) : Loads where
  xq := View.readAt (Elt Ideal) arg2.view (Rect.unit ![0, 0] S256x1024.size inb_S256x1024_S256x1024_0_0).toLoadRect (harg2.unread x0)
  xk := View.readAt (Elt Ideal) arg3.view (Rect.unit ![0, 0] S256x1024.size inb_S256x1024_S256x1024_0_0).toLoadRect (harg3.unread x1)
  xv := View.readAt (Elt Ideal) arg4.view (Rect.unit ![0, 0] S256x1024.size inb_S256x1024_S256x1024_0_0).toLoadRect (harg4.unread x2)
  hq := kernelRun0_A.sl.v6 (F := Ideal) c arg15
  hk := kernelRun0_A.sl.v62 (F := Ideal) c arg2 harg2 arg15 x0
  hv := kernelRun0_A.sl.v118 (F := Ideal) c arg2 harg2 arg3 harg3 arg15 x0 x1
  wq := View.readAt (Elt Ideal) arg6.view (Rect.unit ![0, 0] S4x1024.size inb_S4x1024_S4x1024_0_0).toLoadRect (harg6.unread x4)
  wk := View.readAt (Elt Ideal) arg7.view (Rect.unit ![0, 0] S4x1024.size inb_S4x1024_S4x1024_0_0).toLoadRect (harg7.unread x5)
  wv := View.readAt (Elt Ideal) arg8.view (Rect.unit ![0, 0] S4x1024.size inb_S4x1024_S4x1024_0_0).toLoadRect (harg8.unread x6)
  al := View.readAt (Elt Ideal) arg10.view (Rect.unit ![0, 0] S32x128.size inb_S32x128_S32x128_0_0).toLoadRect (harg10.unread x8)
  dt := View.readAt (Elt Ideal) arg11.view (Rect.unit ![0, 0] S32x128.size inb_S32x128_S32x128_0_0).toLoadRect (harg11.unread x9)
  ga := kernelRun0_A.sl.v375 c arg9 harg9 arg16 x7
  gb := kernelRun0_A.sl.v428 c arg9 harg9 arg16 x7
  ng := View.readAt (Elt Ideal) arg12.view (Rect.unit ![0, 0] S1x128.size inb_S1x128_S1x128_0_0).toLoadRect (harg12.unread x10)
  z := fun r => View.readAt (Elt Ideal) arg5.view (rectR r).toLoadRect (harg5.unread x3)
  s := fun h => arg14.view.readCov (kernelRun0_A.sl.HS0_1 (F := Ideal)) (rectS h).toLoadRect

set_option maxRecDepth 100000 in
/-- The stores into the output. -/
theorem outA (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S256x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S8x128x128 .f32) (harg14 : arg14.IsWhole) (arg15 : Memref sig .tc .vmem S3x8x1024 .f32) (harg15 : arg15.IsWhole) (arg16 : Memref sig .tc .vmem S2x32x128 .f32) (harg16 : arg16.IsWhole) (hc0 : cond0_0 i)
    (x0 : Vec Ideal S256x1024 .bf16) (x1 : Vec Ideal S256x1024 .bf16) (x2 : Vec Ideal S256x1024 .bf16) (x3 : Vec Ideal S256x1024 .bf16) (x4 : Vec Ideal S4x1024 .f32) (x5 : Vec Ideal S4x1024 .f32) (x6 : Vec Ideal S4x1024 .f32) (x7 : Vec Ideal S256x128 .f32) (x8 : Vec Ideal S32x128 .f32) (x9 : Vec Ideal S32x128 .f32) (x10 : Vec Ideal S1x128 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).1
      = List.map (outPc (loadsA c arg2 harg2 arg3 harg3 arg4 harg4 arg5 harg5 arg6 harg6 arg7 harg7 arg8 harg8 arg9 harg9 arg10 harg10 arg11 harg11 arg12 harg12 arg14 arg15 arg16 x0 x1 x2 x3 x4 x5 x6 x7 x8 x9 x10)) [31, 30, 29, 28, 27, 26, 25, 24, 23, 22, 21, 20, 19, 18, 17, 16, 15, 14, 13, 12, 11, 10, 9, 8, 7, 6, 5, 4, 3, 2, 1, 0] := by
  sl_kernel_rfl

set_option maxRecDepth 100000 in
/-- The stores into the states. -/
theorem stA (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S256x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S8x128x128 .f32) (harg14 : arg14.IsWhole) (arg15 : Memref sig .tc .vmem S3x8x1024 .f32) (harg15 : arg15.IsWhole) (arg16 : Memref sig .tc .vmem S2x32x128 .f32) (harg16 : arg16.IsWhole) (hc0 : cond0_0 i)
    (x0 : Vec Ideal S256x1024 .bf16) (x1 : Vec Ideal S256x1024 .bf16) (x2 : Vec Ideal S256x1024 .bf16) (x3 : Vec Ideal S256x1024 .bf16) (x4 : Vec Ideal S4x1024 .f32) (x5 : Vec Ideal S4x1024 .f32) (x6 : Vec Ideal S4x1024 .f32) (x7 : Vec Ideal S256x128 .f32) (x8 : Vec Ideal S32x128 .f32) (x9 : Vec Ideal S32x128 .f32) (x10 : Vec Ideal S1x128 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.1
      = List.map (stPc (loadsA c arg2 harg2 arg3 harg3 arg4 harg4 arg5 harg5 arg6 harg6 arg7 harg7 arg8 harg8 arg9 harg9 arg10 harg10 arg11 harg11 arg12 harg12 arg14 arg15 arg16 x0 x1 x2 x3 x4 x5 x6 x7 x8 x9 x10)) [7, 6, 5, 4, 3, 2, 1, 0] ++ kernelRun0_A.sl.HS0_1 := by
  sl_kernel_rfl

set_option maxRecDepth 100000 in
/-- The stores into the carried rows. -/
theorem caA (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S256x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S8x128x128 .f32) (harg14 : arg14.IsWhole) (arg15 : Memref sig .tc .vmem S3x8x1024 .f32) (harg15 : arg15.IsWhole) (arg16 : Memref sig .tc .vmem S2x32x128 .f32) (harg16 : arg16.IsWhole) (hc0 : cond0_0 i)
    (x0 : Vec Ideal S256x1024 .bf16) (x1 : Vec Ideal S256x1024 .bf16) (x2 : Vec Ideal S256x1024 .bf16) (x3 : Vec Ideal S256x1024 .bf16) (x4 : Vec Ideal S4x1024 .f32) (x5 : Vec Ideal S4x1024 .f32) (x6 : Vec Ideal S4x1024 .f32) (x7 : Vec Ideal S256x128 .f32) (x8 : Vec Ideal S32x128 .f32) (x9 : Vec Ideal S32x128 .f32) (x10 : Vec Ideal S1x128 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.2.1
      = List.map (caPc (loadsA c arg2 harg2 arg3 harg3 arg4 harg4 arg5 harg5 arg6 harg6 arg7 harg7 arg8 harg8 arg9 harg9 arg10 harg10 arg11 harg11 arg12 harg12 arg14 arg15 arg16 x0 x1 x2 x3 x4 x5 x6 x7 x8 x9 x10)) [2, 1, 0] ++ kernelRun0_A.sl.HS1_1 := by
  sl_kernel_rfl

end Cert.Gdn
-- ==== Proof.Real.lean ====
/- The block's named operations on real inputs, as formulas. -/
module

public import proofs.«01_k».proof.Proof.Stage
public import Idealize.ShloMosaic.Lib.IdealHost

@[expose] public section

noncomputable section

namespace Cert.Gdn

open Idealize.ShloMosaic Finset Real

/-! ### Three axes -/

theorem cast33 (A : ℕ → ℕ → ℝ) (hs : Shape.ShapeCasts ⟨2, ![264, 1024]⟩ ⟨3, ![33, 8, 1024]⟩) :
    shapeCast ⟨3, ![33, 8, 1024]⟩ (c2 A : V2 264 1024) hs = (c3 (fun g s j => A (8 * g + s) j) : V3 33 8 1024) := by
  funext j
  have h0 : (j 0).val < 33 := (j 0).isLt
  have h1 : (j 1).val < 8 := (j 1).isLt
  refine (shapeCast_apply _ hs j (ValueIdx.ix2 ⟨8 * (j 0).val + (j 1).val, by omega⟩ (j 2)) ?_).trans rfl
  rw [Shape.rowMajor_val_three, Shape.rowMajor_val_two]
  show (8 * (j 0).val + (j 1).val) * 1024 + (j 2).val = ((j 0).val * 8 + (j 1).val) * 1024 + (j 2).val
  ring

theorem cast32 (A : ℕ → ℕ → ℕ → ℝ) (hs : Shape.ShapeCasts ⟨3, ![32, 8, 1024]⟩ ⟨2, ![256, 1024]⟩) :
    shapeCast ⟨2, ![256, 1024]⟩ (c3 A : V3 32 8 1024) hs = (c2 (fun i j => A (i / 8) (i % 8) j) : V2 256 1024) := by
  funext j
  have h0 : (j 0).val < 256 := (j 0).isLt
  refine (shapeCast_apply _ hs j (ValueIdx.ix3 ⟨(j 0).val / 8, by omega⟩ ⟨(j 0).val % 8, by omega⟩ (j 1)) ?_).trans rfl
  rw [Shape.rowMajor_val_three, Shape.rowMajor_val_two]
  show ((j 0).val / 8 * 8 + (j 0).val % 8) * 1024 + (j 1).val = (j 0).val * 1024 + (j 1).val
  rw [Nat.div_add_mod']

theorem rot3 (A : ℕ → ℕ → ℕ → ℝ) (k : BitVec 32) (h : Shape.Rotates ⟨3, ![33, 8, 1024]⟩ 1 none) :
    dynamicRotate 1 k none (c3 A : V3 33 8 1024) h = c3 fun g s j => A g ((s + 8 - k.toNat % 8) % 8) j := by
  funext j
  rw [Pointwise.dynamicRotate_apply]
  rfl

theorem sel3 (d : BitVec 32) (hd : d.toNat < 8) (h : Shape.Iotas ⟨3, ![32, 8, 1024]⟩ .tc 32 [1]) (A B : ℕ → ℕ → ℕ → ℝ) :
    select (cmpi .slt (iota .tc ⟨3, ![32, 8, 1024]⟩ 32 [1] h) (broadcast ⟨3, ![32, 8, 1024]⟩ d)) (c3 A : V3 32 8 1024) (c3 B)
      = c3 fun g s j => if s < d.toNat then A g s j else B g s j := by
  funext i
  have hi : (i 1).val < 8 := (i 1).isLt
  have e : cmpi .slt (iota .tc ⟨3, ![32, 8, 1024]⟩ 32 [1] h) (broadcast ⟨3, ![32, 8, 1024]⟩ d) i
      = BitVec.ofBool (decide ((i 1).val < d.toNat)) := by
    show BitVec.ofBool (BitVec.slt (BitVec.ofNat 32 (0 * 8 + (i 1).val)) d) = _
    have hd' : d = BitVec.ofNat 32 d.toNat := by simp
    rw [zero_mul, zero_add]
    conv_lhs => rw [hd']
    rw [cmp_lt (by omega) (by omega)]
  rw [ValueIdx.select_apply, e]
  show _ = (((if (i 1).val < d.toNat then _ else _ : ℝ)) : EReal)
  by_cases h : (i 1).val < d.toNat
  · simp only [h, decide_true, if_true]; rfl
  · simp only [h, decide_false, if_false]; rfl

theorem slice3 (A : ℕ → ℕ → ℕ → ℝ) (o : ℕ) (h : Shape.Slices ⟨3, ![33, 8, 1024]⟩ ![o, 0, 0] ⟨3, ![32, 8, 1024]⟩) :
    extractStridedSlice ⟨3, ![32, 8, 1024]⟩ ![o, 0, 0] (c3 A : V3 33 8 1024) h = (c3 (fun g s j => A (o + g) (0 + s) (0 + j)) : V3 32 8 1024) := rfl

/-! ### Constants -/

/-- The norms' small addend. -/
def eps : ℝ := 8796093 / 2 ^ 43
/-- The scale of q. -/
def scl : ℝ := 11863283 / 2 ^ 27

theorem bits_eps : Ideal.ofBits .f32 0x358637BD#32 = ((eps : ℝ) : EReal) := by
  unfold eps; simp [Ideal.ofBits, Ideal.ieee, -EReal.coe_mul]; norm_num
theorem bits_scl : Ideal.ofBits .f32 0x3DB504F3#32 = ((scl : ℝ) : EReal) := by
  unfold scl; simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem eps_pos : 0 < eps := by unfold eps; positivity

theorem bc_zero (a b : ℕ) : bc a b 0x00000000#32 = c2 fun _ _ => 0 := broadcast_c2 _ _ Ideal.ofBits_zero_f32
theorem bc_one (a b : ℕ) : bc a b 0x3F800000#32 = c2 fun _ _ => 1 := broadcast_c2 _ _ Ideal.ofBits_one_f32
theorem bc_eps (a b : ℕ) : bc a b 0x358637BD#32 = c2 fun _ _ => eps := broadcast_c2 _ _ bits_eps
theorem bc_scl (a b : ℕ) : bc a b 0x3DB504F3#32 = c2 fun _ _ => scl := broadcast_c2 _ _ bits_scl
theorem bc_128 (a b : ℕ) : bc a b 0x43000000#32 = c2 fun _ _ => 128 := broadcast_c2 _ _ bits_128
theorem zz_zero (a b : ℕ) : zz a b = c2 fun _ _ => 0 := constant_c2 _ _ Ideal.ofBits_zero_f32

/-! ### The convolution -/

/-- The logistic function. -/
def sig (y : ℝ) : ℝ := 1 / (1 + exp (-y))

theorem one_add_exp (y : ℝ) : 0 < 1 + exp y := by positivity

theorem vSig_c2 {a b : ℕ} (Y : ℕ → ℕ → ℝ) : vSig (c2 Y : V2 a b) = c2 fun i j => sig (Y i j) := by
  unfold vSig
  rw [bc_zero, bc_one, subf_c2, exp_c2, addf_c2, divf_c2 _ _ fun i j => (one_add_exp _).ne']
  simp only [zero_sub]; rfl

/-- The carried rows, then the block's. -/
def cX (x h : ℕ → ℕ → ℝ) (i j : ℕ) : ℝ := if i < 8 then h i j else x (i - 8) j

theorem cRows_c3 (x h : ℕ → ℕ → ℝ) : cRows (c2 x) (c3 fun _ i j => h i j) = c3 fun g s j => cX x h (8 * g + s) j := by
  unfold cRows
  rw [cast_drop, extf_c2, concat0_c2, cast33]; rfl

theorem cShift_c2 (d : BitVec 32) (hd : d.toNat < 8) (X : ℕ → ℕ → ℝ) :
    cShift d (c3 fun g s j => X (8 * g + s) j) = c2 fun i j => X (i + 8 - d.toNat) j := by
  unfold cShift
  rw [rot3, slice3, slice3, sel3 d hd, cast32]
  refine c2_congr fun i _ j _ => ?_
  rw [Nat.mod_eq_of_lt hd]
  simp only [Nat.zero_add]
  split
  · congr 1; omega
  · congr 1; omega

/-- The four taps at a token. -/
def cs (x h w : ℕ → ℕ → ℝ) (i j : ℕ) : ℝ :=
  x i j * w 3 j + cX x h (i + 7) j * w 2 j + cX x h (i + 6) j * w 1 j + cX x h (i + 5) j * w 0 j

theorem cTap_c2 (w : ℕ → ℕ → ℝ) (i : ℕ) (h : i + 1 ≤ 4) : cTap (c2 w) i h = c2 fun _ j => w i j := by
  unfold cTap
  rw [cast_same, slice_c2, brow_c2 _ (by decide)]
  simp only [Nat.add_zero, Nat.zero_add]

theorem cSum_c2 (x h w : ℕ → ℕ → ℝ) : cSum (c2 x) (c3 fun _ i j => h i j) (c2 w) = c2 (cs x h w) := by
  unfold cSum
  rw [cRows_c3, extf_c2, cShift_c2 _ (by decide), cShift_c2 _ (by decide), cShift_c2 _ (by decide), cTap_c2, cTap_c2, cTap_c2, cTap_c2,
    mulf_c2, mulf_c2, mulf_c2, mulf_c2, addf_c2, addf_c2, addf_c2]
  rfl

/-- The activated convolution. -/
def cO (x h w : ℕ → ℕ → ℝ) (i j : ℕ) : ℝ := cs x h w i j * sig (cs x h w i j)

theorem cOut_c2 (x h w : ℕ → ℕ → ℝ) : cOut (c2 x) (c3 fun _ i j => h i j) (c2 w) = c2 (cO x h w) := by
  unfold cOut
  rw [cSum_c2, vSig_c2, mulf_c2]; rfl

theorem cCarry_c3 (x : ℕ → ℕ → ℝ) : cCarry (c2 x) = c3 fun _ i j => x (248 + i) j := by
  unfold cCarry
  rw [extf_c2, slice_c2, cast_add]
  simp only [Nat.zero_add]

theorem hCols_c2 (y : ℕ → ℕ → ℝ) (h : Fin 8) : hCols (c2 y) h = c2 fun i j => y i (128 * h.val + j) := by
  unfold hCols
  rw [slice_c2]; simp only [Nat.zero_add]

theorem vSq_c2 {a b : ℕ} (y : ℕ → ℕ → ℝ) (h : Shape.Reduces ⟨2, ![a, b]⟩ [1] ⟨1, ![a]⟩) (hs : Shape.ShapeCasts ⟨1, ![a]⟩ ⟨2, ![a, 1]⟩) :
    vSq (c2 y) h hs = c2 fun i _ => ∑ x ∈ range b, y i x * y i x := by
  unfold vSq
  rw [mulf_c2]
  exact rowsum_c2 _ _ h _ _ hs

/-- A row over its length. -/
def nrm (y : ℕ → ℝ) (j : ℕ) : ℝ := y j * (√(∑ x ∈ range 128, y x * y x + eps))⁻¹

theorem sq_pos (y : ℕ → ℝ) : 0 < ∑ x ∈ range 128, y x * y x + eps :=
  add_pos_of_nonneg_of_pos (Finset.sum_nonneg fun x _ => mul_self_nonneg _) eps_pos

theorem hNorm_c2 (y : ℕ → ℕ → ℝ) : hNorm (c2 y) = c2 fun i j => nrm (y i) j := by
  unfold hNorm
  rw [vSq_c2, bc_eps, addf_c2, rsqrt_c2 _ fun i _ => sq_pos (y i), bcol_c2 _ (by decide), mulf_c2]
  rfl

/-! ### The gates -/

/-- A decay's logarithm. -/
def gate (al x : ℝ) : ℝ := (0 - Real.exp al) * (max x 0 + Real.log (1 + Real.exp (0 - |x|)))

/-- One doubling of a running sum. -/
theorem gAdd_c2 (k : BitVec 32) (hk : k.toNat < 128) (Y : ℕ → ℕ → ℝ) :
    gAdd k (c2 Y) = c2 fun i j => Y i j + if k.toNat ≤ j then Y i (j - k.toNat) else 0 := by
  unfold gAdd
  rw [rotate_c2, bc_zero, select_c2 _ (fun _ j => k.toNat ≤ j) ?_, addf_c2]
  · refine c2_congr fun i _ j hj => ?_
    rw [Nat.mod_eq_of_lt hk]
    split
    · congr 2; omega
    · rfl
  · intro i
    have hi : (i 1).val < 128 := (i 1).isLt
    show BitVec.ofBool (BitVec.sle k (BitVec.ofNat 32 (0 * 128 + (i 1).val))) = _
    have hk' : k = BitVec.ofNat 32 k.toNat := by simp
    rw [zero_mul, zero_add]
    conv_lhs => rw [hk']
    rw [cmp_le (by omega) (by omega)]

/-- The sum of the last `n` of a row up to `j`. -/
def win (g : ℕ → ℕ → ℝ) (n i j : ℕ) : ℝ := ∑ l ∈ range n, if l ≤ j then g i (j - l) else 0

theorem win_add (g : ℕ → ℕ → ℝ) (n i j : ℕ) : win g n i j + (if n ≤ j then win g n i (j - n) else 0) = win g (n + n) i j := by
  unfold win
  rw [Finset.sum_range_add]
  congr 1
  split
  · refine Finset.sum_congr rfl fun l _ => ?_
    by_cases h : n + l ≤ j
    · rw [if_pos h, if_pos (by omega)]; congr 1; omega
    · rw [if_neg h, if_neg (by omega)]
  · exact (Finset.sum_eq_zero fun l _ => if_neg (by omega)).symm

theorem gAdd_win (k : BitVec 32) (hk : k.toNat < 128) (g : ℕ → ℕ → ℝ) :
    gAdd k (c2 (win g k.toNat)) = c2 (win g (k.toNat + k.toNat)) := by
  rw [gAdd_c2 k hk]
  exact c2_congr fun i _ j _ => win_add g _ i j

theorem win_GI (g : ℕ → ℕ → ℝ) (i j : ℕ) (hj : j < 64) : win g 64 i j = GI (g i) j := by
  unfold win GI
  rw [← Finset.sum_range_reflect (fun l => g i l) (j + 1), ← Finset.sum_filter]
  refine Finset.sum_congr ?_ fun l hl => ?_
  · ext l; simp only [Finset.mem_filter, Finset.mem_range]; omega
  · congr 1
theorem gT_c2 (Y : ℕ → ℕ → ℝ) : gT (c2 Y) = c2 fun i j => if j < 32 then Y j i else 0 := by
  unfold gT
  rw [bc_zero, concat0_c2, transpose_c2]

theorem gCol_c2 (Y : ℕ → ℕ → ℝ) (r : Fin 32) : gCol (c2 fun i j => if j < 32 then Y j i else 0) r = c2 fun i _ => Y r.val i := by
  unfold gCol
  rw [slice_c2, cast_same, bcol_c2 _ (by decide)]
  refine c2_congr fun i _ j _ => ?_
  show (if r.val + 0 < 32 then Y (r.val + 0) (0 + i) else 0) = _
  rw [if_pos (by omega), Nat.add_zero, Nat.zero_add]

/-! ### One chunk -/

theorem mIncl_at (i : (⟨2, ![64, 64]⟩ : Shape).Idx) : mIncl i = BitVec.ofBool (decide ((i 1).val ≤ (i 0).val)) := by
  have h0 : (i 0).val < 64 := (i 0).isLt
  have h1 : (i 1).val < 64 := (i 1).isLt
  show BitVec.ofBool (BitVec.sle (BitVec.ofNat 32 (0 * 64 + (i 1).val)) (BitVec.ofNat 32 (0 * 64 + (i 0).val))) = _
  rw [zero_mul, zero_add, zero_add, cmp_le (by omega) (by omega)]

theorem mStrict_at (i : (⟨2, ![64, 64]⟩ : Shape).Idx) : mStrict i = BitVec.ofBool (decide ((i 1).val < (i 0).val)) := by
  have h0 : (i 0).val < 64 := (i 0).isLt
  have h1 : (i 1).val < 64 := (i 1).isLt
  show BitVec.ofBool (BitVec.slt (BitVec.ofNat 32 (0 * 64 + (i 1).val)) (BitVec.ofNat 32 (0 * 64 + (i 0).val))) = _
  rw [zero_mul, zero_add, zero_add, cmp_lt (by omega) (by omega)]

theorem mEye_at (i : (⟨2, ![64, 64]⟩ : Shape).Idx) : mEye i = BitVec.ofBool (decide ((i 0).val = (i 1).val)) := by
  have h0 : (i 0).val < 64 := (i 0).isLt
  have h1 : (i 1).val < 64 := (i 1).isLt
  show BitVec.ofBool (BitVec.ofNat 32 (0 * 64 + (i 0).val) == BitVec.ofNat 32 (0 * 64 + (i 1).val)) = _
  rw [zero_mul, zero_add, zero_add]
  congr 1
  rw [Bool.eq_iff_iff]
  simp only [beq_iff_eq, decide_eq_true_eq]
  constructor
  · intro h; have := congrArg BitVec.toNat h; simp only [BitVec.toNat_ofNat] at this; omega
  · intro h; rw [h]

theorem half_c2 (G : ℕ → ℕ → ℝ) : half (c2 G) = c2 G := by
  unfold half; rw [slice_c2]; simp only [Nat.zero_add]

theorem up_c2 {b : ℕ} (y : ℕ → ℕ → ℝ) : up (c2 y : V2 128 b) = c2 y := by
  unfold up; rw [slice_c2]; simp only [Nat.zero_add]

theorem low_c2 {b : ℕ} (y : ℕ → ℕ → ℝ) : low (c2 y : V2 128 b) = c2 fun i j => y (64 + i) j := by
  unfold low; rw [slice_c2]; simp only [Nat.zero_add]

theorem vDec_c2 (G : ℕ → ℝ) : vDec (c2 fun i _ => G i) (c2 fun _ j => G j) = c2 (DEC G) := by
  unfold vDec
  rw [half_c2, brow_c2 _ (by decide), subf_c2, bc_zero, select_c2 _ (fun i j => j ≤ i) mIncl_at, exp_c2, select_c2 _ (fun i j => j ≤ i) mIncl_at]
  rfl

/-- Two matrices, one above the other. -/
def ab (A B : ℕ → ℕ → ℝ) (i j : ℕ) : ℝ := if i < 64 then A i j else B (i - 64) j

theorem vQK_c2 (q k : ℕ → ℕ → ℝ) : vQK (c2 q) (c2 k) = c2 (mmT 128 (ab q k) k) := by
  unfold vQK
  rw [concat0_c2, truncf_c2, truncf_c2, zz_zero, matmulT_c2 _ _ _ _ fun _ _ => rfl]; rfl

theorem mmT_up (n : ℕ) (A B C : ℕ → ℕ → ℝ) (i j : ℕ) (h : i < 64) : mmT n (ab A B) C i j = mmT n A C i j := by
  unfold mmT ab; simp only [h, if_true]
theorem mmT_low (n : ℕ) (A B C : ℕ → ℕ → ℝ) (i j : ℕ) : mmT n (ab A B) C (64 + i) j = mmT n B C i j := by
  unfold mmT ab
  have h : ¬ 64 + i < 64 := by omega
  simp only [h, if_false, Nat.add_sub_cancel_left]
theorem mm_up (n : ℕ) (A B C : ℕ → ℕ → ℝ) (i j : ℕ) (h : i < 64) : mm n (ab A B) C i j = mm n A C i j := by
  unfold mm ab; simp only [h, if_true]
theorem mm_low (n : ℕ) (A B C : ℕ → ℕ → ℝ) (i j : ℕ) : mm n (ab A B) C (64 + i) j = mm n B C i j := by
  unfold mm ab
  have h : ¬ 64 + i < 64 := by omega
  simp only [h, if_false, Nat.add_sub_cancel_left]

theorem vX_c2 (b G : ℕ → ℝ) (q k : ℕ → ℕ → ℝ) :
    vX (c2 fun i _ => b i) (c2 (mmT 128 (ab q k) k)) (c2 (DEC G)) = c2 (XM 128 G b k) := by
  unfold vX
  rw [half_c2, low_c2, mulf_c2, mulf_c2, bc_zero, select_c2 _ (fun i j => j < i) mStrict_at, subf_c2]
  refine c2_congr fun i _ j _ => ?_
  simp only [mmT_low, zero_sub]; rfl

theorem vMul_c2 (x y : ℕ → ℕ → ℝ) : vMul (c2 x) (c2 y) = c2 (mm 64 x y) := by
  unfold vMul
  rw [truncf_c2, truncf_c2, zz_zero, matmul_c2 _ _ _ _ fun _ _ => rfl]

theorem vSt_c2 (t x : ℕ → ℕ → ℝ) : vSt (c2 t) (c2 x) = c2 (mm 64 (ab t x) x) := by
  unfold vSt
  rw [concat0_c2, truncf_c2, truncf_c2, zz_zero, matmul_c2 _ _ _ _ fun _ _ => rfl]; rfl

theorem vT_c2 (t x : ℕ → ℕ → ℝ) : vT (c2 t) (c2 x) = c2 fun i j => t i j + mm 64 t x i j := by
  unfold vT
  rw [vSt_c2, up_c2, addf_c2]
  exact c2_congr fun i hi j _ => by rw [mm_up _ _ _ _ _ _ hi]

theorem vN_c2 (t x : ℕ → ℕ → ℝ) : vN (c2 t) (c2 x) = c2 (mm 64 x x) := by
  unfold vN
  rw [vSt_c2, low_c2]
  exact c2_congr fun i _ j _ => by rw [mm_low]

theorem t0_c2 (x : ℕ → ℕ → ℝ) : t0 (c2 x) = c2 (TN 64 x 0).1 := by
  unfold t0
  rw [bc_zero, bc_one, select_c2 _ (fun i j => i = j) mEye_at, addf_c2]; rfl

theorem vTM_c2 (x : ℕ → ℕ → ℝ) : vTM (c2 x) = c2 (TM 64 x) := by
  have a0 := t0_c2 x
  have b0 : x0 (c2 x) = c2 (TN 64 x 0).2 := vMul_c2 x x
  have a1 : t1 (c2 x) = c2 (TN 64 x 1).1 := by unfold t1; rw [a0, b0, vT_c2]; rfl
  have b1 : x1 (c2 x) = c2 (TN 64 x 1).2 := by unfold x1; rw [a0, b0, vN_c2]; rfl
  have a2 : t2 (c2 x) = c2 (TN 64 x 2).1 := by unfold t2; rw [a1, b1, vT_c2]; rfl
  have b2 : x2 (c2 x) = c2 (TN 64 x 2).2 := by unfold x2; rw [a1, b1, vN_c2]; rfl
  have a3 : t3 (c2 x) = c2 (TN 64 x 3).1 := by unfold t3; rw [a2, b2, vT_c2]; rfl
  have b3 : x3 (c2 x) = c2 (TN 64 x 3).2 := by unfold x3; rw [a2, b2, vN_c2]; rfl
  have a4 : t4 (c2 x) = c2 (TN 64 x 4).1 := by unfold t4; rw [a3, b3, vT_c2]; rfl
  have b4 : x4 (c2 x) = c2 (TN 64 x 4).2 := by unfold x4; rw [a3, b3, vN_c2]; rfl
  unfold vTM
  rw [a4, b4, vMul_c2, addf_c2]; rfl

/-- Two matrices side by side. -/
def lr (A B : ℕ → ℕ → ℝ) (i j : ℕ) : ℝ := if j < 128 then A i j else B i (j - 128)

theorem mm_lr (n : ℕ) (A B C : ℕ → ℕ → ℝ) : mm n A (lr B C) = lr (mm n A B) (mm n A C) := by
  funext i j; unfold mm lr; split <;> rfl
theorem mTm_lr (n : ℕ) (A B C : ℕ → ℕ → ℝ) : mTm n A (lr B C) = lr (mTm n A B) (mTm n A C) := by
  funext i j; unfold mTm lr; split <;> rfl
theorem lr_left (A B : ℕ → ℕ → ℝ) (i j : ℕ) (h : j < 128) : lr A B i j = A i j := if_pos h
theorem lr_right (A B : ℕ → ℕ → ℝ) (i j : ℕ) : lr A B i (128 + j) = B i j := by
  unfold lr; rw [if_neg (by omega), Nat.add_sub_cancel_left]

variable (g b : ℕ → ℝ) (q k v S : ℕ → ℕ → ℝ)

theorem vWU_c2 (G : ℕ → ℝ) (T : ℕ → ℕ → ℝ) : vWU (c2 k) (c2 v) (c2 fun i _ => G i) (c2 fun i _ => b i) (c2 T)
    = c2 (lr (mm 64 T fun i x => k i x * (b i * exp (G i))) (mm 64 T fun i c => v i c * b i)) := by
  unfold vWU
  rw [exp_c2, mulf_c2, mulf_c2, mulf_c2, concat1_c2, truncf_c2, truncf_c2, zz_zero, matmul_c2 _ _ _ _ fun _ _ => rfl, truncf_c2, ← mm_lr]
  rfl

theorem vAWU_c2 (D W U : ℕ → ℕ → ℝ) : vAWU (c2 (mmT 128 (ab q k) k)) (c2 D) (c2 (lr W U))
    = c2 (lr (mm 64 (fun i j => mmT 128 q k i j * D i j) W) (mm 64 (fun i j => mmT 128 q k i j * D i j) U)) := by
  unfold vAWU
  rw [up_c2, mulf_c2, truncf_c2, zz_zero, matmul_c2 _ _ _ _ fun _ _ => rfl, ← mm_lr]
  refine c2_congr fun i hi j _ => ?_
  unfold mm
  exact Finset.sum_congr rfl fun x _ => by simp only [mmT_up _ _ _ _ _ _ hi]

theorem vLast_c2 (G : ℕ → ℝ) : vLast (c2 fun i _ => G i) = c2 fun _ _ => G 63 := by
  unfold vLast
  rw [slice_c2]
  refine c2_congr fun i hi j _ => ?_
  show G (63 + i) = G 63
  congr 1; omega

theorem vMN_c2 (G : ℕ → ℝ) (W U : ℕ → ℕ → ℝ) : vMN (c2 k) (c2 fun i _ => G i) (c2 (lr W U))
    = c2 (lr (mTm 64 (fun i x => k i x * exp (G 63 - G i)) W) (mTm 64 (fun i x => k i x * exp (G 63 - G i)) U)) := by
  unfold vMN
  rw [vLast_c2, brow_c2 _ (by decide), subf_c2, exp_c2, mulf_c2, truncf_c2, zz_zero, Tmatmul_c2 _ _ _ _ fun _ _ => rfl, ← mTm_lr]

theorem vLS_c2 (G : ℕ → ℝ) (W U M N : ℕ → ℕ → ℝ) :
    vLS (vLhs (c2 q) (c2 fun i _ => G i) (c2 (lr W U)) (c2 (lr M N))) (c2 S)
      = c2 (mm 128 (ab (fun i x => q i x * exp (G i) - W i x) M) S) := by
  unfold vLS vLhs
  rw [exp_c2, mulf_c2, slice_c2, slice_c2, subf_c2, concat0_c2, truncf_c2, truncf_c2, zz_zero, matmul_c2 _ _ _ _ fun _ _ => rfl]
  refine c2_congr fun i hi j _ => ?_
  unfold mm
  refine Finset.sum_congr rfl fun x hx => ?_
  have hx' : x < 128 := Finset.mem_range.mp hx
  simp only [Nat.zero_add, lr_left _ _ _ _ hx']; rfl

theorem vO_c2 (W U A M S : ℕ → ℕ → ℝ) :
    vO (c2 (lr W U)) (c2 (mm 128 (ab A M) S)) = c2 fun i c => mm 128 A S i c + U i c := by
  unfold vO
  rw [slice_c2, slice_c2, addf_c2]
  refine c2_congr fun i hi j _ => ?_
  simp only [Nat.zero_add, lr_right, mm_up _ _ _ _ _ _ hi]

theorem vS_c2 (G : ℕ → ℝ) (M N A S : ℕ → ℕ → ℝ) :
    vS (c2 fun i _ => G i) (c2 (lr M N)) (c2 S) (c2 (mm 128 (ab A M) S)) = c2 fun a c => S a c * exp (G 63) - mm 128 M S a c + N a c := by
  unfold vS
  rw [vLast_c2, exp_c2, brow_c2 _ (by decide), mulf_c2, slice_c2, subf_c2, slice_c2, addf_c2]
  refine c2_congr fun i hi j _ => ?_
  simp only [Nat.zero_add, lr_right, mm_low]

/-- The output normed and gated. -/
def fin (o : ℕ → ℝ) (ng : ℕ → ℝ) (z : ℝ) (c : ℕ) : ℝ :=
  o c * (√((∑ x ∈ range 128, o x * o x) / 128 + eps))⁻¹ * ng c * (z * sig z)

theorem ms_pos (y : ℕ → ℝ) : 0 < (∑ x ∈ range 128, y x * y x) / 128 + eps :=
  add_pos_of_nonneg_of_pos (div_nonneg (Finset.sum_nonneg fun x _ => mul_self_nonneg _) (by norm_num)) eps_pos

theorem vFin_c2 (o z : ℕ → ℕ → ℝ) (ng : ℕ → ℝ) :
    vFin (c2 o) (c2 fun _ j => ng j) (c2 z) = c2 fun i c => fin (o i) ng (z i c) c := by
  unfold vFin
  rw [vSq_c2, bc_eps, bc_128, divf_c2 _ _ fun _ _ => by norm_num, addf_c2, rsqrt_c2 _ fun i _ => ms_pos (o i), bcol_c2 _ (by decide), mulf_c2, cast_same,
    brow_c2 _ (by decide), mulf_c2, extf_c2, vSig_c2, mulf_c2, mulf_c2, truncf_c2]
  rfl

end Cert.Gdn
-- ==== Proof.Block.lean ====
/- What one block of 256 tokens computes on real inputs: the gated delta rule taken token by token, each output normed and gated. -/
module

public import proofs.«01_k».proof.Proof.Real

@[expose] public section

noncomputable section

namespace Cert.Gdn

open Idealize.ShloMosaic Finset

/-- A block's inputs as real numbers: the projections and the rows carried by the convolution, its weights, the decay's two
    parameters of each head, the two gates of each token and head, the norm's scale, the output gate, the state of each head. -/
structure Reals where
  xq : ℕ → ℕ → ℝ
  xk : ℕ → ℕ → ℝ
  xv : ℕ → ℕ → ℝ
  hq : ℕ → ℕ → ℝ
  hk : ℕ → ℕ → ℝ
  hv : ℕ → ℕ → ℝ
  wq : ℕ → ℕ → ℝ
  wk : ℕ → ℕ → ℝ
  wv : ℕ → ℕ → ℝ
  al : ℕ → ℝ
  dt : ℕ → ℝ
  ga : ℕ → ℕ → ℝ
  gb : ℕ → ℕ → ℝ
  ng : ℕ → ℝ
  z : ℕ → ℕ → ℝ
  s : ℕ → ℕ → ℕ → ℝ

namespace Reals

variable (R : Reals)

/-- The loads that hold these numbers. -/
def loads : Loads where
  xq := c2 R.xq
  xk := c2 R.xk
  xv := c2 R.xv
  hq := c3 fun _ i j => R.hq i j
  hk := c3 fun _ i j => R.hk i j
  hv := c3 fun _ i j => R.hv i j
  wq := c2 R.wq
  wk := c2 R.wk
  wv := c2 R.wv
  al := c2 fun i _ => R.al (i % 8)
  dt := c2 fun i _ => R.dt (i % 8)
  ga := c3 fun _ r j => if j < 64 then R.ga (64 * (r / 8) + j) (r % 8) else 0
  gb := c3 fun _ r j => if j < 64 then R.gb (64 * (r / 8) + j) (r % 8) else 0
  ng := c2 fun _ j => R.ng j
  z := fun r => c2 fun i j => R.z (64 * (r.val / 8) + i) (128 * (r.val % 8) + j)
  s := fun h => c3 fun _ a c => R.s h.val a c

/-- Head `h`'s query, key and value of token `t`, its decay and its beta. -/
def Q (h t x : ℕ) : ℝ := nrm (fun j => cO R.xq R.hq R.wq t (128 * h + j)) x * scl
def K (h t x : ℕ) : ℝ := nrm (fun j => cO R.xk R.hk R.wk t (128 * h + j)) x
def V (h t x : ℕ) : ℝ := cO R.xv R.hv R.wv t (128 * h + x)
def G (h t : ℕ) : ℝ := gate (R.al h) (R.ga t h + R.dt h)
def B (h t : ℕ) : ℝ := sig (R.gb t h)

/-- Head `h`'s state before token `t`. -/
def S (h t : ℕ) : ℕ → ℕ → ℝ := drun 128 (R.G h) (R.B h) (R.K h) (R.V h) (R.s h) t

/-- The rule's output at token `t`. -/
def O (h t c : ℕ) : ℝ := ∑ x ∈ range 128, R.Q h t x * R.S h (t + 1) x c

/-- The rows' decays, the columns past the chunk among them. -/
def gr (r j : ℕ) : ℝ := gate (R.al (r % 8)) ((if j < 64 then R.ga (64 * (r / 8) + j) (r % 8) else 0) + R.dt (r % 8))

theorem gRow_eq : gRow R.loads = c2 R.gr := by
  unfold gRow loads
  simp only [cast_same, cast_drop, addf_c2, bc_zero, bc_one, exp_c2, subf_c2, maximumf_c2, absf_c2]
  rw [log_c2 _ fun i j => one_add_exp _]
  simp only [addf_c2, mulf_c2]; rfl

theorem gSum_eq : gSum R.loads = c2 (win R.gr 64) := by
  have e0 : gRow R.loads = c2 (win R.gr 1) := by
    rw [gRow_eq]
    exact c2_congr fun i _ j _ => by simp [win]
  have e1 : g1 R.loads = c2 (win R.gr 2) := by unfold g1; rw [e0]; exact gAdd_win 1#32 (by decide) _
  have e2 : g2 R.loads = c2 (win R.gr 4) := by unfold g2; rw [e1]; exact gAdd_win 2#32 (by decide) _
  have e3 : g3 R.loads = c2 (win R.gr 8) := by unfold g3; rw [e2]; exact gAdd_win 4#32 (by decide) _
  have e4 : g4 R.loads = c2 (win R.gr 16) := by unfold g4; rw [e3]; exact gAdd_win 8#32 (by decide) _
  have e5 : g5 R.loads = c2 (win R.gr 32) := by unfold g5; rw [e4]; exact gAdd_win 16#32 (by decide) _
  unfold gSum; rw [e5]; exact gAdd_win 32#32 (by decide) _

theorem gBeta_eq : gBeta R.loads = c2 fun r j => sig (if j < 64 then R.gb (64 * (r / 8) + j) (r % 8) else 0) := by
  unfold gBeta loads
  rw [cast_drop, vSig_c2]

/-- Within a chunk the running sum is the sum of the decays up to the token. -/
theorem win_eq (r i : ℕ) (hi : i < 64) : win R.gr 64 r i = GI (fun j => R.G (r % 8) (64 * (r / 8) + j)) i := by
  rw [win_GI _ _ _ hi]
  unfold GI
  refine Finset.sum_congr rfl fun j hj => ?_
  have hj' : j < 64 := by have := Finset.mem_range.mp hj; omega
  show gate _ ((if j < 64 then _ else _) + _) = _
  rw [if_pos hj']; rfl

variable (r : Fin 32)

theorem rG_eq : rG R.loads r = c2 fun i _ => GI (fun j => R.G (r.val % 8) (64 * (r.val / 8) + j)) i := by
  unfold rG gST
  rw [gSum_eq, gT_c2, gCol_c2]
  exact c2_congr fun i hi j _ => R.win_eq _ _ hi

theorem rRow_eq : rRow R.loads r = c2 fun _ j => GI (fun j => R.G (r.val % 8) (64 * (r.val / 8) + j)) j := by
  unfold rRow
  rw [gSum_eq, slice_c2]
  refine c2_congr fun i hi j hj => ?_
  have h0 : i = 0 := by omega
  subst h0
  simp only [Nat.zero_add, Nat.add_zero]
  exact R.win_eq _ _ hj

theorem rB_eq : rB R.loads r = c2 fun i _ => R.B (r.val % 8) (64 * (r.val / 8) + i) := by
  unfold rB gBT
  rw [gBeta_eq, gT_c2, gCol_c2]
  refine c2_congr fun i hi j _ => ?_
  simp only [hi, if_true]; rfl

theorem cut_c2 (Y : ℕ → ℕ → ℝ) : cut (c2 Y) r = c2 fun i j => Y (64 * (r.val / 8) + i) j := by
  unfold cut
  rw [slice_c2]; simp only [Nat.zero_add]

theorem rq_eq : rq R.loads r = c2 fun i x => R.Q (r.val % 8) (64 * (r.val / 8) + i) x := by
  unfold rq Gdn.hq bq loads
  rw [cOut_c2, hCols_c2, hNorm_c2, bc_scl, mulf_c2, cut_c2]; rfl

theorem rk_eq : rk R.loads r = c2 fun i x => R.K (r.val % 8) (64 * (r.val / 8) + i) x := by
  unfold rk Gdn.hk bk loads
  rw [cOut_c2, hCols_c2, hNorm_c2, cut_c2]; rfl

theorem rv_eq : rv R.loads r = c2 fun i x => R.V (r.val % 8) (64 * (r.val / 8) + i) x := by
  unfold rv Gdn.hv bv loads
  rw [cOut_c2, hCols_c2, cut_c2]; rfl

section Chunk

/-- The chunk's tokens. -/
def cg (r : ℕ) (i : ℕ) : ℝ := R.G (r % 8) (64 * (r / 8) + i)
def cb (r : ℕ) (i : ℕ) : ℝ := R.B (r % 8) (64 * (r / 8) + i)
def cq (r : ℕ) (i x : ℕ) : ℝ := R.Q (r % 8) (64 * (r / 8) + i) x
def ck (r : ℕ) (i x : ℕ) : ℝ := R.K (r % 8) (64 * (r / 8) + i) x
def cv (r : ℕ) (i x : ℕ) : ℝ := R.V (r % 8) (64 * (r / 8) + i) x

theorem rD_eq : rD R.loads r = c2 (DEC (GI (R.cg r))) := by
  unfold rD
  rw [rG_eq, rRow_eq, vDec_c2]; rfl

theorem rQK_eq : rQK R.loads r = c2 (mmT 128 (ab (R.cq r) (R.ck r)) (R.ck r)) := by
  unfold rQK
  rw [rq_eq, rk_eq, vQK_c2]; rfl

theorem rTM_eq : rTM R.loads r = c2 (TM 64 (XM 128 (GI (R.cg r)) (R.cb r) (R.ck r))) := by
  unfold rTM rX
  rw [rB_eq, rQK_eq, rD_eq]
  exact (congrArg vTM (vX_c2 (R.cb r) (GI (R.cg r)) (R.cq r) (R.ck r))).trans (vTM_c2 _)

theorem rWU_eq : rWU R.loads r
    = c2 (lr (WM 128 (R.cg r) (R.cb r) (R.ck r)) (UM 128 (R.cg r) (R.cb r) (R.ck r) (R.cv r))) := by
  unfold rWU
  rw [rk_eq, rv_eq, rG_eq, rB_eq, rTM_eq, vWU_c2]; rfl

theorem rAWU_eq : rAWU R.loads r
    = c2 (lr (mm 64 (fun i j => mmT 128 (R.cq r) (R.ck r) i j * DEC (GI (R.cg r)) i j) (WM 128 (R.cg r) (R.cb r) (R.ck r)))
        (mm 64 (fun i j => mmT 128 (R.cq r) (R.ck r) i j * DEC (GI (R.cg r)) i j) (UM 128 (R.cg r) (R.cb r) (R.ck r) (R.cv r)))) := by
  unfold rAWU
  rw [rQK_eq, rD_eq, rWU_eq, vAWU_c2]

theorem rMN_eq : rMN R.loads r
    = c2 (lr (mTm 64 (fun i x => R.ck r i x * Real.exp (GI (R.cg r) 63 - GI (R.cg r) i)) (WM 128 (R.cg r) (R.cb r) (R.ck r)))
        (mTm 64 (fun i x => R.ck r i x * Real.exp (GI (R.cg r) 63 - GI (R.cg r) i)) (UM 128 (R.cg r) (R.cb r) (R.ck r) (R.cv r)))) := by
  unfold rMN
  rw [rk_eq, rG_eq, rWU_eq]
  exact vMN_c2 (R.ck r) (GI (R.cg r)) _ _

theorem rLS_eq' (X : ℕ → ℕ → ℝ) : vLS (rLhs R.loads r) (c2 X)
    = c2 (mm 128 (ab (fun i x => R.cq r i x * Real.exp (GI (R.cg r) i)
          - mm 64 (fun i j => mmT 128 (R.cq r) (R.ck r) i j * DEC (GI (R.cg r)) i j) (WM 128 (R.cg r) (R.cb r) (R.ck r)) i x)
        (mTm 64 (fun i x => R.ck r i x * Real.exp (GI (R.cg r) 63 - GI (R.cg r) i)) (WM 128 (R.cg r) (R.cb r) (R.ck r)))) X) := by
  unfold rLhs
  rw [rq_eq, rG_eq, rAWU_eq, rMN_eq]
  exact vLS_c2 (R.cq r) X (GI (R.cg r)) _ _ _ _

/-- A chunk takes the state its 64 tokens on. -/
theorem vS_eq (X : ℕ → ℕ → ℝ) : vS (rG R.loads r) (rMN R.loads r) (c2 X) (vLS (rLhs R.loads r) (c2 X))
    = c2 (drun 128 (R.cg r) (R.cb r) (R.ck r) (R.cv r) X 64) := by
  rw [rLS_eq', rMN_eq, rG_eq]
  refine (vS_c2 (GI (R.cg r)) _ _ _ X).trans (c2_congr fun a _ c _ => ?_)
  exact chunk_state 128 (R.cg r) (R.cb r) (R.ck r) (R.cv r) X a c

/-- A chunk's outputs. -/
theorem vO_eq (X : ℕ → ℕ → ℝ) : vO (rAWU R.loads r) (vLS (rLhs R.loads r) (c2 X))
    = c2 fun i c => ∑ x ∈ range 128, R.cq r i x * drun 128 (R.cg r) (R.cb r) (R.ck r) (R.cv r) X (i + 1) x c := by
  rw [rLS_eq', rAWU_eq, vO_c2]
  exact c2_congr fun i hi c _ => chunk_out 128 (R.cg r) (R.cb r) (R.ck r) (R.cv r) (R.cq r) X i c hi

end Chunk

/-- The state before chunk `c`. -/
theorem sAt_eq (h : Fin 8) (c : ℕ) (hc : c ≤ 4) : sAt R.loads h c = c2 (R.S h.val (64 * c)) := by
  induction c with
  | zero => exact (cast_drop (fun _ a c => R.s h.val a c) _).trans rfl
  | succ c ih =>
    show vS (rG R.loads (at' c h)) (rMN R.loads (at' c h)) (sAt R.loads h c) (vLS (rLhs R.loads (at' c h)) (sAt R.loads h c)) = _
    rw [ih (by omega), vS_eq]
    have hv : (at' c h).val = 8 * c + h.val := Nat.mod_eq_of_lt (by omega)
    have e1 : (at' c h).val % 8 = h.val := by rw [hv]; omega
    have e2 : (at' c h).val / 8 = c := by rw [hv]; omega
    refine congrArg c2 ?_
    rw [Nat.mul_succ]
    unfold S cg cb ck cv
    rw [e1, e2, drun_add]

theorem rO_eq : rO R.loads r = c2 fun i c => R.O (r.val % 8) (64 * (r.val / 8) + i) c := by
  unfold rO rLS
  rw [sAt_eq _ _ _ (by omega), vO_eq]
  unfold O S cg cb ck cv cq
  refine c2_congr fun i _ c _ => ?_
  show ∑ x ∈ range 128, _ * _ = ∑ x ∈ range 128, _ * _
  rw [Nat.add_assoc (64 * (r.val / 8)) i 1]
  refine Finset.sum_congr rfl fun x _ => ?_
  rw [drun_add _ _ _ _ _ _ (64 * (r.val / 8)) (i + 1)]; rfl

/-- What the block stores. -/
def out (t j : ℕ) : ℝ := fin (R.O (j / 128) t) R.ng (R.z t j) (j % 128)

theorem rOut_eq : rOut R.loads r = c2 fun i c => R.out (64 * (r.val / 8) + i) (128 * (r.val % 8) + c) := by
  unfold rOut
  rw [rO_eq]
  refine (vFin_c2 (fun i c => R.O (r.val % 8) (64 * (r.val / 8) + i) c)
    (fun i c => R.z (64 * (r.val / 8) + i) (128 * (r.val % 8) + c)) R.ng).trans (c2_congr fun i _ c hc => ?_)
  unfold out
  have e1 : (128 * (r.val % 8) + c) / 128 = r.val % 8 := by omega
  have e2 : (128 * (r.val % 8) + c) % 128 = c := by omega
  rw [e1, e2]

/-- The state the block leaves. -/
theorem rS_eq (h : Fin 8) : rS R.loads h = c3 fun _ a c => R.S h.val 256 a c := by
  unfold rS
  rw [sAt_eq _ _ _ (le_refl 4), cast_add]

end Reals

end Cert.Gdn
-- ==== Proof.Leaf.lean ====
/- What one block leaves in the output, the states and the carried rows, as numbers of its inputs. -/
module

public import proofs.«01_k».proof.Proof.BridgeA
public import proofs.«01_k».proof.Proof.BridgeB
public import proofs.«01_k».proof.Proof.Block
public import Idealize.ShloMosaic.Lib.Pipeline.CanonAppend

@[expose] public section

noncomputable section

namespace Cert.Gdn

open Idealize.ShloMosaic Cert.KernelIdeal Cert.KernelIdeal.Gen

/-! ### Loads -/

/-- A load from a two-axis buffer of real numbers. -/
theorem rd2 {a b : ℕ} (m : Memref KernelIdeal.sig .tc .vmem ⟨2, ![a, b]⟩ .bf16) (hm : m.IsWhole) (X : ℕ → ℕ → ℝ) (o p a' b' : ℕ)
    (inb : ∀ x : Fin 2, (![o, p] : Fin 2 → ℕ) x + (![a', b'] : Fin 2 → ℕ) x ≤ (⟨2, ![a, b]⟩ : Shape).size x) :
    View.readAt (Elt Ideal) m.view (Rect.unit (s := ⟨2, ![a, b]⟩) ![o, p] ![a', b'] inb).toLoadRect
        (hm.unread (Val := Elt Ideal) (c2 X : FVec Ideal ⟨2, ![a, b]⟩ .bf16))
      = (c2 (fun i j => X (o + i) (p + j)) : FVec Ideal ⟨2, ![a', b']⟩ .bf16) := by
  rw [View.readAt_eq_ld, hm.read_unread, View.ld_unit]; rfl

/-- A load from a three-axis one. -/
theorem rd3 {a b d : ℕ} (m : Memref KernelIdeal.sig .tc .vmem ⟨3, ![a, b, d]⟩ .f32) (hm : m.IsWhole) (X : ℕ → ℕ → ℕ → ℝ)
    (o p q a' b' d' : ℕ)
    (inb : ∀ x : Fin 3, (![o, p, q] : Fin 3 → ℕ) x + (![a', b', d'] : Fin 3 → ℕ) x ≤ (⟨3, ![a, b, d]⟩ : Shape).size x) :
    View.readAt (Elt Ideal) m.view (Rect.unit (s := ⟨3, ![a, b, d]⟩) ![o, p, q] ![a', b', d'] inb).toLoadRect
        (hm.unread (Val := Elt Ideal) (c3 X : FVec Ideal ⟨3, ![a, b, d]⟩ .f32))
      = (c3 (fun i j k => X (o + i) (p + j) (q + k)) : FVec Ideal ⟨3, ![a', b', d']⟩ .f32) := by
  rw [View.readAt_eq_ld, hm.read_unread, View.ld_unit]; rfl

/-- A load after stores that leave real numbers. -/
theorem rdc3 {a b d : ℕ} (m : Memref KernelIdeal.sig .tc .vmem ⟨3, ![a, b, d]⟩ .f32)
    (L : List (View.Piece (Elt Ideal) ⟨3, ![a, b, d]⟩ .f32)) (X : ℕ → ℕ → ℕ → ℝ)
    (hL : View.canon L = (c3 X : FVec Ideal ⟨3, ![a, b, d]⟩ .f32)) (o p q a' b' d' : ℕ)
    (inb : ∀ x : Fin 3, (![o, p, q] : Fin 3 → ℕ) x + (![a', b', d'] : Fin 3 → ℕ) x ≤ (⟨3, ![a, b, d]⟩ : Shape).size x) :
    m.view.readCov L (Rect.unit (s := ⟨3, ![a, b, d]⟩) ![o, p, q] ![a', b', d'] inb).toLoadRect
      = (c3 (fun i j k => X (o + i) (p + j) (q + k)) : FVec Ideal ⟨3, ![a', b', d']⟩ .f32) := by
  rw [View.readCov_eq_canon', hL]
  show View.ld (Val := Elt Ideal) (e' := .f32) (c3 X : FVec Ideal ⟨3, ![a, b, d]⟩ .f32) (Rect.unit (s := ⟨3, ![a, b, d]⟩) ![o, p, q] ![a', b', d'] inb) = _
  rw [View.ld_unit]; rfl

/-- The whole of a two-axis buffer. -/
theorem rd2w {a b : ℕ} {e : EltTy} (m : Memref KernelIdeal.sig .tc .vmem ⟨2, ![a, b]⟩ e) (hm : m.IsWhole) (X : Vec Ideal ⟨2, ![a, b]⟩ e)
    (inb : ∀ x : Fin 2, (![0, 0] : Fin 2 → ℕ) x + (⟨2, ![a, b]⟩ : Shape).size x ≤ (⟨2, ![a, b]⟩ : Shape).size x) :
    View.readAt (Elt Ideal) m.view (Rect.unit (s := ⟨2, ![a, b]⟩) ![0, 0] (⟨2, ![a, b]⟩ : Shape).size inb).toLoadRect (hm.unread X) = X := by
  rw [View.readAt_eq_ld, hm.read_unread]
  exact View.ld_unit_zero (by funext x; fin_cases x <;> rfl) _ _

/-- One leading index of a three-axis buffer; -/
theorem rd3h {a b d : ℕ} (m : Memref KernelIdeal.sig .tc .vmem ⟨3, ![a, b, d]⟩ .f32) (hm : m.IsWhole) (X : ℕ → ℕ → ℕ → ℝ) (o : ℕ)
    (inb : ∀ x : Fin 3, (![o, 0, 0] : Fin 3 → ℕ) x + (![1, b, d] : Fin 3 → ℕ) x ≤ (⟨3, ![a, b, d]⟩ : Shape).size x) :
    View.readAt (Elt Ideal) m.view (Rect.unit (s := ⟨3, ![a, b, d]⟩) ![o, 0, 0] ![1, b, d] inb).toLoadRect
        (hm.unread (Val := Elt Ideal) (c3 X : FVec Ideal ⟨3, ![a, b, d]⟩ .f32))
      = (c3 (fun _ j k => X o j k) : FVec Ideal ⟨3, ![1, b, d]⟩ .f32) :=
  (rd3 m hm X o 0 0 1 b d inb).trans (c3_congr fun i hi j _ k _ => by
    rw [Nat.zero_add, Nat.zero_add, show o + i = o by omega])

/-- after stores. -/
theorem rdc3h {a b d : ℕ} (m : Memref KernelIdeal.sig .tc .vmem ⟨3, ![a, b, d]⟩ .f32)
    (L : List (View.Piece (Elt Ideal) ⟨3, ![a, b, d]⟩ .f32)) (X : ℕ → ℕ → ℕ → ℝ)
    (hL : View.canon L = (c3 X : FVec Ideal ⟨3, ![a, b, d]⟩ .f32)) (o : ℕ)
    (inb : ∀ x : Fin 3, (![o, 0, 0] : Fin 3 → ℕ) x + (![1, b, d] : Fin 3 → ℕ) x ≤ (⟨3, ![a, b, d]⟩ : Shape).size x) :
    m.view.readCov L (Rect.unit (s := ⟨3, ![a, b, d]⟩) ![o, 0, 0] ![1, b, d] inb).toLoadRect
      = (c3 (fun _ j k => X o j k) : FVec Ideal ⟨3, ![1, b, d]⟩ .f32) :=
  (rdc3 m L X hL o 0 0 1 b d inb).trans (c3_congr fun i hi j _ k _ => by
    rw [Nat.zero_add, Nat.zero_add, show o + i = o by omega])

/-- The numbers `P` in a box at `o p q`, `X` elsewhere. -/
def stored (o p q a' b' d' : ℕ) (P X : ℕ → ℕ → ℕ → ℝ) (i j k : ℕ) : ℝ :=
  if (o ≤ i ∧ i < o + a') ∧ (p ≤ j ∧ j < p + b') ∧ (q ≤ k ∧ k < q + d') then P (i - o) (j - p) (k - q) else X i j k

theorem stored_in (o p q a' b' d' : ℕ) (P X : ℕ → ℕ → ℕ → ℝ) (i j k : ℕ) (hi : i < a') (hj : j < b') (hk : k < d') :
    stored o p q a' b' d' P X (o + 1 * i) (p + 1 * j) (q + 1 * k) = P i j k := by
  unfold stored
  rw [Nat.one_mul, Nat.one_mul, Nat.one_mul, if_pos ⟨⟨by omega, by omega⟩, ⟨by omega, by omega⟩, by omega, by omega⟩,
    Nat.add_sub_cancel_left, Nat.add_sub_cancel_left, Nat.add_sub_cancel_left]

/-- One more store on top of real numbers. -/
theorem canon_store {a b d : ℕ} (L : List (View.Piece (Elt Ideal) ⟨3, ![a, b, d]⟩ .f32)) (X P : ℕ → ℕ → ℕ → ℝ)
    (hL : View.canon L = (c3 X : FVec Ideal ⟨3, ![a, b, d]⟩ .f32)) (o p q a' b' d' : ℕ)
    (inb : ∀ x : Fin 3, (![o, p, q] : Fin 3 → ℕ) x + (![a', b', d'] : Fin 3 → ℕ) x ≤ (⟨3, ![a, b, d]⟩ : Shape).size x)
    (w : FVec Ideal ⟨3, ![a', b', d']⟩ .f32) (hw : w = c3 P) :
    View.canon (⟨Rect.unit (s := ⟨3, ![a, b, d]⟩) ![o, p, q] ![a', b', d'] inb, w⟩ :: L)
      = (c3 (stored o p q a' b' d' P X) : FVec Ideal ⟨3, ![a, b, d]⟩ .f32) := by
  subst hw
  funext y
  by_cases hm : y ∈ (Rect.unit (s := ⟨3, ![a, b, d]⟩) ![o, p, q] ![a', b', d'] inb).set
  · obtain ⟨x, rfl⟩ := (Rect.unit (s := ⟨3, ![a, b, d]⟩) ![o, p, q] ![a', b', d'] inb).exists_idx_of_mem hm
    rw [show ∀ r : Rect ⟨3, ![a, b, d]⟩, ∀ x, r.idx x = r.emb x from fun _ _ => rfl, View.canon_cons_emb]
    have h0 : (x 0).val < a' := (x 0).isLt
    have h1 : (x 1).val < b' := (x 1).isLt
    have h2 : (x 2).val < d' := (x 2).isLt
    exact congrArg (fun r : ℝ => (r : EReal)) (stored_in o p q a' b' d' P X (x 0).val (x 1).val (x 2).val h0 h1 h2).symm
  · have hn := View.canon_cons_of_not_mem (Val := Elt Ideal) (e := .f32)
      (⟨Rect.unit (s := ⟨3, ![a, b, d]⟩) ![o, p, q] ![a', b', d'] inb, (c3 P : FVec Ideal ⟨3, ![a', b', d']⟩ .f32)⟩ :
        View.Piece (Elt Ideal) ⟨3, ![a, b, d]⟩ .f32) L (y := y) hm
    refine hn.trans ((congrFun hL y).trans ?_)
    refine congrArg (fun r : ℝ => (r : EReal)) (Eq.symm (if_neg ?_))
    rintro ⟨h0, h1, h2⟩
    refine hm ((Rect.mem_set_unit (inb := inb)).mpr fun x => ?_)
    fin_cases x
    · exact h0
    · exact h1
    · exact h2

/-- Zeros stored over a whole buffer. -/
theorem canon_zero {a b d : ℕ} (inb : ∀ x : Fin 3, (![0, 0, 0] : Fin 3 → ℕ) x + (⟨3, ![a, b, d]⟩ : Shape).size x ≤ (⟨3, ![a, b, d]⟩ : Shape).size x)
    (w : FVec Ideal ⟨3, ![a, b, d]⟩ .f32) (hw : w = broadcast ⟨3, ![a, b, d]⟩ (Scalar.ofBits (F := Ideal) .f32 0x00000000#32)) :
    View.canon (Val := Elt Ideal) (e := .f32) [⟨Rect.unit (s := ⟨3, ![a, b, d]⟩) ![0, 0, 0] (⟨3, ![a, b, d]⟩ : Shape).size inb, w⟩]
      = (c3 (fun _ _ _ => 0) : FVec Ideal ⟨3, ![a, b, d]⟩ .f32) := by
  rw [View.canon_unit_zero (by funext x; fin_cases x <;> rfl), hw]
  funext y
  exact Ideal.ofBits_zero_f32

/-! ### The gates, laid out a row per chunk and head -/

theorem rowPay (sm : ℕ → ℕ → ℝ) (o p : ℕ) (hs : Shape.Slices ⟨2, ![128, 256]⟩ ![o, p] ⟨2, ![8, 64]⟩)
    (ht : Shape.Transposes ⟨2, ![256, 128]⟩ [1, 0] ⟨2, ![128, 256]⟩) (hc : Shape.ShapeCasts ⟨2, ![8, 64]⟩ ⟨3, ![1, 8, 64]⟩) :
    shapeCast ⟨3, ![1, 8, 64]⟩ (extractStridedSlice ⟨2, ![8, 64]⟩ ![o, p]
        (transpose ⟨2, ![128, 256]⟩ [1, 0] (c2 sm : V2 256 128) ht) hs) hc
      = (c3 fun _ i j => sm (p + j) (o + i) : V3 1 8 64) := by
  rw [transpose_c2, slice_c2, cast_add]

/-- The stores that lay the gates out. -/
def rowPieces (x : V2 256 128) : List (View.Piece (Elt Ideal) S2x32x128 .f32) :=
  [⟨Rect.unit ![1, 24, 0] ![1, 8, 64] inb_S2x32x128_S1x8x64_1_24_0, k0_pay54 (F := Ideal) (k0_pay44 (F := Ideal) x)⟩,
    ⟨Rect.unit ![0, 24, 0] ![1, 8, 64] inb_S2x32x128_S1x8x64_0_24_0, k0_pay53 (F := Ideal) (k0_pay44 (F := Ideal) x)⟩,
    ⟨Rect.unit ![1, 16, 0] ![1, 8, 64] inb_S2x32x128_S1x8x64_1_16_0, k0_pay52 (F := Ideal) (k0_pay44 (F := Ideal) x)⟩,
    ⟨Rect.unit ![0, 16, 0] ![1, 8, 64] inb_S2x32x128_S1x8x64_0_16_0, k0_pay51 (F := Ideal) (k0_pay44 (F := Ideal) x)⟩,
    ⟨Rect.unit ![1, 8, 0] ![1, 8, 64] inb_S2x32x128_S1x8x64_1_8_0, k0_pay50 (F := Ideal) (k0_pay49 (F := Ideal) x)⟩,
    ⟨Rect.unit ![0, 8, 0] ![1, 8, 64] inb_S2x32x128_S1x8x64_0_8_0, k0_pay48 (F := Ideal) x⟩,
    ⟨Rect.unit ![1, 0, 0] ![1, 8, 64] inb_S2x32x128_S1x8x64_1_0_0, k0_pay47 (F := Ideal) x⟩,
    ⟨Rect.unit ![0, 0, 0] ![1, 8, 64] inb_S2x32x128_S1x8x64_0_0_0, k0_pay46 (F := Ideal) x⟩,
    ⟨Rect.unit ![0, 0, 0] S2x32x128.size inb_S2x32x128_S2x32x128_0_0_0, k0_pay45 (F := Ideal)⟩]

set_option maxHeartbeats 1000000 in
/-- What they leave: token `64 c + j`'s gate of head `h` at row `8 c + h`, column `j`; zeros past column 64. -/
theorem rowPieces_canon (sm : ℕ → ℕ → ℝ) :
    View.canon (rowPieces (c2 sm))
      = (c3 (fun i r j => if j < 64 then sm (64 * (r / 8) + j) (80 + 8 * i + r % 8) else 0) : V3 2 32 128) := by
  have z := canon_zero inb_S2x32x128_S2x32x128_0_0_0 (k0_pay45 (F := Ideal)) (by unfold k0_pay45; exact cast_same _ _)
  have s1 := canon_store _ _ _ z 0 0 0 1 8 64 inb_S2x32x128_S1x8x64_0_0_0 (k0_pay46 (c2 sm)) (rowPay sm 80 0 _ _ _)
  have s2 := canon_store _ _ _ s1 1 0 0 1 8 64 inb_S2x32x128_S1x8x64_1_0_0 (k0_pay47 (c2 sm)) (rowPay sm 88 0 _ _ _)
  have s3 := canon_store _ _ _ s2 0 8 0 1 8 64 inb_S2x32x128_S1x8x64_0_8_0 (k0_pay48 (c2 sm)) (rowPay sm 80 64 _ _ _)
  have s4 := canon_store _ _ _ s3 1 8 0 1 8 64 inb_S2x32x128_S1x8x64_1_8_0 (k0_pay50 (k0_pay49 (F := Ideal) (c2 sm : V2 256 128))) (rowPay sm 88 64 slices_S128x256_o88_64_S8x64 transposes_S256x128_p1_0_S128x256 shapeCasts_S8x64_S1x8x64)
  have s5 := canon_store _ _ _ s4 0 16 0 1 8 64 inb_S2x32x128_S1x8x64_0_16_0 (k0_pay51 (k0_pay44 (F := Ideal) (c2 sm : V2 256 128))) (rowPay sm 80 128 _ _ _)
  have s6 := canon_store _ _ _ s5 1 16 0 1 8 64 inb_S2x32x128_S1x8x64_1_16_0 (k0_pay52 (k0_pay44 (F := Ideal) (c2 sm : V2 256 128))) (rowPay sm 88 128 _ _ _)
  have s7 := canon_store _ _ _ s6 0 24 0 1 8 64 inb_S2x32x128_S1x8x64_0_24_0 (k0_pay53 (k0_pay44 (F := Ideal) (c2 sm : V2 256 128))) (rowPay sm 80 192 _ _ _)
  have s8 := canon_store _ _ _ s7 1 24 0 1 8 64 inb_S2x32x128_S1x8x64_1_24_0 (k0_pay54 (k0_pay44 (F := Ideal) (c2 sm : V2 256 128))) (rowPay sm 88 192 _ _ _)
  refine s8.trans (c3_congr fun i hi r hr j hj => ?_)
  by_cases hj' : j < 64
  · have e : ∀ o p P Q : ℕ, p = 64 * (r / 8) → o + P = 80 + 8 * i + r % 8 → Q = j → sm (p + Q) (o + P) = sm (64 * (r / 8) + j) (80 + 8 * i + r % 8) := by
      intro o p P Q h1 h2 h3; rw [h1, h2, h3]
    rw [if_pos hj']
    simp only [stored]
    split_ifs <;> first | (refine e _ _ _ _ ?_ ?_ ?_ <;> omega) | omega
  · rw [if_neg hj']
    simp only [stored]
    split_ifs <;> first | rfl | omega

/-! ### A block's inputs and what it leaves -/

/-- A block's inputs as real numbers, the small projections whole. -/
structure Blk where
  xq : ℕ → ℕ → ℝ
  xk : ℕ → ℕ → ℝ
  xv : ℕ → ℕ → ℝ
  z : ℕ → ℕ → ℝ
  wq : ℕ → ℕ → ℝ
  wk : ℕ → ℕ → ℝ
  wv : ℕ → ℕ → ℝ
  sm : ℕ → ℕ → ℝ
  al : ℕ → ℝ
  dt : ℕ → ℝ
  ng : ℕ → ℝ

/-- With the states `S` and the carried rows `H` it starts from. -/
def Blk.reals (X : Blk) (S H : ℕ → ℕ → ℕ → ℝ) : Reals where
  xq := X.xq
  xk := X.xk
  xv := X.xv
  hq := H 0
  hk := H 1
  hv := H 2
  wq := X.wq
  wk := X.wk
  wv := X.wv
  al := X.al
  dt := X.dt
  ga := fun t h => X.sm t (80 + h)
  gb := fun t h => X.sm t (88 + h)
  ng := X.ng
  z := X.z
  s := S

/-- What the block's stores leave in the output; -/
theorem canon_out (R : Reals) : View.canon (List.map (outPc R.loads) [31, 30, 29, 28, 27, 26, 25, 24, 23, 22, 21, 20, 19, 18, 17, 16,
    15, 14, 13, 12, 11, 10, 9, 8, 7, 6, 5, 4, 3, 2, 1, 0]) = (c2 R.out : B2 256 1024) := by
  funext y
  refine View.canon_apply_of_pieces (Val := Elt Ideal) (e := .bf16) (c2 R.out : B2 256 1024) _ (fun p hp x => ?_) y ?_
  · obtain ⟨r, -, rfl⟩ := List.mem_map.mp hp
    show rOut R.loads r x = _
    rw [R.rOut_eq]
    have e0 : (((rectR r).emb x) 0).val = 64 * (r.val / 8) + 1 * (x 0).val := rfl
    have e1 : (((rectR r).emb x) 1).val = 128 * (r.val % 8) + 1 * (x 1).val := rfl
    show _ = ((R.out (((rectR r).emb x) 0).val (((rectR r).emb x) 1).val : ℝ) : EReal)
    rw [e0, e1, Nat.one_mul, Nat.one_mul]; rfl
  · have h0 : (y 0).val < 256 := (y 0).isLt
    have h1 : (y 1).val < 1024 := (y 1).isLt
    have key : ∀ r : Fin 32, r ∈ ([31, 30, 29, 28, 27, 26, 25, 24, 23, 22, 21, 20, 19, 18, 17, 16,
      15, 14, 13, 12, 11, 10, 9, 8, 7, 6, 5, 4, 3, 2, 1, 0] : List (Fin 32)) := by decide
    refine ⟨_, List.mem_map.mpr ⟨⟨8 * ((y 0).val / 64) + (y 1).val / 128, by omega⟩, key _, rfl⟩, ?_⟩
    refine (Rect.mem_set_unit (inb := inR _)).mpr fun x => ?_
    fin_cases x
    · show 64 * ((8 * ((y 0).val / 64) + (y 1).val / 128) / 8) ≤ (y 0).val ∧ (y 0).val < 64 * ((8 * ((y 0).val / 64) + (y 1).val / 128) / 8) + 64
      omega
    · show 128 * ((8 * ((y 0).val / 64) + (y 1).val / 128) % 8) ≤ (y 1).val ∧ (y 1).val < 128 * ((8 * ((y 0).val / 64) + (y 1).val / 128) % 8) + 128
      omega

/-- in the states; -/
theorem canon_st (R : Reals) (L : List (View.Piece (Elt Ideal) S8x128x128 .f32)) :
    View.canon (List.map (stPc R.loads) [7, 6, 5, 4, 3, 2, 1, 0] ++ L) = (c3 (fun h a c => R.S h 256 a c) : V3 8 128 128) := by
  funext y
  refine View.canon_append_of_pieces (Val := Elt Ideal) (e := .f32) (c3 (fun h a c => R.S h 256 a c) : V3 8 128 128) _ _ (fun p hp x => ?_) y ?_
  · obtain ⟨h, -, rfl⟩ := List.mem_map.mp hp
    show rS R.loads h x = _
    rw [R.rS_eq]
    have e0 : (((rectS h).emb x) 0).val = h.val + 1 * (x 0).val := rfl
    have e1 : (((rectS h).emb x) 1).val = 0 + 1 * (x 1).val := rfl
    have e2 : (((rectS h).emb x) 2).val = 0 + 1 * (x 2).val := rfl
    have h0 : (x 0).val < 1 := (x 0).isLt
    show _ = ((R.S (((rectS h).emb x) 0).val 256 (((rectS h).emb x) 1).val (((rectS h).emb x) 2).val : ℝ) : EReal)
    rw [e0, e1, e2, Nat.one_mul, Nat.one_mul, Nat.one_mul, Nat.zero_add, Nat.zero_add, show (x 0).val = 0 by omega]; rfl
  · have h0 : (y 0).val < 8 := (y 0).isLt
    have key : ∀ r : Fin 8, r ∈ ([7, 6, 5, 4, 3, 2, 1, 0] : List (Fin 8)) := by decide
    refine ⟨_, List.mem_map.mpr ⟨⟨(y 0).val, by omega⟩, key _, rfl⟩, ?_⟩
    refine (Rect.mem_set_unit (inb := inS _)).mpr fun x => ?_
    fin_cases x
    · show (y 0).val ≤ (y 0).val ∧ (y 0).val < (y 0).val + 1; omega
    · exact ⟨Nat.zero_le _, (y 1).isLt⟩
    · exact ⟨Nat.zero_le _, (y 2).isLt⟩

/-- The rows carried to the next block. -/
def Reals.ca (R : Reals) (a i j : ℕ) : ℝ := (if a = 0 then R.xq else if a = 1 then R.xk else R.xv) (248 + i) j

/-- and in the carried rows. -/
theorem canon_ca (R : Reals) (L : List (View.Piece (Elt Ideal) S3x8x1024 .f32)) :
    View.canon (List.map (caPc R.loads) [2, 1, 0] ++ L) = (c3 R.ca : V3 3 8 1024) := by
  funext y
  refine View.canon_append_of_pieces (Val := Elt Ideal) (e := .f32) (c3 R.ca : V3 3 8 1024) _ _ (fun p hp x => ?_) y ?_
  · obtain ⟨h, -, rfl⟩ := List.mem_map.mp hp
    have e0 : (((rectC h).emb x) 0).val = h.val + 1 * (x 0).val := rfl
    have e1 : (((rectC h).emb x) 1).val = 0 + 1 * (x 1).val := rfl
    have e2 : (((rectC h).emb x) 2).val = 0 + 1 * (x 2).val := rfl
    have h0 : (x 0).val < 1 := (x 0).isLt
    show _ = ((R.ca (((rectC h).emb x) 0).val (((rectC h).emb x) 1).val (((rectC h).emb x) 2).val : ℝ) : EReal)
    rw [e0, e1, e2, Nat.one_mul, Nat.one_mul, Nat.one_mul, Nat.zero_add, Nat.zero_add, show (x 0).val = 0 by omega]
    fin_cases h
    · exact congrFun (cCarry_c3 R.xq) x
    · exact congrFun (cCarry_c3 R.xk) x
    · exact congrFun (cCarry_c3 R.xv) x
  · have h0 : (y 0).val < 3 := (y 0).isLt
    have key : ∀ r : Fin 3, r ∈ ([2, 1, 0] : List (Fin 3)) := by decide
    refine ⟨_, List.mem_map.mpr ⟨⟨(y 0).val, by omega⟩, key _, rfl⟩, ?_⟩
    refine (Rect.mem_set_unit (inb := inC _)).mpr fun x => ?_
    fin_cases x
    · show (y 0).val ≤ (y 0).val ∧ (y 0).val < (y 0).val + 1; omega
    · exact ⟨Nat.zero_le _, (y 1).isLt⟩
    · exact ⟨Nat.zero_le _, (y 2).isLt⟩

section Cases

variable (c : Dev nD) (i : grid0.Coords) (arg2 : Memref KernelIdeal.sig .tc .vmem S256x1024 .bf16) (harg2 : arg2.IsWhole) (arg3 : Memref KernelIdeal.sig .tc .vmem S256x1024 .bf16) (harg3 : arg3.IsWhole) (arg4 : Memref KernelIdeal.sig .tc .vmem S256x1024 .bf16) (harg4 : arg4.IsWhole) (arg5 : Memref KernelIdeal.sig .tc .vmem S256x1024 .bf16) (harg5 : arg5.IsWhole) (arg6 : Memref KernelIdeal.sig .tc .vmem S4x1024 .f32) (harg6 : arg6.IsWhole) (arg7 : Memref KernelIdeal.sig .tc .vmem S4x1024 .f32) (harg7 : arg7.IsWhole) (arg8 : Memref KernelIdeal.sig .tc .vmem S4x1024 .f32) (harg8 : arg8.IsWhole) (arg9 : Memref KernelIdeal.sig .tc .vmem S256x128 .f32) (harg9 : arg9.IsWhole) (arg10 : Memref KernelIdeal.sig .tc .vmem S32x128 .f32) (harg10 : arg10.IsWhole) (arg11 : Memref KernelIdeal.sig .tc .vmem S32x128 .f32) (harg11 : arg11.IsWhole) (arg12 : Memref KernelIdeal.sig .tc .vmem S1x128 .f32) (harg12 : arg12.IsWhole) (arg13 : Memref KernelIdeal.sig .tc .vmem S256x1024 .bf16) (harg13 : arg13.IsWhole) (arg14 : Memref KernelIdeal.sig .tc .vmem S8x128x128 .f32) (harg14 : arg14.IsWhole) (arg15 : Memref KernelIdeal.sig .tc .vmem S3x8x1024 .f32) (harg15 : arg15.IsWhole) (arg16 : Memref KernelIdeal.sig .tc .vmem S2x32x128 .f32) (harg16 : arg16.IsWhole)
variable (X : Blk) (S H : ℕ → ℕ → ℕ → ℝ)

/-- A block's loads of the inputs alone. -/
theorem z_eq (r : Fin 32) : View.readAt (Elt Ideal) arg5.view (rectR r).toLoadRect (harg5.unread (Val := Elt Ideal) (c2 X.z : B2 256 1024))
    = (c2 (fun i j => X.z (64 * (r.val / 8) + i) (128 * (r.val % 8) + j)) : B2 64 128) := rd2 arg5 harg5 X.z _ _ _ _ _

/-- The gates' rows. -/
theorem rows_eq : View.canon (rowPieces (View.readAt (Elt Ideal) arg9.view
      (Rect.unit ![0, 0] S256x128.size inb_S256x128_S256x128_0_0).toLoadRect (harg9.unread (Val := Elt Ideal) (c2 X.sm : V2 256 128))))
    = (c3 (fun i r j => if j < 64 then X.sm (64 * (r / 8) + j) (80 + 8 * i + r % 8) else 0) : V3 2 32 128) := by
  refine (congrArg (fun x => View.canon (rowPieces x)) (rd2w arg9 harg9 (c2 X.sm) _)).trans (rowPieces_canon X.sm)

/-- The loads of a block after the first. -/
theorem loadsB_eq : loadsB c arg2 harg2 arg3 harg3 arg4 harg4 arg5 harg5 arg6 harg6 arg7 harg7 arg8 harg8 arg9 harg9 arg10 harg10 arg11 harg11 arg12 harg12 arg14 harg14 arg15 harg15 arg16 (c2 X.xq : B2 256 1024) (c2 X.xk : B2 256 1024) (c2 X.xv : B2 256 1024) (c2 X.z : B2 256 1024) (c2 X.wq : V2 4 1024) (c2 X.wk : V2 4 1024) (c2 X.wv : V2 4 1024) (c2 X.sm : V2 256 128) (c2 (fun i _ => X.al (i % 8)) : V2 32 128) (c2 (fun i _ => X.dt (i % 8)) : V2 32 128) (c2 (fun _ j => X.ng j) : V2 1 128) (c3 S : V3 8 128 128) (c3 H : V3 3 8 1024)
    = (X.reals S H).loads := by
  have hr : View.canon (kernelRun0_B.sl.HS2_9 (F := Ideal) c arg9 harg9 (c2 X.sm : V2 256 128))
      = (c3 (fun i r j => if j < 64 then X.sm (64 * (r / 8) + j) (80 + 8 * i + r % 8) else 0) : V3 2 32 128) := by
    have f : kernelRun0_B.sl.HS2_9 (F := Ideal) c arg9 harg9 (c2 X.sm : V2 256 128)
      = rowPieces (View.readAt (Elt Ideal) arg9.view (Rect.unit ![0, 0] S256x128.size inb_S256x128_S256x128_0_0).toLoadRect
          (harg9.unread (Val := Elt Ideal) (c2 X.sm : V2 256 128))) := by sl_kernel_rfl
    exact (congrArg View.canon f).trans (rows_eq arg9 harg9 X)
  unfold loadsB
  refine Loads.ext (rd2w arg2 harg2 (c2 X.xq) _) (rd2w arg3 harg3 (c2 X.xk) _) (rd2w arg4 harg4 (c2 X.xv) _) ?_ ?_ ?_ (rd2w arg6 harg6 (c2 X.wq) _)
    (rd2w arg7 harg7 (c2 X.wk) _) (rd2w arg8 harg8 (c2 X.wv) _) (rd2w arg10 harg10 (c2 (fun i _ => X.al (i % 8))) _)
    (rd2w arg11 harg11 (c2 (fun i _ => X.dt (i % 8))) _) ?_ ?_ (rd2w arg12 harg12 (c2 (fun _ j => X.ng j)) _) (funext fun r => z_eq arg5 harg5 X r)
    (funext fun h => ?_)
  · exact rd3h arg15 harg15 H 0 _
  · exact rd3h arg15 harg15 H 1 _
  · exact rd3h arg15 harg15 H 2 _
  · exact rdc3h arg16 _ _ hr 0 _
  · exact rdc3h arg16 _ _ hr 1 _
  · exact rd3h arg14 harg14 S h.val _

/-- The loads of a block that is the first. -/
theorem loadsA_eq : loadsA c arg2 harg2 arg3 harg3 arg4 harg4 arg5 harg5 arg6 harg6 arg7 harg7 arg8 harg8 arg9 harg9 arg10 harg10 arg11 harg11 arg12 harg12 arg14 arg15 arg16 (c2 X.xq : B2 256 1024) (c2 X.xk : B2 256 1024) (c2 X.xv : B2 256 1024) (c2 X.z : B2 256 1024) (c2 X.wq : V2 4 1024) (c2 X.wk : V2 4 1024) (c2 X.wv : V2 4 1024) (c2 X.sm : V2 256 128) (c2 (fun i _ => X.al (i % 8)) : V2 32 128) (c2 (fun i _ => X.dt (i % 8)) : V2 32 128) (c2 (fun _ j => X.ng j) : V2 1 128)
    = (X.reals (fun _ _ _ => 0) (fun _ _ _ => 0)).loads := by
  have hr : View.canon (kernelRun0_A.sl.HS2_9 (F := Ideal) c arg9 harg9 (c2 X.sm : V2 256 128))
      = (c3 (fun i r j => if j < 64 then X.sm (64 * (r / 8) + j) (80 + 8 * i + r % 8) else 0) : V3 2 32 128) := by
    have f : kernelRun0_A.sl.HS2_9 (F := Ideal) c arg9 harg9 (c2 X.sm : V2 256 128)
      = rowPieces (View.readAt (Elt Ideal) arg9.view (Rect.unit ![0, 0] S256x128.size inb_S256x128_S256x128_0_0).toLoadRect
          (harg9.unread (Val := Elt Ideal) (c2 X.sm : V2 256 128))) := by sl_kernel_rfl
    exact (congrArg View.canon f).trans (rows_eq arg9 harg9 X)
  have z1 : View.canon (kernelRun0_A.sl.HS1_1 (F := Ideal)) = (c3 (fun _ _ _ => 0) : V3 3 8 1024) :=
    canon_zero _ _ (by unfold k0_pay2; exact cast_same _ _)
  have z0 : View.canon (kernelRun0_A.sl.HS0_1 (F := Ideal)) = (c3 (fun _ _ _ => 0) : V3 8 128 128) :=
    canon_zero _ _ (by unfold k0_pay1; exact cast_same _ _)
  have p2 : k0_pay5 (F := Ideal) (View.readAt (Elt Ideal) arg2.view (Rect.unit ![0, 0] S256x1024.size inb_S256x1024_S256x1024_0_0).toLoadRect
      (harg2.unread (Val := Elt Ideal) (c2 X.xq : B2 256 1024))) = (c3 (fun _ i j => X.xq (248 + i) j) : V3 1 8 1024) :=
    (congrArg (k0_pay5 (F := Ideal)) (rd2w arg2 harg2 (c2 X.xq) _)).trans (cCarry_c3 X.xq)
  have p3 : k0_pay12 (F := Ideal) (View.readAt (Elt Ideal) arg3.view (Rect.unit ![0, 0] S256x1024.size inb_S256x1024_S256x1024_0_0).toLoadRect
      (harg3.unread (Val := Elt Ideal) (c2 X.xk : B2 256 1024))) = (c3 (fun _ i j => X.xk (248 + i) j) : V3 1 8 1024) :=
    (congrArg (k0_pay12 (F := Ideal)) (rd2w arg3 harg3 (c2 X.xk) _)).trans (cCarry_c3 X.xk)
  have z2 := canon_store (kernelRun0_A.sl.HS1_1 (F := Ideal)) _ _ z1 0 0 0 1 8 1024 inb_S3x8x1024_S1x8x1024_0_0_0 _ p2
  have z3 := canon_store (kernelRun0_A.sl.HS1_2 (F := Ideal) c arg2 harg2 (c2 X.xq : B2 256 1024)) _ _ z2 1 0 0 1 8 1024 inb_S3x8x1024_S1x8x1024_1_0_0 _ p3
  unfold loadsA
  refine Loads.ext (rd2w arg2 harg2 (c2 X.xq) _) (rd2w arg3 harg3 (c2 X.xk) _) (rd2w arg4 harg4 (c2 X.xv) _) ?_ ?_ ?_ (rd2w arg6 harg6 (c2 X.wq) _)
    (rd2w arg7 harg7 (c2 X.wk) _) (rd2w arg8 harg8 (c2 X.wv) _) (rd2w arg10 harg10 (c2 (fun i _ => X.al (i % 8))) _)
    (rd2w arg11 harg11 (c2 (fun i _ => X.dt (i % 8))) _) ?_ ?_ (rd2w arg12 harg12 (c2 (fun _ j => X.ng j)) _) (funext fun r => z_eq arg5 harg5 X r)
    (funext fun h => ?_)
  · exact rdc3h arg15 _ _ z1 0 _
  · exact (rdc3h arg15 _ _ z2 1 _).trans (c3_congr fun i _ j _ k _ => if_neg (by omega))
  · exact (rdc3h arg15 _ _ z3 2 _).trans (c3_congr fun i _ j _ k _ => (if_neg (by omega)).trans (if_neg (by omega)))
  · exact rdc3h arg16 _ _ hr 0 _
  · exact rdc3h arg16 _ _ hr 1 _
  · exact rdc3h arg14 _ _ z0 h.val _

theorem outB_eq (hc0 : ¬cond0_0 i) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (c2 X.xq : B2 256 1024) (c2 X.xk : B2 256 1024) (c2 X.xv : B2 256 1024) (c2 X.z : B2 256 1024) (c2 X.wq : V2 4 1024) (c2 X.wk : V2 4 1024) (c2 X.wv : V2 4 1024) (c2 X.sm : V2 256 128) (c2 (fun i _ => X.al (i % 8)) : V2 32 128) (c2 (fun i _ => X.dt (i % 8)) : V2 32 128) (c2 (fun _ j => X.ng j) : V2 1 128) (c3 S : V3 8 128 128) (c3 H : V3 3 8 1024)
    = (c2 (X.reals S H).out : B2 256 1024) := by
  unfold out0_B_11
  rw [View.read_writes_junk_eq_canon, outB, loadsB_eq]
  exact canon_out _

theorem stB_eq (hc0 : ¬cond0_0 i) : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (c2 X.xq : B2 256 1024) (c2 X.xk : B2 256 1024) (c2 X.xv : B2 256 1024) (c2 X.z : B2 256 1024) (c2 X.wq : V2 4 1024) (c2 X.wk : V2 4 1024) (c2 X.wv : V2 4 1024) (c2 X.sm : V2 256 128) (c2 (fun i _ => X.al (i % 8)) : V2 32 128) (c2 (fun i _ => X.dt (i % 8)) : V2 32 128) (c2 (fun _ j => X.ng j) : V2 1 128) (c3 S : V3 8 128 128) (c3 H : V3 3 8 1024)
    = (c3 fun h a d => (X.reals S H).S h 256 a d : V3 8 128 128) := by
  unfold sout0_B_0
  rw [View.read_writes_junk_eq_canon, stB, loadsB_eq]
  exact (congrArg View.canon (List.append_nil _).symm).trans (canon_st _ _)

theorem caB_eq (hc0 : ¬cond0_0 i) : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (c2 X.xq : B2 256 1024) (c2 X.xk : B2 256 1024) (c2 X.xv : B2 256 1024) (c2 X.z : B2 256 1024) (c2 X.wq : V2 4 1024) (c2 X.wk : V2 4 1024) (c2 X.wv : V2 4 1024) (c2 X.sm : V2 256 128) (c2 (fun i _ => X.al (i % 8)) : V2 32 128) (c2 (fun i _ => X.dt (i % 8)) : V2 32 128) (c2 (fun _ j => X.ng j) : V2 1 128) (c3 S : V3 8 128 128) (c3 H : V3 3 8 1024)
    = (c3 (X.reals S H).ca : V3 3 8 1024) := by
  unfold sout0_B_1
  rw [View.read_writes_junk_eq_canon, caB, loadsB_eq]
  exact (congrArg View.canon (List.append_nil _).symm).trans (canon_ca _ _)

theorem outA_eq (hc0 : cond0_0 i) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (c2 X.xq : B2 256 1024) (c2 X.xk : B2 256 1024) (c2 X.xv : B2 256 1024) (c2 X.z : B2 256 1024) (c2 X.wq : V2 4 1024) (c2 X.wk : V2 4 1024) (c2 X.wv : V2 4 1024) (c2 X.sm : V2 256 128) (c2 (fun i _ => X.al (i % 8)) : V2 32 128) (c2 (fun i _ => X.dt (i % 8)) : V2 32 128) (c2 (fun _ j => X.ng j) : V2 1 128)
    = (c2 (X.reals (fun _ _ _ => 0) (fun _ _ _ => 0)).out : B2 256 1024) := by
  unfold out0_A_11
  rw [View.read_writes_junk_eq_canon, outA, loadsA_eq]
  exact canon_out _

theorem stA_eq (hc0 : cond0_0 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (c2 X.xq : B2 256 1024) (c2 X.xk : B2 256 1024) (c2 X.xv : B2 256 1024) (c2 X.z : B2 256 1024) (c2 X.wq : V2 4 1024) (c2 X.wk : V2 4 1024) (c2 X.wv : V2 4 1024) (c2 X.sm : V2 256 128) (c2 (fun i _ => X.al (i % 8)) : V2 32 128) (c2 (fun i _ => X.dt (i % 8)) : V2 32 128) (c2 (fun _ j => X.ng j) : V2 1 128)
    = (c3 fun h a d => (X.reals (fun _ _ _ => 0) (fun _ _ _ => 0)).S h 256 a d : V3 8 128 128) := by
  unfold sout0_A_0
  rw [View.read_writes_junk_eq_canon, stA, loadsA_eq]
  exact canon_st _ _

theorem caA_eq (hc0 : cond0_0 i) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (c2 X.xq : B2 256 1024) (c2 X.xk : B2 256 1024) (c2 X.xv : B2 256 1024) (c2 X.z : B2 256 1024) (c2 X.wq : V2 4 1024) (c2 X.wk : V2 4 1024) (c2 X.wv : V2 4 1024) (c2 X.sm : V2 256 128) (c2 (fun i _ => X.al (i % 8)) : V2 32 128) (c2 (fun i _ => X.dt (i % 8)) : V2 32 128) (c2 (fun _ j => X.ng j) : V2 1 128)
    = (c3 (X.reals (fun _ _ _ => 0) (fun _ _ _ => 0)).ca : V3 3 8 1024) := by
  unfold sout0_A_1
  rw [View.read_writes_junk_eq_canon, caA, loadsA_eq]
  exact canon_ca _ _

end Cases

end Cert.Gdn
-- ==== Proof.Host.lean ====
/- What the kernel's windows hold at each point, on real inputs. -/
module

public import proofs.«01_k».proof.Proof.Leaf
public import proofs.«01_k».proof.Proof.Gen.KernelIdeal.Value

@[expose] public section

noncomputable section

namespace Cert.Gdn

open Idealize.ShloMosaic Idealize.ShloMosaic.TcCoe Cert.KernelIdeal Cert.KernelIdeal.Gen

/-- The arguments as numbers: the two projections, the convolution's weights, the decay's parameters, the norm's scale. -/
structure Nums where
  P : ℕ → ℕ → ℝ
  SM : ℕ → ℕ → ℝ
  W : ℕ → ℕ → ℝ
  AL : ℕ → ℝ
  DT : ℕ → ℝ
  NG : ℕ → ℝ

/-- Point `t`'s blocks. -/
def Nums.blk (N : Nums) (t : ℕ) : Blk where
  xq := fun i j => N.P (256 * t + i) j
  xk := fun i j => N.P (256 * t + i) (1024 + j)
  xv := fun i j => N.P (256 * t + i) (2048 + j)
  z := fun i j => N.P (256 * t + i) (3072 + j)
  wq := N.W
  wk := fun i j => N.W i (1024 + j)
  wv := fun i j => N.W i (2048 + j)
  sm := fun i j => N.SM (256 * t + i) j
  al := N.AL
  dt := N.DT
  ng := N.NG

variable (m : (ℓ : Loc nD τ KernelIdeal.sig) → Buf (Elt Ideal) ℓ) (c : Dev nD) (N : Nums)

/-- The kernel's arguments hold the numbers. -/
structure KHeld : Prop where
  h0 : (m ((c : Thread nD τ).loc main_arg0) : Vec Ideal S16384x7680 .bf16) = (c2 N.P : FVec Ideal S16384x7680 .bf16)
  h1 : (m ((c : Thread nD τ).loc main_arg1) : Vec Ideal S16384x128 .f32) = (c2 N.SM : FVec Ideal S16384x128 .f32)
  h2 : (m ((c : Thread nD τ).loc main_arg2) : Vec Ideal S1x4x3072 .f32) = (c3 (fun _ i j => N.W i j) : FVec Ideal S1x4x3072 .f32)
  h3 : (m ((c : Thread nD τ).loc main_arg3) : Vec Ideal S1x8 .f32) = (c2 (fun _ j => N.AL j) : FVec Ideal S1x8 .f32)
  h4 : (m ((c : Thread nD τ).loc main_arg4) : Vec Ideal S1x8 .f32) = (c2 (fun _ j => N.DT j) : FVec Ideal S1x8 .f32)
  h5 : (m ((c : Thread nD τ).loc main_arg5) : Vec Ideal S1x128 .f32) = (c2 (fun _ j => N.NG j) : FVec Ideal S1x128 .f32)

/-! ### The host's preparations -/

theorem V_v0 : (V m c main_v0 : Vec Ideal S4x3072 .f32)
    = shapeCast S4x3072 (m ((c : Thread nD τ).loc main_arg2) : Vec Ideal S1x4x3072 .f32) shapeCasts_S1x4x3072_S4x3072 := by
  unfold_abbrev_sides
  after_results
  rfl

/-- A parameter of each head on the rows of a chunk and head. -/
def rowsOf (v : Vec Ideal S1x8 .f32) : Vec Ideal S32x128 .f32 :=
  broadcastInDim S32x128 ![0, 1] bcast_S32x1_S32x128_0_1 (broadcastInDim S32x1 ![0] bcast_S32_S32x1_0
    (shapeCast S32 (broadcastInDim S4x8 ![0, 1] bcast_S1x8_S4x8_0_1 (shapeCast S1x8 (shapeCast S8 v shapeCasts_S1x8_S8) shapeCasts_S8_S1x8))
      shapeCasts_S4x8_S32))

theorem V_v6 : (V m c main_v6 : Vec Ideal S32x128 .f32) = rowsOf (m ((c : Thread nD τ).loc main_arg3)) := by
  unfold_abbrev_sides
  after_results
  rfl

theorem V_v12 : (V m c main_v12 : Vec Ideal S32x128 .f32) = rowsOf (m ((c : Thread nD τ).loc main_arg4)) := by
  unfold_abbrev_sides
  after_results
  rfl

theorem V_v14 : (V m c main_v14 : Vec Ideal S1x128 .f32)
    = shapeCast S1x128 (shapeCast S128 (m ((c : Thread nD τ).loc main_arg5) : Vec Ideal S1x128 .f32) shapeCasts_S1x128_S128) shapeCasts_S128_S1x128 := by
  unfold_abbrev_sides
  after_results
  rfl

/-- A parameter of each head, laid out: row `i` holds head `i % 8`'s. -/
theorem rowsOf_c2 (f : ℕ → ℝ) : rowsOf (c2 (fun _ j => f j) : FVec Ideal S1x8 .f32) = (c2 (fun i _ => f (i % 8)) : FVec Ideal S32x128 .f32) := by
  unfold rowsOf
  rw [shapeCast_shapeCast]
  funext y
  have hy : (y 0).val < 32 := (y 0).isLt
  refine (broadcastInDim_apply _ _ _ y (ValueIdx.ix2 (⟨(y 0).val, hy⟩ : Fin 32) (0 : Fin 1)) (fun a => ?_)).trans ?_
  · match a with
    | ⟨0, _⟩ => rfl
    | ⟨1, _⟩ => rfl
  refine (broadcastInDim_apply _ _ _ _ (ValueIdx.ix1 (⟨(y 0).val, hy⟩ : Fin 32)) (fun a => ?_)).trans ?_
  · match a with
    | ⟨0, _⟩ => rfl
  refine (shapeCast_apply _ _ _ (ValueIdx.ix2 (⟨(y 0).val / 8, by omega⟩ : Fin 4) (⟨(y 0).val % 8, by omega⟩ : Fin 8)) ?_).trans ?_
  · rw [Shape.rowMajor_val_two, Shape.rowMajor_val_one]
    show (y 0).val / 8 * 8 + (y 0).val % 8 = (y 0).val
    omega
  refine (broadcastInDim_apply _ _ _ _ (ValueIdx.ix2 (0 : Fin 1) (⟨(y 0).val % 8, by omega⟩ : Fin 8)) (fun a => ?_)).trans rfl
  match a with
  | ⟨0, _⟩ => rfl
  | ⟨1, _⟩ => rfl

variable {m c N}

theorem KHeld.v0 (h : KHeld m c N) : (V m c main_v0 : Vec Ideal S4x3072 .f32) = (c2 N.W : FVec Ideal S4x3072 .f32) := by
  rw [V_v0, h.h2]
  exact cast_drop (fun _ i j => N.W i j) _

theorem KHeld.v6 (h : KHeld m c N) : (V m c main_v6 : Vec Ideal S32x128 .f32) = (c2 (fun i _ => N.AL (i % 8)) : FVec Ideal S32x128 .f32) := by
  rw [V_v6, h.h3, rowsOf_c2]

theorem KHeld.v12 (h : KHeld m c N) : (V m c main_v12 : Vec Ideal S32x128 .f32) = (c2 (fun i _ => N.DT (i % 8)) : FVec Ideal S32x128 .f32) := by
  rw [V_v12, h.h4, rowsOf_c2]

theorem KHeld.v14 (h : KHeld m c N) : (V m c main_v14 : Vec Ideal S1x128 .f32) = (c2 (fun _ j => N.NG j) : FVec Ideal S1x128 .f32) := by
  rw [V_v14, h.h5, shapeCast_shapeCast]

/-! ### The windows' blocks -/

theorem KHeld.x0 (h : KHeld m c N) (t : Fin cfg0.N) :
    (X0_0 m c t : Vec Ideal S256x1024 .bf16) = (c2 (fun i j => N.P (256 * t.val + i) (j)) : FVec Ideal S256x1024 .bf16) := by
  have hi : win0_0.index t 0 = t.val ∧ win0_0.index t 1 = 0 := (by decide +kernel : ∀ t : Fin grid0.N, win0_0.index t 0 = t.val ∧ win0_0.index t 1 = 0) t
  funext j
  unfold X0_0 Pipeline.Window.fill
  rw [dif_pos (moved0_0 t j)]
  unfold iblk
  rw [View.read_apply]
  have hv : (V m c main_arg0 : Vec Ideal S16384x7680 .bf16) = (c2 N.P : FVec Ideal S16384x7680 .bf16) := (V_main_arg0 m c).trans h.h0
  refine (congrFun hv _).trans (congrArg (fun r : ℝ => (r : EReal)) (congrArg₂ N.P ?_ ?_))
  · show win0_0.index t 0 * 256 + 1 * (j 0).val = 256 * t.val + (j 0).val
    rw [hi.1]; omega
  · show win0_0.index t 1 * 1024 + 1 * (j 1).val = (j 1).val
    rw [hi.2]; omega

theorem KHeld.x1 (h : KHeld m c N) (t : Fin cfg0.N) :
    (X0_1 m c t : Vec Ideal S256x1024 .bf16) = (c2 (fun i j => N.P (256 * t.val + i) (1024 + j)) : FVec Ideal S256x1024 .bf16) := by
  have hi : win0_1.index t 0 = t.val ∧ win0_1.index t 1 = 1 := (by decide +kernel : ∀ t : Fin grid0.N, win0_1.index t 0 = t.val ∧ win0_1.index t 1 = 1) t
  funext j
  unfold X0_1 Pipeline.Window.fill
  rw [dif_pos (moved0_1 t j)]
  unfold iblk
  rw [View.read_apply]
  have hv : (V m c main_arg0 : Vec Ideal S16384x7680 .bf16) = (c2 N.P : FVec Ideal S16384x7680 .bf16) := (V_main_arg0 m c).trans h.h0
  refine (congrFun hv _).trans (congrArg (fun r : ℝ => (r : EReal)) (congrArg₂ N.P ?_ ?_))
  · show win0_1.index t 0 * 256 + 1 * (j 0).val = 256 * t.val + (j 0).val
    rw [hi.1]; omega
  · show win0_1.index t 1 * 1024 + 1 * (j 1).val = 1024 + (j 1).val
    rw [hi.2]; omega

theorem KHeld.x2 (h : KHeld m c N) (t : Fin cfg0.N) :
    (X0_2 m c t : Vec Ideal S256x1024 .bf16) = (c2 (fun i j => N.P (256 * t.val + i) (2048 + j)) : FVec Ideal S256x1024 .bf16) := by
  have hi : win0_2.index t 0 = t.val ∧ win0_2.index t 1 = 2 := (by decide +kernel : ∀ t : Fin grid0.N, win0_2.index t 0 = t.val ∧ win0_2.index t 1 = 2) t
  funext j
  unfold X0_2 Pipeline.Window.fill
  rw [dif_pos (moved0_2 t j)]
  unfold iblk
  rw [View.read_apply]
  have hv : (V m c main_arg0 : Vec Ideal S16384x7680 .bf16) = (c2 N.P : FVec Ideal S16384x7680 .bf16) := (V_main_arg0 m c).trans h.h0
  refine (congrFun hv _).trans (congrArg (fun r : ℝ => (r : EReal)) (congrArg₂ N.P ?_ ?_))
  · show win0_2.index t 0 * 256 + 1 * (j 0).val = 256 * t.val + (j 0).val
    rw [hi.1]; omega
  · show win0_2.index t 1 * 1024 + 1 * (j 1).val = 2048 + (j 1).val
    rw [hi.2]; omega

theorem KHeld.x3 (h : KHeld m c N) (t : Fin cfg0.N) :
    (X0_3 m c t : Vec Ideal S256x1024 .bf16) = (c2 (fun i j => N.P (256 * t.val + i) (3072 + j)) : FVec Ideal S256x1024 .bf16) := by
  have hi : win0_3.index t 0 = t.val ∧ win0_3.index t 1 = 3 := (by decide +kernel : ∀ t : Fin grid0.N, win0_3.index t 0 = t.val ∧ win0_3.index t 1 = 3) t
  funext j
  unfold X0_3 Pipeline.Window.fill
  rw [dif_pos (moved0_3 t j)]
  unfold iblk
  rw [View.read_apply]
  have hv : (V m c main_arg0 : Vec Ideal S16384x7680 .bf16) = (c2 N.P : FVec Ideal S16384x7680 .bf16) := (V_main_arg0 m c).trans h.h0
  refine (congrFun hv _).trans (congrArg (fun r : ℝ => (r : EReal)) (congrArg₂ N.P ?_ ?_))
  · show win0_3.index t 0 * 256 + 1 * (j 0).val = 256 * t.val + (j 0).val
    rw [hi.1]; omega
  · show win0_3.index t 1 * 1024 + 1 * (j 1).val = 3072 + (j 1).val
    rw [hi.2]; omega

theorem KHeld.b4 (h : KHeld m c N) (t : Fin cfg0.N) :
    (iblk m c 4 t : Vec Ideal S4x1024 .f32) = (c2 (fun i j => N.W i (j)) : FVec Ideal S4x1024 .f32) := by
  have hi : win0_4.index t 0 = 0 ∧ win0_4.index t 1 = 0 := (by decide +kernel : ∀ t : Fin grid0.N, win0_4.index t 0 = 0 ∧ win0_4.index t 1 = 0) t
  funext j
  unfold iblk
  rw [View.read_apply]
  have hv : (V m c main_v0 : Vec Ideal S4x3072 .f32) = (c2 (N.W) : FVec Ideal S4x3072 .f32) := h.v0
  refine (congrFun hv _).trans (congrArg (fun r : ℝ => (r : EReal)) (congrArg₂ (N.W) ?_ ?_))
  · show win0_4.index t 0 * 4 + 1 * (j 0).val = (j 0).val
    rw [hi.1]; omega
  · show win0_4.index t 1 * 1024 + 1 * (j 1).val = (j 1).val
    rw [hi.2]; omega

theorem KHeld.b5 (h : KHeld m c N) (t : Fin cfg0.N) :
    (iblk m c 5 t : Vec Ideal S4x1024 .f32) = (c2 (fun i j => N.W i (1024 + j)) : FVec Ideal S4x1024 .f32) := by
  have hi : win0_5.index t 0 = 0 ∧ win0_5.index t 1 = 1 := (by decide +kernel : ∀ t : Fin grid0.N, win0_5.index t 0 = 0 ∧ win0_5.index t 1 = 1) t
  funext j
  unfold iblk
  rw [View.read_apply]
  have hv : (V m c main_v0 : Vec Ideal S4x3072 .f32) = (c2 (N.W) : FVec Ideal S4x3072 .f32) := h.v0
  refine (congrFun hv _).trans (congrArg (fun r : ℝ => (r : EReal)) (congrArg₂ (N.W) ?_ ?_))
  · show win0_5.index t 0 * 4 + 1 * (j 0).val = (j 0).val
    rw [hi.1]; omega
  · show win0_5.index t 1 * 1024 + 1 * (j 1).val = 1024 + (j 1).val
    rw [hi.2]; omega

theorem KHeld.b6 (h : KHeld m c N) (t : Fin cfg0.N) :
    (iblk m c 6 t : Vec Ideal S4x1024 .f32) = (c2 (fun i j => N.W i (2048 + j)) : FVec Ideal S4x1024 .f32) := by
  have hi : win0_6.index t 0 = 0 ∧ win0_6.index t 1 = 2 := (by decide +kernel : ∀ t : Fin grid0.N, win0_6.index t 0 = 0 ∧ win0_6.index t 1 = 2) t
  funext j
  unfold iblk
  rw [View.read_apply]
  have hv : (V m c main_v0 : Vec Ideal S4x3072 .f32) = (c2 (N.W) : FVec Ideal S4x3072 .f32) := h.v0
  refine (congrFun hv _).trans (congrArg (fun r : ℝ => (r : EReal)) (congrArg₂ (N.W) ?_ ?_))
  · show win0_6.index t 0 * 4 + 1 * (j 0).val = (j 0).val
    rw [hi.1]; omega
  · show win0_6.index t 1 * 1024 + 1 * (j 1).val = 2048 + (j 1).val
    rw [hi.2]; omega

theorem KHeld.b7 (h : KHeld m c N) (t : Fin cfg0.N) :
    (iblk m c 7 t : Vec Ideal S256x128 .f32) = (c2 (fun i j => N.SM (256 * t.val + i) j) : FVec Ideal S256x128 .f32) := by
  have hi : win0_7.index t 0 = t.val ∧ win0_7.index t 1 = 0 := (by decide +kernel : ∀ t : Fin grid0.N, win0_7.index t 0 = t.val ∧ win0_7.index t 1 = 0) t
  funext j
  unfold iblk
  rw [View.read_apply]
  have hv : (V m c main_arg1 : Vec Ideal S16384x128 .f32) = (c2 (N.SM) : FVec Ideal S16384x128 .f32) := (V_main_arg1 m c).trans h.h1
  refine (congrFun hv _).trans (congrArg (fun r : ℝ => (r : EReal)) (congrArg₂ (N.SM) ?_ ?_))
  · show win0_7.index t 0 * 256 + 1 * (j 0).val = 256 * t.val + (j 0).val
    rw [hi.1]; omega
  · show win0_7.index t 1 * 128 + 1 * (j 1).val = (j 1).val
    rw [hi.2]; omega

theorem KHeld.b8 (h : KHeld m c N) (t : Fin cfg0.N) :
    (iblk m c 8 t : Vec Ideal S32x128 .f32) = (c2 (fun i _ => N.AL (i % 8)) : FVec Ideal S32x128 .f32) := by
  have hi : win0_8.index t 0 = 0 ∧ win0_8.index t 1 = 0 := (by decide +kernel : ∀ t : Fin grid0.N, win0_8.index t 0 = 0 ∧ win0_8.index t 1 = 0) t
  funext j
  unfold iblk
  rw [View.read_apply]
  have hv : (V m c main_v6 : Vec Ideal S32x128 .f32) = (c2 (fun i _ => N.AL (i % 8)) : FVec Ideal S32x128 .f32) := h.v6
  refine (congrFun hv _).trans (congrArg (fun i : ℕ => ((N.AL (i % 8) : ℝ) : EReal)) (?_ : win0_8.index t 0 * 32 + 1 * (j 0).val = (j 0).val))
  rw [hi.1]; omega

theorem KHeld.b9 (h : KHeld m c N) (t : Fin cfg0.N) :
    (iblk m c 9 t : Vec Ideal S32x128 .f32) = (c2 (fun i _ => N.DT (i % 8)) : FVec Ideal S32x128 .f32) := by
  have hi : win0_9.index t 0 = 0 ∧ win0_9.index t 1 = 0 := (by decide +kernel : ∀ t : Fin grid0.N, win0_9.index t 0 = 0 ∧ win0_9.index t 1 = 0) t
  funext j
  unfold iblk
  rw [View.read_apply]
  have hv : (V m c main_v12 : Vec Ideal S32x128 .f32) = (c2 (fun i _ => N.DT (i % 8)) : FVec Ideal S32x128 .f32) := h.v12
  refine (congrFun hv _).trans (congrArg (fun i : ℕ => ((N.DT (i % 8) : ℝ) : EReal)) (?_ : win0_9.index t 0 * 32 + 1 * (j 0).val = (j 0).val))
  rw [hi.1]; omega

theorem KHeld.b10 (h : KHeld m c N) (t : Fin cfg0.N) :
    (iblk m c 10 t : Vec Ideal S1x128 .f32) = (c2 (fun _ j => N.NG j) : FVec Ideal S1x128 .f32) := by
  have hi : win0_10.index t 0 = 0 ∧ win0_10.index t 1 = 0 := (by decide +kernel : ∀ t : Fin grid0.N, win0_10.index t 0 = 0 ∧ win0_10.index t 1 = 0) t
  funext j
  unfold iblk
  rw [View.read_apply]
  have hv : (V m c main_v14 : Vec Ideal S1x128 .f32) = (c2 (fun _ j => N.NG j) : FVec Ideal S1x128 .f32) := h.v14
  refine (congrFun hv _).trans (congrArg (fun i : ℕ => ((N.NG i : ℝ) : EReal)) (?_ : win0_10.index t 1 * 128 + 1 * (j 1).val = (j 1).val))
  rw [hi.2]; omega

end Cert.Gdn
-- ==== Proof.Finite.lean ====
/- Finite arguments are arrays of real numbers. -/
module

public import proofs.«01_k».proof.Defs
public import proofs.«01_k».proof.Proof.Host
public import Idealize.ShloMosaic.Lib.ReduceAll

@[expose] public section

noncomputable section

namespace Cert.Gdn

open Idealize.ShloMosaic Idealize.ShloMosaic.TcCoe

/-- The relations between shapes that the precondition's operations take. -/
theorem pre_facts : Cert.Pre_finite.Facts where
  bcast_S_S16384x7680 := by decide
  reducesTo_S16384x7680_S_d0_1 := by decide
  h_S_ := by decide
  bcast_S_S16384x128 := by decide
  reducesTo_S16384x128_S_d0_1 := by decide
  bcast_S_S1x4x3072 := by decide
  reducesTo_S1x4x3072_S_d0_1_2 := by decide
  bcast_S_S1x8 := by decide
  reducesTo_S1x8_S_d0_1 := by decide
  bcast_S_S1x128 := by decide
  reducesTo_S1x128_S_d0_1 := by decide

theorem bits_inf : Ideal.ofBits .f32 0x7F800000#32 = ⊤ := by
  simp [Ideal.ofBits, Ideal.ieee]
theorem bits_inf_bf16 : Ideal.ofBits .bf16 0x7F80#16 = ⊤ := by
  simp [Ideal.ofBits, Ideal.ieee]

/-- A number whose absolute value is below infinity is real. -/
theorem real_of_lt (x : EReal) (h : max x (-x) < ⊤) : x = ((x.toReal : ℝ) : EReal) := by
  refine (EReal.coe_toReal ?_ ?_).symm
  · rintro rfl; simp at h
  · rintro rfl; simp at h

theorem and_one {a b : BitVec 1} (h : IntOp.andi a b = 1#1) : a = 1#1 ∧ b = 1#1 := by
  revert a b; decide

theorem all_one {s : Shape} {A B : IVec s 1} {i : s.Idx} (h : andi A B i = 1#1) : A i = 1#1 ∧ B i = 1#1 := and_one h

/-- An array all of whose absolute values are below infinity, by the printed test, is real. -/
theorem real_of_test {s u : Shape} {φ : FTy} [Subsingleton u.Idx] (x : FVec Ideal s φ) (w : BitVec φ.bits) (hw : Ideal.ofBits φ w = ⊤)
    {axes : List (Fin s.rank)} {dims : Fin u.rank → Fin s.rank} (hb : u.BroadcastsInDim s dims) (hr : s.ReducesTo axes u) (hu : 0 < u.numel) (j : u.Idx)
    (h : Host.reduce IntOp.andi (cmpf .olt (Host.absf x) (broadcastInDim s dims hb (constant u φ w : FVec Ideal u φ))) (constantI u 1 1#1) hr hu j = 1#1)
    (i : s.Idx) : x i = (((x i : EReal).toReal : ℝ) : EReal) := by
  have e := Host.reduce_andi_all _ _ _ _ j h i
  refine real_of_lt _ ?_
  by_contra hc
  have e' : BitVec.ofBool (decide (max (x i : EReal) (-(x i : EReal)) < Ideal.ofBits φ w)) = 1#1 := e
  rw [hw, decide_eq_false hc] at e'
  exact absurd e' (by decide)

/-! ### The numbers an array holds -/

def at2 {a b : ℕ} {φ : FTy} (x : FVec Ideal ⟨2, ![a, b]⟩ φ) (i j : ℕ) : ℝ :=
  if h : i < a ∧ j < b then EReal.toReal (x (ValueIdx.ix2 ⟨i, h.1⟩ ⟨j, h.2⟩)) else 0
def at3 {a b c : ℕ} {φ : FTy} (x : FVec Ideal ⟨3, ![a, b, c]⟩ φ) (i j k : ℕ) : ℝ :=
  if h : i < a ∧ j < b ∧ k < c then EReal.toReal (x (ValueIdx.ix3 ⟨i, h.1⟩ ⟨j, h.2.1⟩ ⟨k, h.2.2⟩)) else 0

theorem at2_eq {a b : ℕ} {φ : FTy} (x : FVec Ideal ⟨2, ![a, b]⟩ φ) (h : ∀ i, x i = (((x i : EReal).toReal : ℝ) : EReal)) :
    x = c2 (at2 x) := by
  funext i
  have e : ValueIdx.ix2 (⟨(i 0).val, (i 0).isLt⟩ : Fin a) (⟨(i 1).val, (i 1).isLt⟩ : Fin b) = i := by
    funext k; match k with
    | ⟨0, _⟩ => rfl
    | ⟨1, _⟩ => rfl
  refine (h i).trans ?_
  show _ = ((at2 x (i 0).val (i 1).val : ℝ) : EReal)
  unfold at2
  rw [dif_pos ⟨(i 0).isLt, (i 1).isLt⟩, e]

theorem at3_eq {a b c : ℕ} {φ : FTy} (x : FVec Ideal ⟨3, ![a, b, c]⟩ φ) (h : ∀ i, x i = (((x i : EReal).toReal : ℝ) : EReal)) :
    x = c3 (at3 x) := by
  funext i
  have e : ValueIdx.ix3 (⟨(i 0).val, (i 0).isLt⟩ : Fin a) (⟨(i 1).val, (i 1).isLt⟩ : Fin b) (⟨(i 2).val, (i 2).isLt⟩ : Fin c) = i := by
    funext k; match k with
    | ⟨0, _⟩ => rfl
    | ⟨1, _⟩ => rfl
    | ⟨2, _⟩ => rfl
  refine (h i).trans ?_
  show _ = ((at3 x (i 0).val (i 1).val (i 2).val : ℝ) : EReal)
  unfold at3
  rw [dif_pos ⟨(i 0).isLt, (i 1).isLt, (i 2).isLt⟩, e]

theorem one_row {b : ℕ} {φ : FTy} (A : ℕ → ℕ → ℝ) : (c2 A : FVec Ideal ⟨2, ![1, b]⟩ φ) = c2 fun _ j => A 0 j :=
  c2_congr fun i hi j _ => by rw [Nat.lt_one_iff.1 hi]
theorem one_slab {b c : ℕ} {φ : FTy} (A : ℕ → ℕ → ℕ → ℝ) : (c3 A : FVec Ideal ⟨3, ![1, b, c]⟩ φ) = c3 fun _ j k => A 0 j k := by
  funext i
  have h0 : (i 0).val < 1 := (i 0).isLt
  show ((A (i 0).val (i 1).val (i 2).val : ℝ) : EReal) = ((A 0 (i 1).val (i 2).val : ℝ) : EReal)
  rw [Nat.lt_one_iff.1 h0]

/-- Under the precondition the kernel's arguments are real numbers. -/
theorem held_of_finite (m : (ℓ : Loc KernelIdeal.nD KernelIdeal.τ KernelIdeal.sig) → Buf (Elt Ideal) ℓ)
    (h : @Cert.Pre_KernelIdeal_finite pre_facts m) (c : Dev KernelIdeal.nD) : ∃ N : Nums, KHeld m c N := by
  have f := congrFun (h c) (Shape.Idx.first (s := Cert.Pre_finite.S_) pre_facts.h_S_)
  unfold Cert.Pre_finite.fn Cert.Pre_finite.fn_part1 at f
  dsimp only at f
  obtain ⟨f1, e5⟩ := all_one f
  clear f
  obtain ⟨f2, e4⟩ := all_one f1
  clear f1
  obtain ⟨f3, e3⟩ := all_one f2
  clear f2
  obtain ⟨f4, e2⟩ := all_one f3
  clear f3
  obtain ⟨e0, e1⟩ := all_one f4
  clear f4
  refine ⟨⟨at2 (φ := .bf16) (m ((c : Thread KernelIdeal.nD KernelIdeal.τ).loc KernelIdeal.main_arg0) : FVec Ideal KernelIdeal.S16384x7680 .bf16),
    at2 (φ := .f32) (m ((c : Thread KernelIdeal.nD KernelIdeal.τ).loc KernelIdeal.main_arg1) : FVec Ideal KernelIdeal.S16384x128 .f32),
    at3 (φ := .f32) (m ((c : Thread KernelIdeal.nD KernelIdeal.τ).loc KernelIdeal.main_arg2) : FVec Ideal KernelIdeal.S1x4x3072 .f32) 0,
    at2 (φ := .f32) (m ((c : Thread KernelIdeal.nD KernelIdeal.τ).loc KernelIdeal.main_arg3) : FVec Ideal KernelIdeal.S1x8 .f32) 0,
    at2 (φ := .f32) (m ((c : Thread KernelIdeal.nD KernelIdeal.τ).loc KernelIdeal.main_arg4) : FVec Ideal KernelIdeal.S1x8 .f32) 0,
    at2 (φ := .f32) (m ((c : Thread KernelIdeal.nD KernelIdeal.τ).loc KernelIdeal.main_arg5) : FVec Ideal KernelIdeal.S1x128 .f32) 0⟩, ?_, ?_, ?_, ?_, ?_, ?_⟩
  · exact at2_eq _ (real_of_test _ _ bits_inf_bf16 _ _ _ _ e0)
  · exact at2_eq _ (real_of_test _ _ bits_inf _ _ _ _ e1)
  · exact (at3_eq _ (real_of_test _ _ bits_inf _ _ _ _ e2)).trans (one_slab _)
  · exact (at2_eq _ (real_of_test _ _ bits_inf _ _ _ _ e3)).trans (one_row _)
  · exact (at2_eq _ (real_of_test _ _ bits_inf _ _ _ _ e4)).trans (one_row _)
  · exact (at2_eq _ (real_of_test _ _ bits_inf _ _ _ _ e5)).trans (one_row _)

end Cert.Gdn
-- ==== Proof.InSlab.lean ====
/- The input projection's column slabs, read at an entry. -/
module

public import proofs.«01_k».proof.Proof.Gen.KernelInIdeal.Skeleton
public import Idealize.ShloMosaic.Lib.Pointwise

@[expose] public section

set_option maxRecDepth 16384

noncomputable section

namespace Cert.In

open Idealize.ShloMosaic Idealize.ShloMosaic.TcCoe Idealize.SL.Sem
open Cert.KernelInIdeal Cert.KernelInIdeal.Gen

/-- A selection by a condition whose bit is a decided proposition. -/
theorem sel {α : Type} (c : BitVec 1) (p : Prop) [Decidable p] (hc : c = BitVec.ofBool (decide p)) (a b : α) :
    Scalar.select c a b = if p then a else b := by
  subst hc
  by_cases h : p <;> simp [h, Scalar.select]

/-- A lane is below a bound. -/
abbrev below (k : BitVec 32) (l : Fin 128) : BitVec 1 := IntOp.cmpi CmpIPredicate.slt (BitVec.ofNat 32 ↑l) k

/-- A lane's remainder by `n`, the sign rule included, is below `h`. -/
abbrev within (n h : BitVec 32) (l : Fin 128) : BitVec 1 :=
  IntOp.cmpi CmpIPredicate.slt
        (Scalar.select
          (IntOp.andi
            (IntOp.xori
              (IntOp.cmpi CmpIPredicate.slt
                (IntOp.remsi ArithUnit.vector (BitVec.ofNat 32 ↑l)
                  (Scalar.select (Scalar.cmpi CmpIPredicate.eq n 0#32) 1#32 n))
                0#32)
              (Scalar.cmpi CmpIPredicate.slt (Scalar.select (Scalar.cmpi CmpIPredicate.eq n 0#32) 1#32 n) 0#32))
            (IntOp.cmpi CmpIPredicate.ne
              (IntOp.remsi ArithUnit.vector (BitVec.ofNat 32 ↑l)
                (Scalar.select (Scalar.cmpi CmpIPredicate.eq n 0#32) 1#32 n))
              0#32))
          (IntOp.addi
            (IntOp.remsi ArithUnit.vector (BitVec.ofNat 32 ↑l)
              (Scalar.select (Scalar.cmpi CmpIPredicate.eq n 0#32) 1#32 n))
            (Scalar.select (Scalar.cmpi CmpIPredicate.eq n 0#32) 1#32 n))
          (IntOp.remsi ArithUnit.vector (BitVec.ofNat 32 ↑l)
            (Scalar.select (Scalar.cmpi CmpIPredicate.eq n 0#32) 1#32 n)))
        h

theorem below32 : ∀ l : Fin 128, below 32#32 l = BitVec.ofBool (decide (l.val < 32)) := by decide +kernel
theorem below64 : ∀ l : Fin 128, below 64#32 l = BitVec.ofBool (decide (l.val < 64)) := by decide +kernel
theorem within64_16 : ∀ l : Fin 128, within 64#32 16#32 l = BitVec.ofBool (decide (l.val % 64 < 16)) := by decide +kernel
theorem within64_8 : ∀ l : Fin 128, within 64#32 8#32 l = BitVec.ofBool (decide (l.val % 64 < 8)) := by decide +kernel
theorem within128_16 : ∀ l : Fin 128, within 128#32 16#32 l = BitVec.ofBool (decide (l.val < 16)) := by decide +kernel

variable (v tc ts : FVec Ideal S256x128 .f32) (r : Fin 256) (l : Fin 128)

theorem t128c_apply : k0_pay4 tc (ix2 r l) = if l.val < 32 then tc (ix2 r l) else 1 := by
  pointwise [k0_pay4, k0_pay2]
  exact sel _ _ (below32 l) _ _

theorem t128s_apply : k0_pay6 ts (ix2 r l) = if l.val < 32 then ts (ix2 r l) else 0 := by
  pointwise [k0_pay6, k0_pay3]
  exact sel _ _ (below32 l) _ _

/-- The lane of the 64 wide heads' factors in the table: columns 32 to 47 for each head's first 16. -/
abbrev lane (l : Fin 128) : Fin 128 := ⟨(32 + l.val % 64) % 128, by omega⟩

theorem roll_lane (x : FVec Ideal S256x128 .f32) (h h' : _) : (if l.val < 64 then x (ix2 r ⟨(l.val + 128 - 96) % 128, h⟩) else x (ix2 r ⟨(l.val + 128 - 32) % 128, h'⟩))
    = x (ix2 r (lane l)) := by
  have := l.isLt
  split <;> congr 2 <;> ext <;> simp only [lane] <;> omega

theorem t64c_apply : k0_pay5 tc (ix2 r l) = if l.val % 64 < 16 then tc (ix2 r (lane l)) else 1 := by
  pointwise [k0_pay5, k0_pay2]
  refine (sel _ _ (within64_16 l) _ _).trans ?_
  rw [sel _ _ (below64 l), roll_lane]

theorem t64s_apply : k0_pay8 (k0_pay3 ts) (iota .tc S256x128 32 [1] iota_S256x128_d1_w32) (k0_pay7 ts) (ix2 r l) = if l.val % 64 < 16 then ts (ix2 r (lane l)) else 0 := by
  pointwise [k0_pay8, k0_pay3, k0_pay7]
  refine (sel _ _ (within64_16 l) _ _).trans ?_
  rw [sel _ _ (below64 l), roll_lane]

/-- The rotation of a head's first columns, at a column: the column times its cosine and the partner times its sine. -/
def rot (n h : ℕ) : EReal :=
  v (ix2 r l) * tc (ix2 r l)
    + (if l.val % n < h then v (ix2 r ⟨(l.val + h) % 128, Nat.mod_lt _ (by decide)⟩) else v (ix2 r ⟨(l.val + 128 - h) % 128, Nat.mod_lt _ (by decide)⟩)) * ts (ix2 r l)

theorem slabQ : k0_pay58 tc ts v (ix2 r l) = rot v tc ts r l 128 16 * Ideal.ofBits .f32 0x3E0293EE#32 := by
  pointwise [k0_pay58]
  rw [sel _ _ (within128_16 l)]
  simp only [rot, Nat.mod_eq_of_lt l.isLt, Nat.add_sub_assoc, Nat.reduceSub, Nat.reduceLeDiff]

theorem slabK : k0_pay82 tc ts v (iota .tc S256x128 32 [1] iota_S256x128_d1_w32) 128#32 (Scalar.cmpi .eq 128#32 0#32) (ix2 r l) = rot v tc ts r l 128 16 := by
  pointwise [k0_pay82]
  rw [sel _ _ (within128_16 l)]
  simp only [rot, Nat.mod_eq_of_lt l.isLt, Nat.add_sub_assoc, Nat.reduceSub, Nat.reduceLeDiff]

theorem slabI : k0_pay111 tc ts v (ix2 r l) = rot v tc ts r l 64 8 := by
  pointwise [k0_pay111]
  rw [sel _ _ (within64_8 l)]
  simp only [rot, Nat.add_sub_assoc, Nat.reduceSub, Nat.reduceLeDiff]

variable (h : FVec Ideal S256x2048 .bf16) (w : FVec Ideal S2048x128 .bf16)

/-- The small columns before their rotation. -/
def smallAcc : FVec Ideal S256x128 .f32 :=
  matmul dot_S256x2048_S2048x128_S256x128_1_0_0_1_n_n none h w (constant S256x128 .f32 0x00000000#32)

theorem smallAcc_apply : smallAcc h w (ix2 r l) = ∑ k : Fin 2048, h (ix2 r k) * w (ix2 k l) := by
  pointwise [smallAcc]

theorem small_apply : k0_pay10 tc ts h w (ix2 r l) =
    if l.val < 64 then rot (smallAcc h w) tc ts r l 64 8 else smallAcc h w (ix2 r l) := by
  have e : k0_pay10 tc ts h w = select (cmpi .slt (iota .tc S256x128 32 [1] iota_S256x128_d1_w32) (broadcast S256x128 64#32))
      (k0_pay111 tc ts (smallAcc h w) : FVec Ideal S256x128 .f32) (smallAcc h w) := by
    unfold k0_pay10 k0_pay111
    rw [shapeCast_self]
    rfl
  rw [e]
  pointwise
  rw [sel _ _ (below64 l)]
  congr 1
  exact slabI _ _ _ _ _

theorem h_apply (x : FVec Ideal S256x2048 .f32) (g : FVec Ideal S1x2048 .f32) (k : Fin 2048) : (k0_pay9 (F := Ideal) x g (ix2 r k) : EReal) =
    x (ix2 r k) * Ideal.rsqrt (Ideal.div (∑ k : Fin 2048, x (ix2 r k) * x (ix2 r k)) (Ideal.ofBits .f32 0x45000000#32)
        + Ideal.ofBits .f32 0x358637BD#32) * g (ix2 0 k) := by
  pointwise [k0_pay9]

theorem acc_apply (w : FVec Ideal S2048x512 .bf16) (j : Fin 512) : k0_pay12 h w (ix2 r j) = ∑ k : Fin 2048, h (ix2 r k) * w (ix2 k j) := by
  pointwise [k0_pay12]

end Cert.In
-- ==== Proof.InSpec.lean ====
/- The input projection's three results as functions of its arguments, entry by entry. -/
module

public import Idealize.ShloMosaic.Lib.Pointwise

@[expose] public section

noncomputable section

namespace Cert.In

open Idealize.ShloMosaic

abbrev SX : Shape := ⟨3, ![4, 4096, 2048]⟩
abbrev SP : Shape := ⟨2, ![4, 4096]⟩
abbrev SG : Shape := ⟨2, ![1, 2048]⟩
abbrev SW : Shape := ⟨3, ![1, 2048, 7776]⟩

variable (x : FVec Ideal SX .f32) (p : IVec SP 32) (g : FVec Ideal SG .f32) (w : FVec Ideal SW .f32)
variable (b : Fin 4) (t : Fin 4096)

/-- A token's entry `k`, normed by its mean square and scaled. -/
def H (k : Fin 2048) : EReal :=
  x (ix3 b t k) * Ideal.rsqrt (Ideal.div (∑ k : Fin 2048, x (ix3 b t k) * x (ix3 b t k)) (Ideal.ofBits .f32 0x45000000#32)
      + Ideal.ofBits .f32 0x358637BD#32) * g (ix2 0 k)

/-- A column of the projection. -/
abbrev col (j : ℕ) : Fin 7776 := ⟨j % 7776, Nat.mod_lt _ (by decide)⟩

/-- The projection's column `j` at a token. -/
def pr (j : ℕ) : EReal := ∑ k : Fin 2048, H x g b t k * w (ix3 0 k (col j))

/-- The rotation's frequency `k` of a half of length `d/2`, `d` given by its pattern. -/
def freq (d : BitVec 32) (k : ℕ) : EReal :=
  Ideal.pow (Ideal.ofBits .f32 0x48F42400#32) (-(Ideal.div ((((BitVec.ofNat 32 k).toInt : ℝ) : EReal) * Ideal.ofBits .f32 0x40000000#32) (Ideal.ofBits .f32 d)))

/-- The rotation's angle at a token. -/
def ang (d : BitVec 32) (k : ℕ) : EReal := (((p (ix2 b t)).toInt : ℝ) : EReal) * freq d k

/-- A head of the projection at column `c`, its column `l`: the first `2 h` columns rotated, the others as they are. -/
def rope (h : ℕ) (d : BitVec 32) (c l : ℕ) : EReal :=
  if l < h then pr x g w b t (c + l) * Ideal.cos (ang p b t d l) - pr x g w b t (c + (h + l)) * Ideal.sin (ang p b t d l)
  else if l < 2 * h then pr x g w b t (c + l) * Ideal.cos (ang p b t d (l - h)) + pr x g w b t (c + (l - h)) * Ideal.sin (ang p b t d (l - h))
  else pr x g w b t (c + l)

/-- The main result's entry. -/
def big (j : ℕ) : EReal :=
  if j < 4096 then pr x g w b t j
  else if j < 5120 then rope x p g w b t 16 0x42000000#32 (4112 + (j - 4096) / 128 * 128) ((j - 4096) % 128) * Ideal.ofBits .f32 0x3E0293EE#32
  else if j < 6144 then pr x g w b t (5648 + (j - 5120))
  else if j < 7168 then rope x p g w b t 8 0x41800000#32 (6672 + (j - 6144) / 64 * 64) ((j - 6144) % 64)
  else if j < 7424 then rope x p g w b t 16 0x42000000#32 (5136 + (j - 7168) / 128 * 128) ((j - 7168) % 128)
  else pr x g w b t (5392 + (j - 7424))

/-- The small result's entry. -/
def small (j : ℕ) : EReal :=
  if j < 64 then rope x p g w b t 8 0x41800000#32 7696 j
  else if j < 80 then pr x g w b t (7760 + (j - 64))
  else if j < 96 then pr x g w b t (4096 + (j - 80))
  else 0

/-- The batch and the token of a row. -/
abbrev bat (r : Fin 16384) : Fin 4 := ⟨r.val / 4096, by omega⟩
abbrev tok (r : Fin 16384) : Fin 4096 := ⟨r.val % 4096, by omega⟩

/-- The three results. -/
def GM : FVec Ideal (⟨2, ![16384, 7680]⟩ : Shape) .bf16 := fun i => big x p g w (bat (i 0)) (tok (i 0)) (i 1 : Fin 7680).val
def GS : FVec Ideal (⟨2, ![16384, 128]⟩ : Shape) .f32 := fun i => small x p g w (bat (i 0)) (tok (i 0)) (i 1 : Fin 128).val
def GK : FVec Ideal (⟨2, ![16384, 64]⟩ : Shape) .bf16 := fun i => rope x p g w (bat (i 0)) (tok (i 0)) 8 0x41800000#32 7696 (i 1 : Fin 64).val

end Cert.In
-- ==== Proof.InRot.lean ====
/- The input projection's rotated slabs against the rotation they compute. -/
module

public import proofs.«01_k».proof.Proof.InSlab
public import proofs.«01_k».proof.Proof.InSpec

@[expose] public section

set_option maxRecDepth 16384

noncomputable section

namespace Cert.In

open Idealize.ShloMosaic Idealize.ShloMosaic.TcCoe Idealize.SL.Sem
open Cert.KernelInIdeal Cert.KernelInIdeal.Gen

variable (x : FVec Ideal SX .f32) (p : IVec SP 32) (g : FVec Ideal SG .f32) (w : FVec Ideal SW .f32) (b : Fin 4) (t : Fin 4096)
variable (v T5 T6 : FVec Ideal S256x128 .f32) (r : Fin 256) (l : Fin 128) (o : ℕ)

/-- The tables' row at a token: the two rotations' cosines and signed sines. -/
structure Tab : Prop where
  c16 : ∀ l : Fin 128, l.val < 32 → T5 (ix2 r l) = Ideal.cos (ang p b t 0x42000000#32 (l.val % 16))
  s16 : ∀ l : Fin 128, l.val < 32 → T6 (ix2 r l) = Ideal.sin (ang p b t 0x42000000#32 (l.val % 16)) * (if l.val < 16 then -1 else 1)
  c8 : ∀ l : Fin 128, l.val % 64 < 16 → T5 (ix2 r (lane l)) = Ideal.cos (ang p b t 0x41800000#32 (l.val % 8))
  s8 : ∀ l : Fin 128, l.val % 64 < 16 → T6 (ix2 r (lane l)) = Ideal.sin (ang p b t 0x41800000#32 (l.val % 8)) * (if l.val % 64 < 8 then -1 else 1)

variable {p b t T5 T6 r}

theorem rot16 (h : Tab p b t T5 T6 r) (hv : ∀ l : Fin 128, v (ix2 r l) = pr x g w b t (o + l.val)) :
    rot v (k0_pay4 T5) (k0_pay6 T6) r l 128 16 = rope x p g w b t 16 0x42000000#32 o l.val := by
  have hl := l.isLt
  unfold rot rope
  simp only [t128c_apply, t128s_apply, hv, Nat.mod_eq_of_lt hl]
  by_cases h1 : l.val < 16
  · have e : (l.val + 16) % 128 = 16 + l.val := by omega
    have e' : l.val % 16 = l.val := by omega
    have h2 : l.val < 32 := by omega
    simp only [h1, h2, ↓reduceIte, h.c16 l h2, h.s16 l h2, e, e', mul_neg, mul_one, ← sub_eq_add_neg]
  · by_cases h2 : l.val < 32
    · have e : (l.val + 128 - 16) % 128 = l.val - 16 := by omega
      have e' : l.val % 16 = l.val - 16 := by omega
      simp only [h1, h2, Nat.reduceMul, ↓reduceIte, h.c16 l h2, h.s16 l h2, e, e', mul_one]
    · simp only [h1, h2, Nat.reduceMul, ↓reduceIte, mul_one, mul_zero, add_zero]

theorem rot8 (h : Tab p b t T5 T6 r) (hv : ∀ l : Fin 128, v (ix2 r l) = pr x g w b t (o + l.val)) :
    rot v (k0_pay5 T5) (k0_pay8 (k0_pay3 T6) (iota .tc S256x128 32 [1] iota_S256x128_d1_w32) (k0_pay7 T6)) r l 64 8
      = rope x p g w b t 8 0x41800000#32 (o + l.val / 64 * 64) (l.val % 64) := by
  have hl := l.isLt
  have e0 : o + l.val = o + l.val / 64 * 64 + l.val % 64 := by omega
  unfold rot rope
  rw [t64c_apply, t64s_apply]
  simp only [hv]
  by_cases h1 : l.val % 64 < 8
  · have e : o + (l.val + 8) % 128 = o + l.val / 64 * 64 + (8 + l.val % 64) := by omega
    have e' : l.val % 8 = l.val % 64 := by omega
    have h2 : l.val % 64 < 16 := by omega
    simp only [h1, h2, ↓reduceIte, h.c8 l h2, h.s8 l h2, e, e', mul_neg, mul_one, ← sub_eq_add_neg, ← e0]
  · by_cases h2 : l.val % 64 < 16
    · have e : o + (l.val + 128 - 8) % 128 = o + l.val / 64 * 64 + (l.val % 64 - 8) := by omega
      have e' : l.val % 8 = l.val % 64 - 8 := by omega
      simp only [h1, h2, Nat.reduceMul, ↓reduceIte, h.c8 l h2, h.s8 l h2, e, e', mul_one, ← e0]
    · simp only [h1, h2, Nat.reduceMul, ↓reduceIte, mul_one, mul_zero, add_zero, ← e0]

theorem segment (h : FVec Ideal S256x2048 .bf16) (W : FVec Ideal S2048x512 .bf16) (s : ℕ) (sl) (r : Fin 256) (hs : s + 128 ≤ 512) :
    extractStridedSlice S256x128 ![0, s] (k0_pay12 h W) sl (ix2 r l) = ∑ k : Fin 2048, h (ix2 r k) * W (ix2 k ⟨s + l.val, by omega⟩) := by
  refine Eq.trans ?_ (acc_apply r h W ⟨s + l.val, by omega⟩)
  pointwise

theorem ld_seg {n : ℕ} (W : Vec Ideal (⟨2, ![2048, n]⟩ : Shape) .bf16) (o : ℕ) (inb) (k : Fin 2048) (j : Fin 512) (ho : o + 512 ≤ n) :
    View.ld W (Rect.unit ![0, o] ![2048, 512] inb) (ix2 k j) = W (ix2 k ⟨o + j.val, by omega⟩) := by
  pointwise
  congr 1
  funext a
  apply Fin.ext
  fin_cases a
  · simp [Shape.Idx.norm, ix2]
  · simp [Shape.Idx.norm, ix2]

end Cert.In
-- ==== Proof.InTab.lean ====
/- The input projection's prepared arguments and the blocks the kernel reads of them. -/
module

public import proofs.«01_k».proof.Proof.Gen.KernelInIdeal.Value
public import proofs.«01_k».proof.Proof.InRot
public import Idealize.ShloMosaic.Lib.Pointwise
public import Idealize.ShloMosaic.Lib.Pipeline.ValueKit

@[expose] public section

set_option maxRecDepth 16384

noncomputable section

namespace Cert.In

open Idealize.ShloMosaic Idealize.ShloMosaic.TcCoe Idealize.SL.Sem
open Cert.KernelInIdeal Cert.KernelInIdeal.Gen

section Tables

abbrev bc (n : BitVec 32) : IVec S128 32 := broadcastInDim S128 ![] bcast_S_S128 (constantI S_ 32 n)
abbrev bf (n : BitVec 32) : FVec Ideal S128 .f32 := broadcastInDim S128 ![] bcast_S_S128 (constant S_ .f32 n : FVec Ideal S_ .f32)

/-- The lanes. -/
abbrev lanes : IVec S128 32 := iotaInDim S128 32 0

/-- A divisor, one in place of zero. -/
abbrev dvr (n : BitVec 32) : IVec S_ 32 := select (cmpi .eq (constantI S_ 32 n) (constantI S_ 32 0#32)) (constantI S_ 32 1#32) (constantI S_ 32 n)

/-- The lanes' remainders as the host takes them. -/
def remL (n : BitVec 32) : IVec S128 32 :=
  let d : IVec S128 32 := broadcastInDim S128 ![] bcast_S_S128 (dvr n)
  let a : IVec S128 32 := Host.remsi lanes d
  select (andi (cmpi .ne (cmpi .slt a (bc 0#32)) (broadcastInDim S128 ![] bcast_S_S128 (cmpi .slt (dvr n) (constantI S_ 32 0#32)))) (cmpi .ne a (bc 0#32)))
    (addi a d) a

/-- The frequencies of a rotation, one for each remainder. -/
def freqL (n d : BitVec 32) : FVec Ideal S128 .f32 :=
  Host.powf (bf 0x48F42400#32) (Host.negf (Host.divf (mulf (sitofp .f32 (remL n)) (bf 0x40000000#32)) (bf d)))

/-- The lanes' frequencies. -/
def freqs : FVec Ideal S128 .f32 :=
  select (cmpi .slt lanes (bc 32#32)) (freqL 16#32 0x42000000#32) (select (cmpi .slt lanes (bc 48#32)) (freqL 8#32 0x41800000#32) (bf 0x00000000#32))

/-- The lanes' signs. -/
def signs : FVec Ideal S128 .f32 :=
  select (select (cmpi .slt lanes (bc 32#32)) (cmpi .slt lanes (bc 16#32)) (cmpi .slt (subi lanes (bc 32#32)) (bc 8#32))) (bf 0xBF800000#32) (bf 0x3F800000#32)

/-- Each row's angles. -/
def angs (p : IVec SP 32) : FVec Ideal S16384x128 .f32 :=
  mulf (broadcastInDim S16384x128 ![0, 1] bcast_S16384x1_S16384x128_0_1 (shapeCast S16384x1 (sitofp .f32 p : FVec Ideal S4x4096 .f32) shapeCasts_S4x4096_S16384x1))
    (broadcastInDim S16384x128 ![0, 1] bcast_S1x128_S16384x128_0_1 (broadcastInDim S1x128 ![1] bcast_S128_S1x128_1 freqs))

theorem rem16 : ∀ l : Fin 128, remL 16#32 (ix1 l) = BitVec.ofNat 32 (l.val % 16) := by decide +kernel
theorem rem8 : ∀ l : Fin 128, remL 8#32 (ix1 l) = BitVec.ofNat 32 (l.val % 8) := by decide +kernel
theorem lt32 : ∀ l : Fin 128, cmpi .slt lanes (bc 32#32) (ix1 l) = BitVec.ofBool (decide (l.val < 32)) := by decide +kernel
theorem lt48 : ∀ l : Fin 128, cmpi .slt lanes (bc 48#32) (ix1 l) = BitVec.ofBool (decide (l.val < 48)) := by decide +kernel
theorem neg_lane : ∀ l : Fin 128, (select (cmpi .slt lanes (bc 32#32)) (cmpi .slt lanes (bc 16#32)) (cmpi .slt (subi lanes (bc 32#32)) (bc 8#32)) : IVec S128 1) (ix1 l)
    = BitVec.ofBool (decide (if l.val < 32 then l.val < 16 else l.val < 40)) := by decide +kernel

theorem freqL_apply (n d : BitVec 32) (l : Fin 128) (k : ℕ) (h : remL n (ix1 l) = BitVec.ofNat 32 k) : freqL n d (ix1 l) = freq d k := by
  unfold freqL freq
  pointwise
  rw [h]
  rfl

theorem freqs_apply (l : Fin 128) : freqs (ix1 l) = if l.val < 32 then freq 0x42000000#32 (l.val % 16) else if l.val < 48 then freq 0x41800000#32 (l.val % 8) else 0 := by
  refine Eq.trans (sel _ _ (lt32 l) _ _) ?_
  refine if_congr Iff.rfl (freqL_apply _ _ _ _ (rem16 l)) ?_
  refine Eq.trans (sel _ _ (lt48 l) _ _) ?_
  exact if_congr Iff.rfl (freqL_apply _ _ _ _ (rem8 l)) (Ideal.ofBits_zero_f32)

theorem signs_apply (l : Fin 128) : signs (ix1 l) = if (if l.val < 32 then l.val < 16 else l.val < 40) then -1 else 1 := by
  refine Eq.trans (sel _ _ (neg_lane l) _ _) ?_
  exact if_congr Iff.rfl (IdealRules.sign_bit.ideal_negOnePat .f32) Ideal.ofBits_one_f32

/-- A vector of the tokens as one column. -/
theorem column_eq {α : Type} (x : SP.Idx → α) (h : SP.ShapeCasts S16384x1) : shapeCast S16384x1 x h = fun i => x (ix2 (bat (i 0)) (tok (i 0))) := by
  funext i
  refine shapeCast_apply _ _ _ _ ?_
  rw [Shape.rowMajor_val_two, Shape.rowMajor_val_two]
  have h1 : (i 1).val < 1 := (i 1).isLt
  show (i 0).val / 4096 * 4096 + (i 0).val % 4096 = (i 0).val * 1 + (i 1).val
  rw [Nat.div_add_mod']
  omega

theorem angs_apply (p : IVec SP 32) (r : Fin 16384) (l : Fin 128) : angs p (ix2 r l) = (((p (ix2 (bat r) (tok r))).toInt : ℝ) : EReal) * freqs (ix1 l) := by
  unfold angs
  rw [column_eq]
  pointwise
  rfl

end Tables

/-- The tokens as rows. -/
theorem rows_eq (x : FVec Ideal SX .f32) (h : SX.ShapeCasts S16384x2048) : shapeCast S16384x2048 x h = fun i => x (ix3 (bat (i 0)) (tok (i 0)) (i 1)) := by
  funext i
  refine shapeCast_apply _ _ _ _ ?_
  rw [Shape.rowMajor_val_three, Shape.rowMajor_val_two]
  show ((i 0).val / 4096 * 4096 + (i 0).val % 4096) * 2048 + (i 1).val = (i 0).val * 2048 + (i 1).val
  rw [Nat.div_add_mod']

/-- The weights without the layers' axis. -/
theorem wmat_eq (w : FVec Ideal SW .f32) (h : SW.ShapeCasts S2048x7776) : shapeCast S2048x7776 w h = fun i => w (ix3 (0 : Fin 1) (i 0 : Fin 2048) (i 1 : Fin 7776)) := by
  funext i
  refine shapeCast_apply _ _ _ _ ?_
  rw [Shape.rowMajor_val_three, Shape.rowMajor_val_two]
  show (0 * 2048 + (i 0).val) * 7776 + (i 1).val = (i 0).val * 7776 + (i 1).val
  omega

/-- The weights at the narrow type. -/
def W16 (w : FVec Ideal SW .f32) : FVec Ideal S2048x7776 .bf16 := truncf .bf16 (shapeCast S2048x7776 w shapeCasts_S1x2048x7776_S2048x7776 : FVec Ideal S2048x7776 .f32) bitsLt_bf16_f32

theorem W16_apply (w : FVec Ideal SW .f32) (k : Fin 2048) (j : Fin 7776) : W16 w (ix2 k j) = w (ix3 0 k j) := by
  unfold W16
  rw [wmat_eq]
  rfl

variable (m : (ℓ : Loc nD τ Cert.KernelInIdeal.sig) → Buf (Elt Ideal) ℓ) (c : Dev nD)

/-- The kernel's arguments. -/
abbrev yX : FVec Ideal SX .f32 := m ((c : Thread nD τ).loc main_arg0)
abbrev yP : IVec SP 32 := m ((c : Thread nD τ).loc main_arg1)
abbrev yG : FVec Ideal SG .f32 := m ((c : Thread nD τ).loc main_arg2)
abbrev yW : FVec Ideal SW .f32 := m ((c : Thread nD τ).loc main_arg3)

theorem V_v7 : (V m c main_v7 : Vec Ideal S16384x2048 .f32) = shapeCast S16384x2048 (yX m c) shapeCasts_S4x4096x2048_S16384x2048 := by
  unfold_abbrev_sides
  simp only [hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  after_results
  rfl

theorem V_v9 : (V m c main_v9 : Vec Ideal S1x2048 .f32) = shapeCast S1x2048 (shapeCast S2048 (yG m c) shapeCasts_S1x2048_S2048 : FVec Ideal S2048 .f32) shapeCasts_S2048_S1x2048 := by
  unfold_abbrev_sides
  simp only [hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  after_results
  rfl

theorem V_v1 : (V m c main_v1 : Vec Ideal S2048x7776 .bf16) = W16 (yW m c) := by
  unfold_abbrev_sides
  simp only [hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  after_results
  rfl

theorem V_v2 : (V m c main_v2 : Vec Ideal S2048x3584 .bf16) = extractStridedSlice S2048x3584 ![0, 4112] (W16 (yW m c)) slices_S2048x7776_S2048x3584_0_4112 := by
  unfold_abbrev_sides
  simp only [hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  after_results
  rfl

theorem V_v6 : (V m c main_v6 : Vec Ideal S2048x128 .bf16) = concatenate S2048x128 1
    [⟨S2048x80, extractStridedSlice S2048x80 ![0, 7696] (W16 (yW m c)) slices_S2048x7776_S2048x80_0_7696⟩,
     ⟨S2048x16, extractStridedSlice S2048x16 ![0, 4096] (W16 (yW m c)) slices_S2048x7776_S2048x16_0_4096⟩,
     ⟨S2048x32, broadcastInDim S2048x32 ![] bcast_S_S2048x32 (constant S_ .bf16 0x0000#16 : FVec Ideal S_ .bf16)⟩] concatenates_S2048x80_S2048x16_S2048x32_S2048x128_d1 := by
  unfold_abbrev_sides
  simp only [hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  after_results
  rfl

theorem V_v52 : (V m c main_v52 : Vec Ideal S16384x128 .f32) = Host.cos (angs (yP m c)) := by
  unfold_abbrev_sides
  simp only [hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  after_results
  rfl

theorem V_v56 : (V m c main_v56 : Vec Ideal S16384x128 .f32) = mulf (Host.sin (angs (yP m c)))
    (broadcastInDim S16384x128 ![0, 1] bcast_S1x128_S16384x128_0_1 (broadcastInDim S1x128 ![1] bcast_S128_S1x128_1 signs)) := by
  unfold_abbrev_sides
  simp only [hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  after_results
  rfl

theorem idx : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0] ∧ win0_9.index t = ![t.val, 0] := by decide +kernel

variable (t : Fin grid0.N)

/-- The array's row of a block's row. -/
abbrev row (r : Fin 256) : Fin 16384 := ⟨256 * t.val + r.val, by have ht : t.val < 64 := t.isLt; omega⟩

theorem b0 (r : Fin 256) (k : Fin 2048) :
    (iblk m c 0 t : Vec Ideal S256x2048 .f32) (ix2 r k) = yX m c (ix3 (bat (row t r)) (tok (row t r)) k) := by
  refine Eq.trans (b := (V m c main_v7 : Vec Ideal S16384x2048 .f32) (ix2 (row t r) k)) ?_ ?_
  · blk_ext [iblk, (idx t).1]
  · rw [V_v7, rows_eq]; rfl

theorem b1 (k : Fin 2048) : (iblk m c 1 t : Vec Ideal S1x2048 .f32) (ix2 0 k) = yG m c (ix2 0 k) := by
  refine Eq.trans (b := (V m c main_v9 : Vec Ideal S1x2048 .f32) (ix2 0 k)) ?_ ?_
  · blk_ext [iblk, (idx t).2.1]
  · rw [V_v9]; pointwise

theorem b2 (k : Fin 2048) (j : Fin 4096) : (X0_2 m c t : Vec Ideal S2048x4096 .bf16) (ix2 k j) = yW m c (ix3 0 k (col j.val)) := by
  have hj : j.val < 7776 := by have := j.isLt; omega
  have e : col j.val = ⟨j.val, hj⟩ := Fin.ext (Nat.mod_eq_of_lt hj)
  rw [e]
  refine Eq.trans (b := (V m c main_v1 : Vec Ideal S2048x7776 .bf16) (ix2 k ⟨j.val, hj⟩)) ?_ ?_
  · unfold X0_2 Pipeline.Window.fill
    rw [dif_pos (moved0_2 t _)]
    blk_ext [iblk, (idx t).2.2.1]
  · rw [V_v1, W16_apply]

theorem b3 (k : Fin 2048) (j : Fin 3584) : (iblk m c 3 t : Vec Ideal S2048x3584 .bf16) (ix2 k j) = yW m c (ix3 0 k (col (4112 + j.val))) := by
  have hj : 4112 + j.val < 7776 := by have := j.isLt; omega
  have e : col (4112 + j.val) = ⟨4112 + j.val, hj⟩ := Fin.ext (Nat.mod_eq_of_lt hj)
  rw [e]
  refine Eq.trans (b := (V m c main_v2 : Vec Ideal S2048x3584 .bf16) (ix2 k j)) ?_ ?_
  · blk_ext [iblk, (idx t).2.2.2.1]
  · rw [V_v2]; pointwise; exact W16_apply _ _ _

theorem b4 (k : Fin 2048) (j : Fin 128) : (iblk m c 4 t : Vec Ideal S2048x128 .bf16) (ix2 k j)
    = if j.val < 80 then yW m c (ix3 0 k (col (7696 + j.val))) else if j.val < 96 then yW m c (ix3 0 k (col (4096 + (j.val - 80)))) else 0 := by
  refine Eq.trans (b := (V m c main_v6 : Vec Ideal S2048x128 .bf16) (ix2 k j)) ?_ ?_
  · blk_ext [iblk, (idx t).2.2.2.2.1]
  · rw [V_v6]
    pointwise
    have hj := j.isLt
    by_cases h1 : j.val < 80
    · have hj' : 7696 + j.val < 7776 := by omega
      have e : col (7696 + j.val) = ⟨7696 + j.val, hj'⟩ := Fin.ext (Nat.mod_eq_of_lt hj')
      rw [dif_pos h1, if_pos h1, e]
      exact W16_apply _ _ _
    · have hj' : 4096 + (j.val - 80) < 7776 := by omega
      have e : col (4096 + (j.val - 80)) = ⟨4096 + (j.val - 80), hj'⟩ := Fin.ext (Nat.mod_eq_of_lt hj')
      rw [dif_neg h1, if_neg h1, e]
      by_cases h2 : j.val < 96
      · have h3 : j.val - 80 < 16 := by omega
        rw [dif_pos h3, if_pos h2]
        exact W16_apply _ _ _
      · have h3 : ¬ j.val - 80 < 16 := by omega
        rw [dif_neg h3, if_neg h2]

theorem b5 (r : Fin 256) (l : Fin 128) : (iblk m c 5 t : Vec Ideal S256x128 .f32) (ix2 r l) = Ideal.cos (angs (yP m c) (ix2 (row t r) l)) := by
  refine Eq.trans (b := (V m c main_v52 : Vec Ideal S16384x128 .f32) (ix2 (row t r) l)) ?_ ?_
  · blk_ext [iblk, (idx t).2.2.2.2.2.1]
  · rw [V_v52]; rfl

set_option maxHeartbeats 1000000 in
theorem b6 (r : Fin 256) (l : Fin 128) :
    (iblk m c 6 t : Vec Ideal S256x128 .f32) (ix2 r l) = Ideal.sin (angs (yP m c) (ix2 (row t r) l)) * signs (ix1 l) := by
  refine Eq.trans (b := (V m c main_v56 : Vec Ideal S16384x128 .f32) (ix2 (row t r) l)) ?_ ?_
  · blk_ext [iblk, (idx t).2.2.2.2.2.2.1]
  · rw [V_v56]; pointwise

/-- The tables' row at a token. -/
theorem tab (r : Fin 256) : Tab (yP m c) (bat (row t r)) (tok (row t r)) (iblk m c 5 t) (iblk m c 6 t) r := by
  have hc := b5 m c t r
  have hs := b6 m c t r
  have h16 : ∀ l : Fin 128, l.val < 32 → angs (yP m c) (ix2 (row t r) l) = ang (yP m c) (bat (row t r)) (tok (row t r)) 0x42000000#32 (l.val % 16) := fun l h => by
    rw [angs_apply, freqs_apply, if_pos h]
    rfl
  have h8 : ∀ l : Fin 128, l.val % 64 < 16 → angs (yP m c) (ix2 (row t r) (lane l)) = ang (yP m c) (bat (row t r)) (tok (row t r)) 0x41800000#32 (l.val % 8) := fun l h => by
    have e1 : ¬ (32 + l.val % 64) % 128 < 32 := by omega
    have e2 : (32 + l.val % 64) % 128 < 48 := by omega
    have e3 : (32 + l.val % 64) % 128 % 8 = l.val % 8 := by omega
    rw [angs_apply, freqs_apply, if_neg e1, if_pos e2, e3]
    rfl
  refine ⟨fun l h => ?_, fun l h => ?_, fun l h => ?_, fun l h => ?_⟩
  · rw [hc, h16 l h]
  · rw [hs, h16 l h, signs_apply]
    simp only [h, ↓reduceIte]
  · rw [hc, h8 l h]
  · have e1 : ¬ (32 + l.val % 64) % 128 < 32 := by omega
    have e2 : (32 + l.val % 64) % 128 < 40 ↔ l.val % 64 < 8 := by omega
    rw [hs, h8 l h, signs_apply]
    simp only [e1, e2, ↓reduceIte]

/-- The normed tokens the kernel reads. -/
abbrev hh : FVec Ideal S256x2048 .bf16 := k0_pay9 (iblk m c 0 t) (iblk m c 1 t)

theorem hh_apply (r : Fin 256) (k : Fin 2048) : hh m c t (ix2 r k) = H (yX m c) (yG m c) (bat (row t r)) (tok (row t r)) k := by
  refine (h_apply r _ _ k).trans ?_
  simp only [b0, b1]
  rfl

end Cert.In
-- ==== Proof.InKern.lean ====
/- The input projection's kernel: its three whole arrays. -/
module

public import proofs.«01_k».proof.Proof.InTab
public import Idealize.ShloMosaic.Lib.Pointwise
public import Idealize.ShloMosaic.Lib.Pipeline.ValueKit

@[expose] public section

set_option maxRecDepth 16384

noncomputable section

namespace Cert.In

open Idealize.ShloMosaic Idealize.ShloMosaic.TcCoe Idealize.SL.Sem
open Cert.KernelInIdeal Cert.KernelInIdeal.Gen

section Main
variable (x : FVec Ideal SX .f32) (p : IVec SP 32) (g : FVec Ideal SG .f32) (w : FVec Ideal SW .f32) (b : Fin 4) (t : Fin 4096) (D l : ℕ) (hl : l < 128)
include hl

theorem bigX (h : D + 128 ≤ 4096) : big x p g w b t (D + l) = pr x g w b t (D + l) := by
  unfold big
  rw [if_pos (by omega)]

theorem bigQ (h : 4096 ≤ D) (h' : D + 128 ≤ 5120) (hd : D % 128 = 0) :
    big x p g w b t (D + l) = rope x p g w b t 16 0x42000000#32 (4112 + (D - 4096)) l * Ideal.ofBits .f32 0x3E0293EE#32 := by
  unfold big
  rw [if_neg (by omega), if_pos (by omega)]
  have e1 : 4112 + (D + l - 4096) / 128 * 128 = 4112 + (D - 4096) := by omega
  have e2 : (D + l - 4096) % 128 = l := by omega
  rw [e1, e2]

theorem bigZ (h : 5120 ≤ D) (h' : D + 128 ≤ 6144) : big x p g w b t (D + l) = pr x g w b t (5648 + (D - 5120) + l) := by
  unfold big
  rw [if_neg (by omega), if_neg (by omega), if_pos (by omega)]
  have e1 : 5648 + (D + l - 5120) = 5648 + (D - 5120) + l := by omega
  rw [e1]

theorem bigI (h : 6144 ≤ D) (h' : D + 128 ≤ 7168) (hd : D % 128 = 0) :
    big x p g w b t (D + l) = rope x p g w b t 8 0x41800000#32 (6672 + (D - 6144) + l / 64 * 64) (l % 64) := by
  unfold big
  rw [if_neg (by omega), if_neg (by omega), if_neg (by omega), if_pos (by omega)]
  have e1 : 6672 + (D + l - 6144) / 64 * 64 = 6672 + (D - 6144) + l / 64 * 64 := by omega
  have e2 : (D + l - 6144) % 64 = l % 64 := by omega
  rw [e1, e2]

theorem bigK (h : 7168 ≤ D) (h' : D + 128 ≤ 7424) (hd : D % 128 = 0) :
    big x p g w b t (D + l) = rope x p g w b t 16 0x42000000#32 (5136 + (D - 7168)) l := by
  unfold big
  rw [if_neg (by omega), if_neg (by omega), if_neg (by omega), if_neg (by omega), if_pos (by omega)]
  have e1 : 5136 + (D + l - 7168) / 128 * 128 = 5136 + (D - 7168) := by omega
  have e2 : (D + l - 7168) % 128 = l := by omega
  rw [e1, e2]

theorem bigV (h : 7424 ≤ D) : big x p g w b t (D + l) = pr x g w b t (5392 + (D - 7424) + l) := by
  unfold big
  rw [if_neg (by omega), if_neg (by omega), if_neg (by omega), if_neg (by omega), if_neg (by omega)]
  have e1 : 5392 + (D + l - 7424) = 5392 + (D - 7424) + l := by omega
  rw [e1]

end Main

variable (m : (ℓ : Loc nD τ Cert.KernelInIdeal.sig) → Buf (Elt Ideal) ℓ) (c : Dev nD) (t : Fin grid0.N)

/-- A segment of the projection, out of a block of the weights. -/
abbrev seg (W : FVec Ideal S2048x512 .bf16) (s : ℕ) (sl : S256x512.Slices ![0, s] S256x128) : FVec Ideal S256x128 .f32 := extractStridedSlice S256x128 ![0, s] (k0_pay12 (hh m c t) W) sl

theorem seg_apply (W : FVec Ideal S2048x512 .bf16) (s : ℕ) (sl : S256x512.Slices ![0, s] S256x128) (C : ℕ) (hs : s + 128 ≤ 512)
    (hW : ∀ (k : Fin 2048) (j : Fin 512), W (ix2 k j) = yW m c (ix3 0 k (col (C + j.val)))) (r : Fin 256) (l : Fin 128) :
    seg m c t W s sl (ix2 r l) = pr (yX m c) (yG m c) (yW m c) (bat (row t r)) (tok (row t r)) (C + s + l.val) := by
  refine (segment l (hh m c t) W s sl r hs).trans ?_
  simp only [hh_apply, hW, Nat.add_assoc]
  rfl

theorem segX (o s : ℕ) (inb sl) (ho : o + 512 ≤ 4096) (hs : s + 128 ≤ 512) (r : Fin 256) (l : Fin 128) :
    seg m c t (View.ld (X0_2 m c t : Vec Ideal S2048x4096 .bf16) (Rect.unit ![0, o] ![2048, 512] inb)) s sl (ix2 r l)
      = pr (yX m c) (yG m c) (yW m c) (bat (row t r)) (tok (row t r)) (o + s + l.val) :=
  seg_apply m c t _ s sl o hs (fun k j => (ld_seg _ o inb k j ho).trans (b2 m c t k _)) r l

theorem segB (o s : ℕ) (inb sl) (ho : o + 512 ≤ 3584) (hs : s + 128 ≤ 512) (r : Fin 256) (l : Fin 128) :
    seg m c t (View.ld (iblk m c 3 t : Vec Ideal S2048x3584 .bf16) (Rect.unit ![0, o] ![2048, 512] inb)) s sl (ix2 r l)
      = pr (yX m c) (yG m c) (yW m c) (bat (row t r)) (tok (row t r)) (4112 + o + s + l.val) :=
  seg_apply m c t _ s sl (4112 + o) hs (fun k j => (ld_seg _ o inb k j ho).trans ((b3 m c t k _).trans (by rw [Nat.add_assoc]))) r l

/-- The kernel's three arrays. -/
abbrev oM := GM (yX m c) (yP m c) (yG m c) (yW m c)
abbrev oS := GS (yX m c) (yP m c) (yG m c) (yW m c)
abbrev oK := GK (yX m c) (yP m c) (yG m c) (yW m c)

section Place
variable (y : S256x7680.Idx) (q : S256x128.Idx) (D : ℕ) (h0 : (y 0).val = (q 0).val) (h1 : (y 1).val = D + (q 1).val)
include h0 h1

theorem place : oM m c (((View.whole main_v57_0).slice (win0_7.rect t)).emb y)
    = big (yX m c) (yP m c) (yG m c) (yW m c) (bat (row t (q 0))) (tok (row t (q 0))) (D + (q 1).val) := by
  have hj : D + (q 1).val < 7680 := h1 ▸ (y 1).isLt
  have e : ((View.whole main_v57_0).slice (win0_7.rect t)).emb y = (ix2 (row t (q 0)) (⟨D + (q 1).val, hj⟩ : Fin 7680) : (⟨2, ![16384, 7680]⟩ : Shape).Idx) := by
    have hy : y = ix2 (q 0 : Fin 256) (⟨D + (q 1).val, hj⟩ : Fin 7680) := by
      funext a; apply Fin.ext; fin_cases a
      · exact h0
      · exact h1
    rw [hy]
    blk_ext [(idx t).2.2.2.2.2.2.2.1]
  rw [e]
  rfl

theorem pieceX (o s : ℕ) (inb sl) (ho : o + 512 ≤ 4096) (hs : s + 128 ≤ 512) (hD : D = o + s) :
    seg m c t (View.ld (X0_2 m c t : Vec Ideal S2048x4096 .bf16) (Rect.unit ![0, o] ![2048, 512] inb)) s sl q
      = oM m c (((View.whole main_v57_0).slice (win0_7.rect t)).emb y) := by
  obtain ⟨r, l, rfl⟩ : ∃ (r : Fin 256) (l : Fin 128), q = ix2 r l := ⟨q 0, q 1, eq_ix2 q⟩
  refine Eq.trans ?_ (place m c t y (ix2 r l) D h0 h1).symm
  refine Eq.trans ?_ (bigX _ _ _ _ _ _ D l.val l.isLt (by omega)).symm
  rw [hD]
  exact segX m c t o s inb sl ho hs _ _

theorem pieceZ (o s : ℕ) (inb sl) (ho : o + 512 ≤ 2560) (ho' : 1536 ≤ o) (hs : s + 128 ≤ 512) (hD : D + 1536 = 5120 + o + s) :
    seg m c t (View.ld (iblk m c 3 t : Vec Ideal S2048x3584 .bf16) (Rect.unit ![0, o] ![2048, 512] inb)) s sl q
      = oM m c (((View.whole main_v57_0).slice (win0_7.rect t)).emb y) := by
  have e : 5648 + (D - 5120) = 4112 + o + s := by omega
  obtain ⟨r, l, rfl⟩ : ∃ (r : Fin 256) (l : Fin 128), q = ix2 r l := ⟨q 0, q 1, eq_ix2 q⟩
  refine Eq.trans ?_ (place m c t y (ix2 r l) D h0 h1).symm
  refine Eq.trans ?_ (bigZ _ _ _ _ _ _ D l.val l.isLt (by omega) (by omega)).symm
  rw [e]
  exact segB m c t o s inb sl (by omega) hs _ _

theorem pieceV (s : ℕ) (inb sl) (hs : s + 128 ≤ 512) (hs' : 256 ≤ s) (hD : D = 7168 + s) :
    seg m c t (View.ld (iblk m c 3 t : Vec Ideal S2048x3584 .bf16) (Rect.unit ![0, 1024] ![2048, 512] inb)) s sl q
      = oM m c (((View.whole main_v57_0).slice (win0_7.rect t)).emb y) := by
  have e : 5392 + (D - 7424) = 4112 + 1024 + s := by omega
  obtain ⟨r, l, rfl⟩ : ∃ (r : Fin 256) (l : Fin 128), q = ix2 r l := ⟨q 0, q 1, eq_ix2 q⟩
  refine Eq.trans ?_ (place m c t y (ix2 r l) D h0 h1).symm
  refine Eq.trans ?_ (bigV _ _ _ _ _ _ D l.val l.isLt (by omega)).symm
  rw [e]
  exact segB m c t 1024 s inb sl (by omega) hs _ _

theorem pieceQ (o s : ℕ) (inb sl) (ho : o + 512 ≤ 1024) (hs : s + 128 ≤ 512) (hd : (o + s) % 128 = 0) (hD : D = 4096 + o + s) :
    k0_pay58 (k0_pay4 (iblk m c 5 t)) (k0_pay6 (iblk m c 6 t))
      (seg m c t (View.ld (iblk m c 3 t : Vec Ideal S2048x3584 .bf16) (Rect.unit ![0, o] ![2048, 512] inb)) s sl) q
      = oM m c (((View.whole main_v57_0).slice (win0_7.rect t)).emb y) := by
  have e : 4112 + (D - 4096) = 4112 + o + s := by omega
  obtain ⟨r, l, rfl⟩ : ∃ (r : Fin 256) (l : Fin 128), q = ix2 r l := ⟨q 0, q 1, eq_ix2 q⟩
  refine Eq.trans ?_ (place m c t y (ix2 r l) D h0 h1).symm
  refine Eq.trans ?_ (bigQ _ _ _ _ _ _ D l.val l.isLt (by omega) (by omega) (by omega)).symm
  rw [e]
  refine (slabQ _ _ _ _ _).trans ?_
  refine congrArg (· * _) ?_
  exact rot16 _ _ _ _ _ _ (tab m c t r) (segB m c t o s inb sl (by omega) hs _)

theorem pieceK (s : ℕ) (inb sl) (hs : s + 128 ≤ 256) (hd : s % 128 = 0) (hD : D = 7168 + s) :
    k0_pay82 (k0_pay4 (iblk m c 5 t)) (k0_pay6 (iblk m c 6 t))
      (seg m c t (View.ld (iblk m c 3 t : Vec Ideal S2048x3584 .bf16) (Rect.unit ![0, 1024] ![2048, 512] inb)) s sl)
      (iota .tc S256x128 32 [1] iota_S256x128_d1_w32) 128#32 (Scalar.cmpi .eq 128#32 0#32) q
      = oM m c (((View.whole main_v57_0).slice (win0_7.rect t)).emb y) := by
  have e : 5136 + (D - 7168) = 4112 + 1024 + s := by omega
  obtain ⟨r, l, rfl⟩ : ∃ (r : Fin 256) (l : Fin 128), q = ix2 r l := ⟨q 0, q 1, eq_ix2 q⟩
  refine Eq.trans ?_ (place m c t y (ix2 r l) D h0 h1).symm
  refine Eq.trans ?_ (bigK _ _ _ _ _ _ D l.val l.isLt (by omega) (by omega) (by omega)).symm
  rw [e]
  refine (slabK _ _ _ _ _).trans ?_
  exact rot16 _ _ _ _ _ _ (tab m c t r) (segB m c t 1024 s inb sl (by omega) (by omega) _)

theorem pieceI (o s : ℕ) (inb sl) (ho : o + 512 ≤ 3584) (ho' : 2560 ≤ o) (hs : s + 128 ≤ 512) (hd : (o + s) % 128 = 0) (hD : D + 2560 = 6144 + o + s) :
    k0_pay111 (k0_pay5 (iblk m c 5 t)) (k0_pay8 (k0_pay3 (iblk m c 6 t)) (iota .tc S256x128 32 [1] iota_S256x128_d1_w32) (k0_pay7 (iblk m c 6 t)))
      (seg m c t (View.ld (iblk m c 3 t : Vec Ideal S2048x3584 .bf16) (Rect.unit ![0, o] ![2048, 512] inb)) s sl) q
      = oM m c (((View.whole main_v57_0).slice (win0_7.rect t)).emb y) := by
  have e : 6672 + (D - 6144) = 4112 + o + s := by omega
  obtain ⟨r, l, rfl⟩ : ∃ (r : Fin 256) (l : Fin 128), q = ix2 r l := ⟨q 0, q 1, eq_ix2 q⟩
  refine Eq.trans ?_ (place m c t y (ix2 r l) D h0 h1).symm
  refine Eq.trans ?_ (bigI _ _ _ _ _ _ D l.val l.isLt (by omega) (by omega) (by omega)).symm
  rw [e]
  refine (slabI _ _ _ _ _).trans ?_
  exact rot8 _ _ _ _ _ _ (tab m c t r) (segB m c t o s inb sl (by omega) hs _)

end Place

set_option maxHeartbeats 8000000 in
/-- The main array. -/
theorem k7 : (dats m 0 c).arrAt 7 cfg0.N = oM m c := by
  refine (dats m 0 c).arrAt_eq_of_covers 7 _ (by decide +kernel) fun t hf y => ?_
  have ht : t.val < 64 := t.isLt
  blk_simp
  rw [after0_7]
  unfold outsAt0
  frame_out
  canon_tiles x h
  · exact pieceI m c t y x 7040 h0 h1 3072 384 _ slices_S256x512_o0_384_S256x128 (by decide) (by decide) (by decide) (by decide) (by decide)
  · exact pieceI m c t y x 6912 h0 h1 3072 256 _ slices_S256x512_o0_256_S256x128 (by decide) (by decide) (by decide) (by decide) (by decide)
  · exact pieceI m c t y x 6784 h0 h1 3072 128 _ slices_S256x512_o0_128_S256x128 (by decide) (by decide) (by decide) (by decide) (by decide)
  · exact pieceI m c t y x 6656 h0 h1 3072 0 _ slices_S256x512_o0_0_S256x128 (by decide) (by decide) (by decide) (by decide) (by decide)
  · exact pieceI m c t y x 6528 h0 h1 2560 384 _ slices_S256x512_o0_384_S256x128 (by decide) (by decide) (by decide) (by decide) (by decide)
  · exact pieceI m c t y x 6400 h0 h1 2560 256 _ slices_S256x512_o0_256_S256x128 (by decide) (by decide) (by decide) (by decide) (by decide)
  · exact pieceI m c t y x 6272 h0 h1 2560 128 _ slices_S256x512_o0_128_S256x128 (by decide) (by decide) (by decide) (by decide) (by decide)
  · exact pieceI m c t y x 6144 h0 h1 2560 0 _ slices_S256x512_o0_0_S256x128 (by decide) (by decide) (by decide) (by decide) (by decide)
  · exact pieceZ m c t y x 6016 h0 h1 2048 384 _ slices_S256x512_o0_384_S256x128 (by decide) (by decide) (by decide) (by decide)
  · exact pieceZ m c t y x 5888 h0 h1 2048 256 _ slices_S256x512_o0_256_S256x128 (by decide) (by decide) (by decide) (by decide)
  · exact pieceZ m c t y x 5760 h0 h1 2048 128 _ slices_S256x512_o0_128_S256x128 (by decide) (by decide) (by decide) (by decide)
  · exact pieceZ m c t y x 5632 h0 h1 2048 0 _ slices_S256x512_o0_0_S256x128 (by decide) (by decide) (by decide) (by decide)
  · exact pieceZ m c t y x 5504 h0 h1 1536 384 _ slices_S256x512_o0_384_S256x128 (by decide) (by decide) (by decide) (by decide)
  · exact pieceZ m c t y x 5376 h0 h1 1536 256 _ slices_S256x512_o0_256_S256x128 (by decide) (by decide) (by decide) (by decide)
  · exact pieceZ m c t y x 5248 h0 h1 1536 128 _ slices_S256x512_o0_128_S256x128 (by decide) (by decide) (by decide) (by decide)
  · exact pieceZ m c t y x 5120 h0 h1 1536 0 _ slices_S256x512_o0_0_S256x128 (by decide) (by decide) (by decide) (by decide)
  · exact pieceV m c t y x 7552 h0 h1 384 _ slices_S256x512_o0_384_S256x128 (by decide) (by decide) (by decide)
  · exact pieceV m c t y x 7424 h0 h1 256 _ slices_S256x512_o0_256_S256x128 (by decide) (by decide) (by decide)
  · exact pieceK m c t y x 7296 h0 h1 128 _ slices_S256x512_o0_128_S256x128 (by decide) (by decide) (by decide)
  · exact pieceK m c t y x 7168 h0 h1 0 _ slices_S256x512_o0_0_S256x128 (by decide) (by decide) (by decide)
  · exact pieceQ m c t y x 4992 h0 h1 512 384 _ slices_S256x512_o0_384_S256x128 (by decide) (by decide) (by decide) (by decide)
  · exact pieceQ m c t y x 4864 h0 h1 512 256 _ slices_S256x512_o0_256_S256x128 (by decide) (by decide) (by decide) (by decide)
  · exact pieceQ m c t y x 4736 h0 h1 512 128 _ slices_S256x512_o0_128_S256x128 (by decide) (by decide) (by decide) (by decide)
  · exact pieceQ m c t y x 4608 h0 h1 512 0 _ slices_S256x512_o0_0_S256x128 (by decide) (by decide) (by decide) (by decide)
  · exact pieceQ m c t y x 4480 h0 h1 0 384 _ slices_S256x512_o0_384_S256x128 (by decide) (by decide) (by decide) (by decide)
  · exact pieceQ m c t y x 4352 h0 h1 0 256 _ slices_S256x512_o0_256_S256x128 (by decide) (by decide) (by decide) (by decide)
  · exact pieceQ m c t y x 4224 h0 h1 0 128 _ slices_S256x512_o0_128_S256x128 (by decide) (by decide) (by decide) (by decide)
  · exact pieceQ m c t y x 4096 h0 h1 0 0 _ slices_S256x512_o0_0_S256x128 (by decide) (by decide) (by decide) (by decide)
  · exact pieceX m c t y x 3968 h0 h1 3584 384 _ slices_S256x512_o0_384_S256x128 (by decide) (by decide) (by decide)
  · exact pieceX m c t y x 3840 h0 h1 3584 256 _ slices_S256x512_o0_256_S256x128 (by decide) (by decide) (by decide)
  · exact pieceX m c t y x 3712 h0 h1 3584 128 _ slices_S256x512_o0_128_S256x128 (by decide) (by decide) (by decide)
  · exact pieceX m c t y x 3584 h0 h1 3584 0 _ slices_S256x512_o0_0_S256x128 (by decide) (by decide) (by decide)
  · exact pieceX m c t y x 3456 h0 h1 3072 384 _ slices_S256x512_o0_384_S256x128 (by decide) (by decide) (by decide)
  · exact pieceX m c t y x 3328 h0 h1 3072 256 _ slices_S256x512_o0_256_S256x128 (by decide) (by decide) (by decide)
  · exact pieceX m c t y x 3200 h0 h1 3072 128 _ slices_S256x512_o0_128_S256x128 (by decide) (by decide) (by decide)
  · exact pieceX m c t y x 3072 h0 h1 3072 0 _ slices_S256x512_o0_0_S256x128 (by decide) (by decide) (by decide)
  · exact pieceX m c t y x 2944 h0 h1 2560 384 _ slices_S256x512_o0_384_S256x128 (by decide) (by decide) (by decide)
  · exact pieceX m c t y x 2816 h0 h1 2560 256 _ slices_S256x512_o0_256_S256x128 (by decide) (by decide) (by decide)
  · exact pieceX m c t y x 2688 h0 h1 2560 128 _ slices_S256x512_o0_128_S256x128 (by decide) (by decide) (by decide)
  · exact pieceX m c t y x 2560 h0 h1 2560 0 _ slices_S256x512_o0_0_S256x128 (by decide) (by decide) (by decide)
  · exact pieceX m c t y x 2432 h0 h1 2048 384 _ slices_S256x512_o0_384_S256x128 (by decide) (by decide) (by decide)
  · exact pieceX m c t y x 2304 h0 h1 2048 256 _ slices_S256x512_o0_256_S256x128 (by decide) (by decide) (by decide)
  · exact pieceX m c t y x 2176 h0 h1 2048 128 _ slices_S256x512_o0_128_S256x128 (by decide) (by decide) (by decide)
  · exact pieceX m c t y x 2048 h0 h1 2048 0 _ slices_S256x512_o0_0_S256x128 (by decide) (by decide) (by decide)
  · exact pieceX m c t y x 1920 h0 h1 1536 384 _ slices_S256x512_o0_384_S256x128 (by decide) (by decide) (by decide)
  · exact pieceX m c t y x 1792 h0 h1 1536 256 _ slices_S256x512_o0_256_S256x128 (by decide) (by decide) (by decide)
  · exact pieceX m c t y x 1664 h0 h1 1536 128 _ slices_S256x512_o0_128_S256x128 (by decide) (by decide) (by decide)
  · exact pieceX m c t y x 1536 h0 h1 1536 0 _ slices_S256x512_o0_0_S256x128 (by decide) (by decide) (by decide)
  · exact pieceX m c t y x 1408 h0 h1 1024 384 _ slices_S256x512_o0_384_S256x128 (by decide) (by decide) (by decide)
  · exact pieceX m c t y x 1280 h0 h1 1024 256 _ slices_S256x512_o0_256_S256x128 (by decide) (by decide) (by decide)
  · exact pieceX m c t y x 1152 h0 h1 1024 128 _ slices_S256x512_o0_128_S256x128 (by decide) (by decide) (by decide)
  · exact pieceX m c t y x 1024 h0 h1 1024 0 _ slices_S256x512_o0_0_S256x128 (by decide) (by decide) (by decide)
  · exact pieceX m c t y x 896 h0 h1 512 384 _ slices_S256x512_o0_384_S256x128 (by decide) (by decide) (by decide)
  · exact pieceX m c t y x 768 h0 h1 512 256 _ slices_S256x512_o0_256_S256x128 (by decide) (by decide) (by decide)
  · exact pieceX m c t y x 640 h0 h1 512 128 _ slices_S256x512_o0_128_S256x128 (by decide) (by decide) (by decide)
  · exact pieceX m c t y x 512 h0 h1 512 0 _ slices_S256x512_o0_0_S256x128 (by decide) (by decide) (by decide)
  · exact pieceX m c t y x 384 h0 h1 0 384 _ slices_S256x512_o0_384_S256x128 (by decide) (by decide) (by decide)
  · exact pieceX m c t y x 256 h0 h1 0 256 _ slices_S256x512_o0_256_S256x128 (by decide) (by decide) (by decide)
  · exact pieceX m c t y x 128 h0 h1 0 128 _ slices_S256x512_o0_128_S256x128 (by decide) (by decide) (by decide)
  · exact pieceX m c t y x 0 h0 (h1.trans (Nat.zero_add _).symm) 0 0 _ slices_S256x512_o0_0_S256x128 (by decide) (by decide) (by decide)

/-- The small columns' product at a token. -/
theorem acc_small (r : Fin 256) (l : Fin 128) : smallAcc (hh m c t) (iblk m c 4 t) (ix2 r l)
    = if l.val < 80 then pr (yX m c) (yG m c) (yW m c) (bat (row t r)) (tok (row t r)) (7696 + l.val)
      else if l.val < 96 then pr (yX m c) (yG m c) (yW m c) (bat (row t r)) (tok (row t r)) (4096 + (l.val - 80)) else 0 := by
  rw [smallAcc_apply]
  by_cases h1 : l.val < 80
  · simp only [hh_apply, b4, h1, ↓reduceIte]
    rfl
  · by_cases h2 : l.val < 96
    · simp only [hh_apply, b4, h1, h2, ↓reduceIte]
      rfl
    · simp only [b4, h1, h2, ↓reduceIte, mul_zero, Finset.sum_const_zero]

theorem small_rope (r : Fin 256) (l : Fin 128) (hl : l.val < 64) :
    rot (smallAcc (hh m c t) (iblk m c 4 t)) (k0_pay5 (iblk m c 5 t))
      (k0_pay8 (k0_pay3 (iblk m c 6 t)) (iota .tc S256x128 32 [1] iota_S256x128_d1_w32) (k0_pay7 (iblk m c 6 t))) r l 64 8
      = rope (yX m c) (yP m c) (yG m c) (yW m c) (bat (row t r)) (tok (row t r)) 8 0x41800000#32 7696 l.val := by
  have h := tab m c t r
  have e0 : l.val % 64 = l.val := Nat.mod_eq_of_lt hl
  have l0 : l.val < 80 := by omega
  unfold rot rope
  rw [t64c_apply, t64s_apply]
  simp only [acc_small, e0, l0, ↓reduceIte]
  by_cases h1 : l.val < 8
  · have e : (l.val + 8) % 128 = 8 + l.val := by omega
    have e' : l.val % 8 = l.val := by omega
    have h2 : l.val % 64 < 16 := by omega
    have h3 : 8 + l.val < 80 := by omega
    have h4 : l.val < 16 := by omega
    simp only [h1, h3, h4, ↓reduceIte, h.c8 l h2, h.s8 l h2, e, e', e0, mul_neg, mul_one, ← sub_eq_add_neg]
  · by_cases h2 : l.val < 16
    · have e : (l.val + 128 - 8) % 128 = l.val - 8 := by omega
      have e' : l.val % 8 = l.val - 8 := by omega
      have h2' : l.val % 64 < 16 := by omega
      have h3 : l.val - 8 < 80 := by omega
      simp only [h1, h2, h3, Nat.reduceMul, ↓reduceIte, h.c8 l h2', h.s8 l h2', e, e', e0, mul_one]
    · simp only [h1, h2, Nat.reduceMul, ↓reduceIte, mul_one, mul_zero, add_zero]

theorem small_row (r : Fin 256) (l : Fin 128) :
    k0_pay10 (k0_pay5 (iblk m c 5 t)) (k0_pay8 (k0_pay3 (iblk m c 6 t)) (iota .tc S256x128 32 [1] iota_S256x128_d1_w32) (k0_pay7 (iblk m c 6 t)))
      (hh m c t) (iblk m c 4 t) (ix2 r l)
      = small (yX m c) (yP m c) (yG m c) (yW m c) (bat (row t r)) (tok (row t r)) l.val := by
  refine (small_apply _ _ _ _ _ _).trans ?_
  unfold small
  by_cases h1 : l.val < 64
  · rw [if_pos h1, if_pos h1]
    exact small_rope m c t r l h1
  · rw [if_neg h1, if_neg h1, acc_small]
    refine if_congr Iff.rfl ?_ rfl
    have e : 7696 + l.val = 7760 + (l.val - 64) := by omega
    rw [e]

/-- The small array. -/
theorem k8 : (dats m 0 c).arrAt 8 cfg0.N = oS m c := by
  refine (dats m 0 c).arrAt_eq_of_covers 8 _ (by decide +kernel) fun t hf y => ?_
  have ht : t.val < 64 := t.isLt
  blk_simp
  rw [after0_8]
  unfold outsAt0
  frame_out
  obtain ⟨r, l, rfl⟩ : ∃ (r : Fin 256) (l : Fin 128), y = ix2 r l := ⟨y 0, y 1, eq_ix2 y⟩
  have e : ((View.whole main_v57_1).slice (win0_8.rect t)).emb (ix2 r l) = (ix2 (row t r) l : (⟨2, ![16384, 128]⟩ : Shape).Idx) := by
    blk_ext [(idx t).2.2.2.2.2.2.2.2.1]
  rw [e]
  exact small_row m c t r l

/-- The rotated indexing keys' array. -/
theorem k9 : (dats m 0 c).arrAt 9 cfg0.N = oK m c := by
  refine (dats m 0 c).arrAt_eq_of_covers 9 _ (by decide +kernel) fun t hf y => ?_
  have ht : t.val < 64 := t.isLt
  blk_simp
  rw [after0_9]
  unfold outsAt0
  frame_out
  obtain ⟨r, l, rfl⟩ : ∃ (r : Fin 256) (l : Fin 64), y = ix2 r l := ⟨y 0, y 1, eq_ix2 y⟩
  have e : ((View.whole main_v57_2).slice (win0_9.rect t)).emb (ix2 r l) = (ix2 (row t r) l : (⟨2, ![16384, 64]⟩ : Shape).Idx) := by
    blk_ext [(idx t).2.2.2.2.2.2.2.2.2]
  rw [e]
  have hl : l.val < 128 := by omega
  refine Eq.trans (b := k0_pay10 (k0_pay5 (iblk m c 5 t)) (k0_pay8 (k0_pay3 (iblk m c 6 t)) (iota .tc S256x128 32 [1] iota_S256x128_d1_w32) (k0_pay7 (iblk m c 6 t)))
      (hh m c t) (iblk m c 4 t) (ix2 r ⟨l.val, hl⟩)) ?_ ?_
  · unfold k0_pay11
    pointwise
  · rw [small_row]
    unfold small
    rw [if_pos l.isLt]
    rfl

end Cert.In
-- ==== Proof.InRef.lean ====
/- The input projection's reference, read at an entry. -/
module

public import proofs.«01_k».proof.Proof.Gen.ReferenceInIdeal.Run
public import proofs.«01_k».proof.Proof.InSpec

@[expose] public section

set_option maxRecDepth 16384

noncomputable section

namespace Cert.In

open Idealize.ShloMosaic Idealize.ShloMosaic.TcCoe Idealize.SL.Sem
open Cert.ReferenceInIdeal Cert.ReferenceInIdeal.Gen Cert.ReferenceInIdeal.Value

/-- A row's columns taken as heads. -/
def heads (n d e : ℕ) (he : n * d = e) (y : FVec Ideal (⟨3, ![4, 4096, e]⟩ : Shape) .f32) : FVec Ideal (⟨4, ![4, 4096, n, d]⟩ : Shape) .f32 := fun i =>
  y (ix3 (i 0 : Fin 4) (i 1 : Fin 4096) ⟨(i 2 : Fin n).val * d + (i 3 : Fin d).val, by
    have h2 : (i 2).val < n := (i 2).isLt
    have h3 : (i 3).val < d := (i 3).isLt
    calc (i 2 : Fin n).val * d + (i 3 : Fin d).val < (i 2 : Fin n).val * d + d := by omega
      _ = ((i 2 : Fin n).val + 1) * d := by ring
      _ ≤ n * d := Nat.mul_le_mul_right _ h2
      _ = e := he⟩)

theorem heads_eq (n d e : ℕ) (he : n * d = e) (y : FVec Ideal (⟨3, ![4, 4096, e]⟩ : Shape) .f32) (h) :
    shapeCast (⟨4, ![4, 4096, n, d]⟩ : Shape) y h = heads n d e he y := by
  funext i
  refine shapeCast_apply _ _ _ _ ?_
  rw [Shape.rowMajor_val_three, Shape.rowMajor_val_four]
  show ((i 0).val * 4096 + (i 1).val) * e + ((i 2).val * d + (i 3).val) = (((i 0).val * 4096 + (i 1).val) * n + (i 2).val) * d + (i 3).val
  subst he
  ring

/-- A row's heads one after the other. -/
def join (n d e : ℕ) (he : n * d = e) (y : FVec Ideal (⟨4, ![4, 4096, n, d]⟩ : Shape) .f32) : FVec Ideal (⟨3, ![4, 4096, e]⟩ : Shape) .f32 := fun i =>
  y (ix4 (i 0 : Fin 4) (i 1 : Fin 4096) (⟨(i 2 : Fin e).val / d, by
      have h2 : (i 2).val < e := (i 2).isLt
      exact Nat.div_lt_of_lt_mul (by rw [Nat.mul_comm, he]; exact h2)⟩ : Fin n)
    (⟨(i 2 : Fin e).val % d, Nat.mod_lt _ (by
      have h2 : (i 2).val < e := (i 2).isLt
      rcases Nat.eq_zero_or_pos d with h | h
      · subst h; subst he; simp at h2
      · exact h)⟩ : Fin d))

theorem join_eq (n d e : ℕ) (he : n * d = e) (y : FVec Ideal (⟨4, ![4, 4096, n, d]⟩ : Shape) .f32) (h) :
    shapeCast (⟨3, ![4, 4096, e]⟩ : Shape) y h = join n d e he y := by
  funext i
  refine shapeCast_apply _ _ _ _ ?_
  rw [Shape.rowMajor_val_three, Shape.rowMajor_val_four]
  show (((i 0).val * 4096 + (i 1).val) * n + (i 2).val / d) * d + (i 2).val % d = ((i 0).val * 4096 + (i 1).val) * e + (i 2).val
  subst he
  have := Nat.div_add_mod (i 2).val d
  generalize (i 2).val / d = q at *
  generalize (i 2).val % d = s at *
  rw [← this]
  ring

/-- The batches' tokens in one row after the other. -/
def flat {φ : FTy} (e : ℕ) (y : FVec Ideal (⟨3, ![4, 4096, e]⟩ : Shape) φ) : FVec Ideal (⟨2, ![16384, e]⟩ : Shape) φ := fun i =>
  y (ix3 (bat (i 0)) (tok (i 0)) (i 1 : Fin e))

theorem flat_eq {φ : FTy} (e : ℕ) (y : FVec Ideal (⟨3, ![4, 4096, e]⟩ : Shape) φ) (h) :
    shapeCast (⟨2, ![16384, e]⟩ : Shape) y h = flat e y := by
  funext i
  refine shapeCast_apply _ _ _ _ ?_
  rw [Shape.rowMajor_val_three, Shape.rowMajor_val_two]
  show ((i 0).val / 4096 * 4096 + (i 0).val % 4096) * e + (i 1).val = (i 0).val * e + (i 1).val
  rw [Nat.div_add_mod']

/-- The weights without the layers' axis. -/
def wmat (w : FVec Ideal SW .f32) : FVec Ideal (⟨2, ![2048, 7776]⟩ : Shape) .f32 := fun i => w (ix3 (0 : Fin 1) (i 0 : Fin 2048) (i 1 : Fin 7776))

theorem wmat_cast (w : FVec Ideal SW .f32) (h) : shapeCast (⟨2, ![2048, 7776]⟩ : Shape) w h = wmat w := by
  funext i
  refine shapeCast_apply _ _ _ _ ?_
  rw [Shape.rowMajor_val_three, Shape.rowMajor_val_two]
  show (0 * 2048 + (i 0).val) * 7776 + (i 1).val = (i 0).val * 7776 + (i 1).val
  omega

variable (V : Valuation τ sig (Elt Ideal))

/-- The reference's arguments. -/
abbrev xX : FVec Ideal SX .f32 := V (Proc.devRef .tc main_arg0)
abbrev xP : IVec SP 32 := V (Proc.devRef .tc main_arg1)
abbrev xG : FVec Ideal SG .f32 := V (Proc.devRef .tc main_arg2)
abbrev xW : FVec Ideal SW .f32 := V (Proc.devRef .tc main_arg3)

variable (b : Fin 4) (t : Fin 4096)

theorem v15_apply (j : Fin 7776) : (res_main_v15 V : FVec Ideal S4x4096x7776 .f32) (ix3 b t j) = pr (xX V) (xG V) (xW V) b t j.val := by
  have e : col j.val = j := Fin.ext (Nat.mod_eq_of_lt j.isLt)
  unfold res_main_v15 pr
  rw [wmat_cast, e]
  pointwise
  rfl

theorem pr_of (V : Valuation τ sig (Elt Ideal)) (b : Fin 4) (t : Fin 4096) (j : ℕ) (h : j < 7776) (n : ℕ) (e : j = n) :
    (res_main_v15 V : FVec Ideal S4x4096x7776 .f32) (ix3 b t ⟨j, h⟩) = pr (xX V) (xG V) (xW V) b t n := by
  subst e
  exact v15_apply V b t ⟨j, h⟩

theorem v41_apply (k : Fin 16) : (res_main_v41 V : FVec Ideal S4x4096x16 .f32) (ix3 b t k) = ang (xP V) b t 0x42000000#32 k.val := by
  pointwise [res_main_v41]
  rfl

theorem v43_apply (k : Fin 16) : (res_main_v43 V : FVec Ideal S4x4096x1x16 .f32) (ix4 b t 0 k) = Ideal.cos (ang (xP V) b t 0x42000000#32 k.val) := by
  pointwise [res_main_v43]
  rw [v41_apply]

theorem v45_apply (k : Fin 16) : (res_main_v45 V : FVec Ideal S4x4096x1x16 .f32) (ix4 b t 0 k) = Ideal.sin (ang (xP V) b t 0x42000000#32 k.val) := by
  pointwise [res_main_v45]
  rw [v41_apply]

theorem v144_apply (k : Fin 16) : (res_main_v144 V : FVec Ideal S4x4096x16 .f32) (ix3 b t k) = ang (xP V) b t 0x42000000#32 k.val := by
  pointwise [res_main_v144]
  rfl

theorem v146_apply (k : Fin 16) : (res_main_v146 V : FVec Ideal S4x4096x1x16 .f32) (ix4 b t 0 k) = Ideal.cos (ang (xP V) b t 0x42000000#32 k.val) := by
  pointwise [res_main_v146]
  rw [v144_apply]

theorem v148_apply (k : Fin 16) : (res_main_v148 V : FVec Ideal S4x4096x1x16 .f32) (ix4 b t 0 k) = Ideal.sin (ang (xP V) b t 0x42000000#32 k.val) := by
  pointwise [res_main_v148]
  rw [v144_apply]

theorem v78_apply (k : Fin 8) : (res_main_v78 V : FVec Ideal S4x4096x8 .f32) (ix3 b t k) = ang (xP V) b t 0x41800000#32 k.val := by
  pointwise [res_main_v78]
  rfl

theorem v80_apply (k : Fin 8) : (res_main_v80 V : FVec Ideal S4x4096x1x8 .f32) (ix4 b t 0 k) = Ideal.cos (ang (xP V) b t 0x41800000#32 k.val) := by
  pointwise [res_main_v80]
  rw [v78_apply]

theorem v82_apply (k : Fin 8) : (res_main_v82 V : FVec Ideal S4x4096x1x8 .f32) (ix4 b t 0 k) = Ideal.sin (ang (xP V) b t 0x41800000#32 k.val) := by
  pointwise [res_main_v82]
  rw [v78_apply]

theorem v109_apply (k : Fin 8) : (res_main_v109 V : FVec Ideal S4x4096x8 .f32) (ix3 b t k) = ang (xP V) b t 0x41800000#32 k.val := by
  pointwise [res_main_v109]
  rfl

theorem v111_apply (k : Fin 8) : (res_main_v111 V : FVec Ideal S4x4096x1x8 .f32) (ix4 b t 0 k) = Ideal.cos (ang (xP V) b t 0x41800000#32 k.val) := by
  pointwise [res_main_v111]
  rw [v109_apply]

theorem v113_apply (k : Fin 8) : (res_main_v113 V : FVec Ideal S4x4096x1x8 .f32) (ix4 b t 0 k) = Ideal.sin (ang (xP V) b t 0x41800000#32 k.val) := by
  pointwise [res_main_v113]
  rw [v109_apply]

theorem v26_apply (i : Fin 8) (l : Fin 128) : (res_main_v26 V : FVec Ideal S4x4096x8x128 .f32) (ix4 b t i l) = pr (xX V) (xG V) (xW V) b t (4112 + i.val * 128 + l.val) := by
  unfold res_main_v26
  refine (congrFun (heads_eq 8 128 1024 rfl _ _) (ix4 b t i l)).trans ?_
  pointwise [heads]
  exact pr_of V b t _ _ _ (by omega)

theorem v46_apply (i : Fin 8) (l : Fin 16) : (res_main_v46 V : FVec Ideal S4x4096x8x16 .f32) (ix4 b t i l) = pr (xX V) (xG V) (xW V) b t (4112 + i.val * 128 + l.val) := by
  pointwise [res_main_v46]
  exact v26_apply V b t i ⟨l.val, by omega⟩

theorem v47_apply (i : Fin 8) (l : Fin 16) : (res_main_v47 V : FVec Ideal S4x4096x8x16 .f32) (ix4 b t i l) = pr (xX V) (xG V) (xW V) b t (4112 + i.val * 128 + (16 + l.val)) := by
  pointwise [res_main_v47]
  exact v26_apply V b t i ⟨16 + l.val, by omega⟩

theorem v63_apply (l : Fin 64) : (res_main_v63 V : FVec Ideal S4x4096x1x64 .f32) (ix4 b t 0 l) = pr (xX V) (xG V) (xW V) b t (7696 + l.val) := by
  unfold res_main_v63
  refine (congrFun (heads_eq 1 64 64 rfl _ _) (ix4 b t 0 l)).trans ?_
  pointwise [heads]
  exact pr_of V b t _ _ _ (by omega)

theorem v83_apply (l : Fin 8) : (res_main_v83 V : FVec Ideal S4x4096x1x8 .f32) (ix4 b t 0 l) = pr (xX V) (xG V) (xW V) b t (7696 + l.val) := by
  pointwise [res_main_v83]
  exact v63_apply V b t ⟨l.val, by omega⟩

theorem v84_apply (l : Fin 8) : (res_main_v84 V : FVec Ideal S4x4096x1x8 .f32) (ix4 b t 0 l) = pr (xX V) (xG V) (xW V) b t (7696 + (8 + l.val)) := by
  pointwise [res_main_v84]
  exact v63_apply V b t ⟨8 + l.val, by omega⟩

theorem v94_apply (i : Fin 16) (l : Fin 64) : (res_main_v94 V : FVec Ideal S4x4096x16x64 .f32) (ix4 b t i l) = pr (xX V) (xG V) (xW V) b t (6672 + i.val * 64 + l.val) := by
  unfold res_main_v94
  refine (congrFun (heads_eq 16 64 1024 rfl _ _) (ix4 b t i l)).trans ?_
  pointwise [heads]
  exact pr_of V b t _ _ _ (by omega)

theorem v114_apply (i : Fin 16) (l : Fin 8) : (res_main_v114 V : FVec Ideal S4x4096x16x8 .f32) (ix4 b t i l) = pr (xX V) (xG V) (xW V) b t (6672 + i.val * 64 + l.val) := by
  pointwise [res_main_v114]
  exact v94_apply V b t i ⟨l.val, by omega⟩

theorem v115_apply (i : Fin 16) (l : Fin 8) : (res_main_v115 V : FVec Ideal S4x4096x16x8 .f32) (ix4 b t i l) = pr (xX V) (xG V) (xW V) b t (6672 + i.val * 64 + (8 + l.val)) := by
  pointwise [res_main_v115]
  exact v94_apply V b t i ⟨8 + l.val, by omega⟩

theorem v129_apply (i : Fin 2) (l : Fin 128) : (res_main_v129 V : FVec Ideal S4x4096x2x128 .f32) (ix4 b t i l) = pr (xX V) (xG V) (xW V) b t (5136 + i.val * 128 + l.val) := by
  unfold res_main_v129
  refine (congrFun (heads_eq 2 128 256 rfl _ _) (ix4 b t i l)).trans ?_
  pointwise [heads]
  exact pr_of V b t _ _ _ (by omega)

theorem v149_apply (i : Fin 2) (l : Fin 16) : (res_main_v149 V : FVec Ideal S4x4096x2x16 .f32) (ix4 b t i l) = pr (xX V) (xG V) (xW V) b t (5136 + i.val * 128 + l.val) := by
  pointwise [res_main_v149]
  exact v129_apply V b t i ⟨l.val, by omega⟩

theorem v150_apply (i : Fin 2) (l : Fin 16) : (res_main_v150 V : FVec Ideal S4x4096x2x16 .f32) (ix4 b t i l) = pr (xX V) (xG V) (xW V) b t (5136 + i.val * 128 + (16 + l.val)) := by
  pointwise [res_main_v150]
  exact v129_apply V b t i ⟨16 + l.val, by omega⟩

/-- The reference's rotated heads. -/
def qcat : FVec Ideal S4x4096x8x128 .f32 :=
  (concatenate S4x4096x8x128 3 [⟨S4x4096x8x16, ((subf (mulf (res_main_v46 V) (broadcastInDim S4x4096x8x16 ![0, 1, 2, 3] bcast_S4x4096x1x16_S4x4096x8x16_0_1_2_3 (res_main_v43 V))) (mulf (res_main_v47 V) (broadcastInDim S4x4096x8x16 ![0, 1, 2, 3] bcast_S4x4096x1x16_S4x4096x8x16_0_1_2_3 (res_main_v45 V)))) : (⟨S4x4096x8x16, .f32⟩ : BufTy).Contents (Elt Ideal))⟩, ⟨S4x4096x8x16, ((addf (mulf (res_main_v47 V) (broadcastInDim S4x4096x8x16 ![0, 1, 2, 3] bcast_S4x4096x1x16_S4x4096x8x16_0_1_2_3 (res_main_v43 V))) (mulf (res_main_v46 V) (broadcastInDim S4x4096x8x16 ![0, 1, 2, 3] bcast_S4x4096x1x16_S4x4096x8x16_0_1_2_3 (res_main_v45 V)))) : (⟨S4x4096x8x16, .f32⟩ : BufTy).Contents (Elt Ideal))⟩, ⟨S4x4096x8x96, ((extractStridedSlice S4x4096x8x96 ![0, 0, 0, 32] (res_main_v26 V) slices_S4x4096x8x128_S4x4096x8x96_0_0_0_32) : (⟨S4x4096x8x96, .f32⟩ : BufTy).Contents (Elt Ideal))⟩] concatenates_S4x4096x8x16_S4x4096x8x16_S4x4096x8x96_S4x4096x8x128_d3 : (⟨S4x4096x8x128, .f32⟩ : BufTy).Contents (Elt Ideal))

theorem qcat_apply (i : Fin 8) (l : Fin 128) : qcat V (ix4 b t i l) = rope (xX V) (xP V) (xG V) (xW V) b t 16 0x42000000#32 (4112 + i.val * 128) l.val := by
  pointwise [qcat]
  simp only [v46_apply, v47_apply, v43_apply, v45_apply, v26_apply, rope]
  by_cases h1 : l.val < 16
  · simp only [h1, ↓reduceDIte, ↓reduceIte]
  · by_cases h2 : l.val - 16 < 16
    · have h3 : l.val < 2 * 16 := by omega
      have h4 : 16 + (l.val - 16) = l.val := by omega
      simp only [h1, h2, h3, h4, ↓reduceDIte, ↓reduceIte]
    · have h3 : ¬ l.val < 2 * 16 := by omega
      have h4 : 2 * 16 + (l.val - 16 - 16) = l.val := by omega
      simp only [h1, h2, h3, ↓reduceDIte, ↓reduceIte]
      exact congrArg (fun n => pr (xX V) (xG V) (xW V) b t (4112 + i.val * 128 + n)) h4

/-- The reference's rotated heads. -/
def icat : FVec Ideal S4x4096x16x64 .f32 :=
  (concatenate S4x4096x16x64 3 [⟨S4x4096x16x8, ((subf (mulf (res_main_v114 V) (broadcastInDim S4x4096x16x8 ![0, 1, 2, 3] bcast_S4x4096x1x8_S4x4096x16x8_0_1_2_3 (res_main_v111 V))) (mulf (res_main_v115 V) (broadcastInDim S4x4096x16x8 ![0, 1, 2, 3] bcast_S4x4096x1x8_S4x4096x16x8_0_1_2_3 (res_main_v113 V)))) : (⟨S4x4096x16x8, .f32⟩ : BufTy).Contents (Elt Ideal))⟩, ⟨S4x4096x16x8, ((addf (mulf (res_main_v115 V) (broadcastInDim S4x4096x16x8 ![0, 1, 2, 3] bcast_S4x4096x1x8_S4x4096x16x8_0_1_2_3 (res_main_v111 V))) (mulf (res_main_v114 V) (broadcastInDim S4x4096x16x8 ![0, 1, 2, 3] bcast_S4x4096x1x8_S4x4096x16x8_0_1_2_3 (res_main_v113 V)))) : (⟨S4x4096x16x8, .f32⟩ : BufTy).Contents (Elt Ideal))⟩, ⟨S4x4096x16x48, ((extractStridedSlice S4x4096x16x48 ![0, 0, 0, 16] (res_main_v94 V) slices_S4x4096x16x64_S4x4096x16x48_0_0_0_16) : (⟨S4x4096x16x48, .f32⟩ : BufTy).Contents (Elt Ideal))⟩] concatenates_S4x4096x16x8_S4x4096x16x8_S4x4096x16x48_S4x4096x16x64_d3 : (⟨S4x4096x16x64, .f32⟩ : BufTy).Contents (Elt Ideal))

theorem icat_apply (i : Fin 16) (l : Fin 64) : icat V (ix4 b t i l) = rope (xX V) (xP V) (xG V) (xW V) b t 8 0x41800000#32 (6672 + i.val * 64) l.val := by
  pointwise [icat]
  simp only [v114_apply, v115_apply, v111_apply, v113_apply, v94_apply, rope]
  by_cases h1 : l.val < 8
  · simp only [h1, ↓reduceDIte, ↓reduceIte]
  · by_cases h2 : l.val - 8 < 8
    · have h3 : l.val < 2 * 8 := by omega
      have h4 : 8 + (l.val - 8) = l.val := by omega
      simp only [h1, h2, h3, h4, ↓reduceDIte, ↓reduceIte]
    · have h3 : ¬ l.val < 2 * 8 := by omega
      have h4 : 2 * 8 + (l.val - 8 - 8) = l.val := by omega
      simp only [h1, h2, h3, ↓reduceDIte, ↓reduceIte]
      exact congrArg (fun n => pr (xX V) (xG V) (xW V) b t (6672 + i.val * 64 + n)) h4

/-- The reference's rotated heads. -/
def kcat : FVec Ideal S4x4096x2x128 .f32 :=
  (concatenate S4x4096x2x128 3 [⟨S4x4096x2x16, ((subf (mulf (res_main_v149 V) (broadcastInDim S4x4096x2x16 ![0, 1, 2, 3] bcast_S4x4096x1x16_S4x4096x2x16_0_1_2_3 (res_main_v146 V))) (mulf (res_main_v150 V) (broadcastInDim S4x4096x2x16 ![0, 1, 2, 3] bcast_S4x4096x1x16_S4x4096x2x16_0_1_2_3 (res_main_v148 V)))) : (⟨S4x4096x2x16, .f32⟩ : BufTy).Contents (Elt Ideal))⟩, ⟨S4x4096x2x16, ((addf (mulf (res_main_v150 V) (broadcastInDim S4x4096x2x16 ![0, 1, 2, 3] bcast_S4x4096x1x16_S4x4096x2x16_0_1_2_3 (res_main_v146 V))) (mulf (res_main_v149 V) (broadcastInDim S4x4096x2x16 ![0, 1, 2, 3] bcast_S4x4096x1x16_S4x4096x2x16_0_1_2_3 (res_main_v148 V)))) : (⟨S4x4096x2x16, .f32⟩ : BufTy).Contents (Elt Ideal))⟩, ⟨S4x4096x2x96, ((extractStridedSlice S4x4096x2x96 ![0, 0, 0, 32] (res_main_v129 V) slices_S4x4096x2x128_S4x4096x2x96_0_0_0_32) : (⟨S4x4096x2x96, .f32⟩ : BufTy).Contents (Elt Ideal))⟩] concatenates_S4x4096x2x16_S4x4096x2x16_S4x4096x2x96_S4x4096x2x128_d3 : (⟨S4x4096x2x128, .f32⟩ : BufTy).Contents (Elt Ideal))

theorem kcat_apply (i : Fin 2) (l : Fin 128) : kcat V (ix4 b t i l) = rope (xX V) (xP V) (xG V) (xW V) b t 16 0x42000000#32 (5136 + i.val * 128) l.val := by
  pointwise [kcat]
  simp only [v149_apply, v150_apply, v146_apply, v148_apply, v129_apply, rope]
  by_cases h1 : l.val < 16
  · simp only [h1, ↓reduceDIte, ↓reduceIte]
  · by_cases h2 : l.val - 16 < 16
    · have h3 : l.val < 2 * 16 := by omega
      have h4 : 16 + (l.val - 16) = l.val := by omega
      simp only [h1, h2, h3, h4, ↓reduceDIte, ↓reduceIte]
    · have h3 : ¬ l.val < 2 * 16 := by omega
      have h4 : 2 * 16 + (l.val - 16 - 16) = l.val := by omega
      simp only [h1, h2, h3, ↓reduceDIte, ↓reduceIte]
      exact congrArg (fun n => pr (xX V) (xG V) (xW V) b t (5136 + i.val * 128 + n)) h4

/-- The reference's rotated heads. -/
def scat : FVec Ideal S4x4096x1x64 .f32 :=
  (concatenate S4x4096x1x64 3 [⟨S4x4096x1x8, ((subf (mulf (res_main_v83 V) (res_main_v80 V)) (mulf (res_main_v84 V) (res_main_v82 V))) : (⟨S4x4096x1x8, .f32⟩ : BufTy).Contents (Elt Ideal))⟩, ⟨S4x4096x1x8, ((addf (mulf (res_main_v84 V) (res_main_v80 V)) (mulf (res_main_v83 V) (res_main_v82 V))) : (⟨S4x4096x1x8, .f32⟩ : BufTy).Contents (Elt Ideal))⟩, ⟨S4x4096x1x48, ((extractStridedSlice S4x4096x1x48 ![0, 0, 0, 16] (res_main_v63 V) slices_S4x4096x1x64_S4x4096x1x48_0_0_0_16) : (⟨S4x4096x1x48, .f32⟩ : BufTy).Contents (Elt Ideal))⟩] concatenates_S4x4096x1x8_S4x4096x1x8_S4x4096x1x48_S4x4096x1x64_d3 : (⟨S4x4096x1x64, .f32⟩ : BufTy).Contents (Elt Ideal))

theorem scat_apply (l : Fin 64) : scat V (ix4 b t 0 l) = rope (xX V) (xP V) (xG V) (xW V) b t 8 0x41800000#32 (7696) l.val := by
  pointwise [scat]
  simp only [v83_apply, v84_apply, v80_apply, v82_apply, v63_apply, rope]
  by_cases h1 : l.val < 8
  · simp only [h1, ↓reduceDIte, ↓reduceIte]
  · by_cases h2 : l.val - 8 < 8
    · have h3 : l.val < 2 * 8 := by omega
      have h4 : 8 + (l.val - 8) = l.val := by omega
      simp only [h1, h2, h3, h4, ↓reduceDIte, ↓reduceIte]
    · have h3 : ¬ l.val < 2 * 8 := by omega
      have h4 : 2 * 8 + (l.val - 8 - 8) = l.val := by omega
      simp only [h1, h2, h3, ↓reduceDIte, ↓reduceIte]
      exact congrArg (fun n => pr (xX V) (xG V) (xW V) b t (7696 + n)) h4

theorem v93_apply (l : Fin 64) : (res_main_v93 V : FVec Ideal S4x4096x64 .f32) (ix3 b t l) = rope (xX V) (xP V) (xG V) (xW V) b t 8 0x41800000#32 7696 l.val := by
  refine (congrFun (join_eq 1 64 64 rfl (scat V) _) (ix3 b t l)).trans ?_
  have e : join 1 64 64 rfl (scat V) (ix3 b t l) = scat V (ix4 b t 0 l) := by
    unfold join
    congr 1
    refine congr (congrArg (ix4 b t) ?_) ?_
    · exact Subsingleton.elim _ _
    · exact Fin.ext (Nat.mod_eq_of_lt l.isLt)
  rw [e, scat_apply]

/-- The reference's main columns, the heads named. -/
def cat6 : FVec Ideal S4x4096x7680 .f32 :=
  (concatenate S4x4096x7680 2 [⟨S4x4096x4096, ((extractStridedSlice S4x4096x4096 ![0, 0, 0] (res_main_v15 V) slices_S4x4096x7776_S4x4096x4096_0_0_0) : (⟨S4x4096x4096, .f32⟩ : BufTy).Contents (Elt Ideal))⟩, ⟨S4x4096x1024, ((mulf (join 8 128 1024 rfl (qcat V)) (broadcastInDim S4x4096x1024 ![] bcast_S_S4x4096x1024 (constant S_ .f32 0x3E0293EE#32))) : (⟨S4x4096x1024, .f32⟩ : BufTy).Contents (Elt Ideal))⟩, ⟨S4x4096x1024, ((extractStridedSlice S4x4096x1024 ![0, 0, 5648] (res_main_v15 V) slices_S4x4096x7776_S4x4096x1024_0_0_5648) : (⟨S4x4096x1024, .f32⟩ : BufTy).Contents (Elt Ideal))⟩, ⟨S4x4096x1024, ((join 16 64 1024 rfl (icat V)) : (⟨S4x4096x1024, .f32⟩ : BufTy).Contents (Elt Ideal))⟩, ⟨S4x4096x256, ((join 2 128 256 rfl (kcat V)) : (⟨S4x4096x256, .f32⟩ : BufTy).Contents (Elt Ideal))⟩, ⟨S4x4096x256, ((extractStridedSlice S4x4096x256 ![0, 0, 5392] (res_main_v15 V) slices_S4x4096x7776_S4x4096x256_0_0_5392) : (⟨S4x4096x256, .f32⟩ : BufTy).Contents (Elt Ideal))⟩] concatenates_S4x4096x4096_S4x4096x1024_S4x4096x1024_S4x4096x1024_S4x4096x256_S4x4096x256_S4x4096x7680_d2 : (⟨S4x4096x7680, .f32⟩ : BufTy).Contents (Elt Ideal))

theorem v164_eq : (res_main_v164 V : FVec Ideal S4x4096x7680 .f32) = cat6 V := by
  unfold cat6
  rw [← join_eq 8 128 1024 rfl (qcat V) shapeCasts_S4x4096x8x128_S4x4096x1024, ← join_eq 16 64 1024 rfl (icat V) shapeCasts_S4x4096x16x64_S4x4096x1024,
    ← join_eq 2 128 256 rfl (kcat V) shapeCasts_S4x4096x2x128_S4x4096x256]
  rfl

theorem v164_apply (j : Fin 7680) : (res_main_v164 V : FVec Ideal S4x4096x7680 .f32) (ix3 b t j) = big (xX V) (xP V) (xG V) (xW V) b t j.val := by
  rw [v164_eq]
  pointwise [cat6]
  simp only [Nat.sub_sub, Nat.reduceAdd]
  have hj := j.isLt
  unfold big
  by_cases h1 : j.val < 4096
  · rw [dif_pos h1, if_pos h1]
    exact pr_of V b t _ _ _ rfl
  rw [dif_neg h1, if_neg h1]
  by_cases h2 : j.val < 5120
  · rw [dif_pos (by omega), if_pos h2]
    exact congrArg (· * Ideal.ofBits .f32 0x3E0293EE#32) (qcat_apply V b t ⟨(j.val - 4096) / 128, by omega⟩ ⟨(j.val - 4096) % 128, by omega⟩)
  rw [dif_neg (by omega), if_neg h2]
  by_cases h3 : j.val < 6144
  · rw [dif_pos (by omega), if_pos h3]
    exact pr_of V b t _ _ _ rfl
  rw [dif_neg (by omega), if_neg h3]
  by_cases h4 : j.val < 7168
  · rw [dif_pos (by omega), if_pos h4]
    exact icat_apply V b t ⟨(j.val - 6144) / 64, by omega⟩ ⟨(j.val - 6144) % 64, by omega⟩
  rw [dif_neg (by omega), if_neg h4]
  by_cases h5 : j.val < 7424
  · rw [dif_pos (by omega), if_pos h5]
    exact kcat_apply V b t ⟨(j.val - 7168) / 128, by omega⟩ ⟨(j.val - 7168) % 128, by omega⟩
  rw [dif_neg (by omega), if_neg h5]
  exact pr_of V b t _ _ _ rfl

/-- The reference's main array. -/
theorem ref_main (h) : shapeCast S16384x7680 (truncf .bf16 (res_main_v164 V : FVec Ideal S4x4096x7680 .f32) bitsLt_bf16_f32 : FVec Ideal S4x4096x7680 .bf16) h
    = GM (xX V) (xP V) (xG V) (xW V) := by
  refine (flat_eq 7680 _ _).trans ?_
  funext i
  exact v164_apply V (bat (i 0)) (tok (i 0)) (i 1)

/-- The reference's index keys. -/
theorem ref_kidx (h) : shapeCast S16384x64 (truncf .bf16 (res_main_v93 V : FVec Ideal S4x4096x64 .f32) bitsLt_bf16_f32 : FVec Ideal S4x4096x64 .bf16) h
    = GK (xX V) (xP V) (xG V) (xW V) := by
  refine (flat_eq 64 _ _).trans ?_
  funext i
  exact v93_apply V (bat (i 0)) (tok (i 0)) (i 1)

/-- The reference's small columns. -/
def cat5 : FVec Ideal S4x4096x128 .f32 :=
  (concatenate S4x4096x128 2 [⟨S4x4096x64, ((res_main_v93 V) : (⟨S4x4096x64, .f32⟩ : BufTy).Contents (Elt Ideal))⟩, ⟨S4x4096x16, ((extractStridedSlice S4x4096x16 ![0, 0, 7760] (res_main_v15 V) slices_S4x4096x7776_S4x4096x16_0_0_7760) : (⟨S4x4096x16, .f32⟩ : BufTy).Contents (Elt Ideal))⟩, ⟨S4x4096x8, ((extractStridedSlice S4x4096x8 ![0, 0, 4096] (res_main_v15 V) slices_S4x4096x7776_S4x4096x8_0_0_4096) : (⟨S4x4096x8, .f32⟩ : BufTy).Contents (Elt Ideal))⟩, ⟨S4x4096x8, ((extractStridedSlice S4x4096x8 ![0, 0, 4104] (res_main_v15 V) slices_S4x4096x7776_S4x4096x8_0_0_4104) : (⟨S4x4096x8, .f32⟩ : BufTy).Contents (Elt Ideal))⟩, ⟨S4x4096x32, ((broadcastInDim S4x4096x32 ![] bcast_S_S4x4096x32 (constant S_ .f32 0x00000000#32 : FVec Ideal S_ .f32)) : (⟨S4x4096x32, .f32⟩ : BufTy).Contents (Elt Ideal))⟩] concatenates_S4x4096x64_S4x4096x16_S4x4096x8_S4x4096x8_S4x4096x32_S4x4096x128_d2 : (⟨S4x4096x128, .f32⟩ : BufTy).Contents (Elt Ideal))

theorem cat5_apply (j : Fin 128) : cat5 V (ix3 b t j) = small (xX V) (xP V) (xG V) (xW V) b t j.val := by
  pointwise [cat5]
  simp only [Nat.sub_sub, Nat.reduceAdd]
  have hj := j.isLt
  unfold small
  by_cases h1 : j.val < 64
  · rw [dif_pos h1, if_pos h1]
    exact v93_apply V b t ⟨j.val, h1⟩
  rw [dif_neg h1, if_neg h1]
  by_cases h2 : j.val < 80
  · rw [dif_pos (by omega), if_pos h2]
    exact pr_of V b t _ _ _ rfl
  rw [dif_neg (by omega), if_neg h2]
  by_cases h3 : j.val < 96
  · rw [if_pos h3]
    by_cases h4 : j.val < 88
    · rw [dif_pos (by omega)]
      exact pr_of V b t _ _ _ rfl
    · rw [dif_neg (by omega), dif_pos (by omega)]
      exact pr_of V b t _ _ _ (by omega)
  rw [dif_neg (by omega), dif_neg (by omega), if_neg h3]

/-- The reference's small array. -/
theorem ref_small (h) : shapeCast S16384x128 (cat5 V) h = GS (xX V) (xP V) (xG V) (xW V) := by
  refine (flat_eq 128 _ _).trans ?_
  funext i
  exact cat5_apply V (bat (i 0)) (tok (i 0)) (i 1)

end Cert.In
-- ==== Proof.In.lean ====
/- The input projection: its three frames, and the kernel's three results the reference's. -/
module

public import proofs.«01_k».proof.Defs
public import proofs.«01_k».proof.Proof.Gen.KernelInIdeal.Value
public import proofs.«01_k».proof.Proof.Gen.ReferenceInIdeal.Run
public import proofs.«01_k».proof.Proof.InKern
public import proofs.«01_k».proof.Proof.InRef

@[expose] public section

noncomputable section

namespace Cert.In

open Idealize.ShloMosaic Idealize.SL.Sem

/-- The input projection's reference ends, its arguments unchanged and every counter at zero (it has none). -/
theorem frame_ri : Cert.quiescent_ReferenceInIdeal := fun m ρ _ =>
  (θ_run Cert.ReferenceInIdeal.defs _ _).mono (fun r h => ⟨fun c => (h c).2.2.2, sem_eq_zero_of_no_sems (by decide) r.2⟩) (Cert.ReferenceInIdeal.Value.run m ρ)

/-- The input projection, its columns in the kernel's order and its heads rotated by tables, is the reference's product with its heads rotated one by one. -/
theorem value : Cert.algebraic_KernelInIdeal_ReferenceInIdeal := by
  intro m g m' g' hpre hargs
  refine ⟨fun c => (Cert.KernelInIdeal.Gen.dats m 0 c).arrAt 7 Cert.KernelInIdeal.cfg0.N, fun c => (Cert.KernelInIdeal.Gen.dats m 0 c).arrAt 8 Cert.KernelInIdeal.cfg0.N,
    fun c => (Cert.KernelInIdeal.Gen.dats m 0 c).arrAt 9 Cert.KernelInIdeal.cfg0.N, Cert.KernelInIdeal.Value.run_blocks m g, ?_⟩
  refine (θ_run Cert.ReferenceInIdeal.defs _ _).mono (fun r h c => ?_) (Cert.ReferenceInIdeal.Value.run m' g')
  obtain ⟨h0, h1, h2, h3⟩ := hargs c
  have e0 : xX (StableHlo.launchContents m' c) = yX m c := h0
  have e1 : xP (StableHlo.launchContents m' c) = yP m c := h1
  have e2 : xG (StableHlo.launchContents m' c) = yG m c := h2
  have e3 : xW (StableHlo.launchContents m' c) = yW m c := h3
  refine ⟨(h c).1.trans ?_, (h c).2.1.trans ?_, (h c).2.2.1.trans ?_, (h c).2.2.2⟩
  · refine (ref_main _ _).trans (Eq.trans ?_ (k7 m c).symm)
    rw [e0, e1, e2, e3]
  · refine (ref_small _ _).trans (Eq.trans ?_ (k8 m c).symm)
    rw [e0, e1, e2, e3]
  · refine (ref_kidx _ _).trans (Eq.trans ?_ (k9 m c).symm)
    rw [e0, e1, e2, e3]

end Cert.In

end
-- ==== Proof.Out.lean ====
/- The output projection: the kernel's blocks and the reference's array, read at an entry. -/
module

public import proofs.«01_k».proof.Proof.Gen.KernelOutIdeal.Value
public import proofs.«01_k».proof.Proof.Gen.ReferenceOutIdeal.Run
public import Idealize.ShloMosaic.Lib.Pointwise
public import Idealize.ShloMosaic.Lib.Pipeline.ValueKit

@[expose] public section

set_option maxRecDepth 16384

noncomputable section

namespace Cert.Out

open Idealize.ShloMosaic Idealize.ShloMosaic.TcCoe Idealize.SL.Sem

abbrev SA : Shape := ⟨2, ![16384, 1024]⟩
abbrev SX : Shape := ⟨3, ![4, 4096, 2048]⟩
abbrev SW : Shape := ⟨3, ![1, 2048, 2048]⟩
abbrev SG : Shape := ⟨1, ![2048]⟩
abbrev SO : Shape := ⟨2, ![16384, 2048]⟩

variable (a b : FVec Ideal SA .bf16) (x : FVec Ideal SX .f32) (w : FVec Ideal SW .f32) (g : FVec Ideal SG .f32)

/-- Row `r` of the block's input and the two mixers' outputs through the projection, at column `j`. -/
def Y (r : Fin 16384) (j : Fin 2048) : EReal :=
  x (ix3 (⟨r.val / 4096, by omega⟩ : Fin 4) (⟨r.val % 4096, by omega⟩ : Fin 4096) j)
    + (∑ k : Fin 1024, a (ix2 r k) * w (ix3 (0 : Fin 1) (⟨k.val, by omega⟩ : Fin 2048) j)
      + ∑ k : Fin 1024, b (ix2 r k) * w (ix3 (0 : Fin 1) (⟨1024 + k.val, by omega⟩ : Fin 2048) j))

/-- The tokens of the four batches in one row after the other. -/
def rows : FVec Ideal SO .f32 := fun i =>
  x (ix3 (⟨(i 0).val / 4096, by have : (i 0).val < 16384 := (i 0).isLt; omega⟩ : Fin 4) (⟨(i 0).val % 4096, by omega⟩ : Fin 4096) (i 1 : Fin 2048))

theorem rows_eq (h : SX.ShapeCasts SO) : shapeCast SO x h = rows x := by
  funext i
  refine shapeCast_apply _ _ _ _ ?_
  rw [Shape.rowMajor_val_three, Shape.rowMajor_val_two]
  show ((i 0).val / 4096 * 4096 + (i 0).val % 4096) * 2048 + (i 1).val = (i 0).val * 2048 + (i 1).val
  rw [Nat.div_add_mod']

/-- The weights without the layers' axis. -/
def wrow : FVec Ideal (⟨2, ![2048, 2048]⟩ : Shape) .f32 := fun i => w (ix3 (0 : Fin 1) (i 0 : Fin 2048) (i 1 : Fin 2048))

theorem wrow_eq (h : SW.ShapeCasts (⟨2, ![2048, 2048]⟩ : Shape)) : shapeCast (⟨2, ![2048, 2048]⟩ : Shape) w h = wrow w := by
  funext i
  refine shapeCast_apply _ _ _ _ ?_
  rw [Shape.rowMajor_val_three, Shape.rowMajor_val_two]
  show (0 * 2048 + (i 0).val) * 2048 + (i 1).val = (i 0).val * 2048 + (i 1).val
  omega

/-- The projected row, normed by its mean square and scaled. -/
def G : FVec Ideal SO .f32 := fun i =>
  Y a b x w (i 0) (i 1)
    * Ideal.rsqrt (Ideal.div (∑ k : Fin 2048, Y a b x w (i 0) k * Y a b x w (i 0) k) (Ideal.ofBits .f32 0x45000000#32)
        + Ideal.ofBits .f32 0x358637BD#32)
    * g (ix1 (i 1))

section
open Cert.KernelOutIdeal Cert.KernelOutIdeal.Gen

variable (m : (ℓ : Loc nD τ Cert.KernelOutIdeal.sig) → Buf (Elt Ideal) ℓ) (c : Dev nD)

theorem V_v0 : (V m c main_v0 : Vec Ideal S16384x2048 .f32)
    = shapeCast S16384x2048 (m ((c : Thread nD τ).loc main_arg2) : Vec Ideal S4x4096x2048 .f32) shapeCasts_S4x4096x2048_S16384x2048 := by
  unfold_abbrev_sides
  after_results
  rfl

theorem V_v2 : (V m c main_v2 : Vec Ideal S2048x2048 .bf16)
    = (truncf .bf16 (shapeCast S2048x2048 (m ((c : Thread nD τ).loc main_arg3) : Vec Ideal S1x2048x2048 .f32) shapeCasts_S1x2048x2048_S2048x2048 : FVec Ideal S2048x2048 .f32) bitsLt_bf16_f32 : FVec Ideal S2048x2048 .bf16) := by
  unfold_abbrev_sides
  after_results
  rfl

theorem V_v3 : (V m c main_v3 : Vec Ideal S1x2048 .f32)
    = shapeCast S1x2048 (m ((c : Thread nD τ).loc main_arg4) : Vec Ideal S2048 .f32) shapeCasts_S2048_S1x2048 := by
  unfold_abbrev_sides
  after_results
  rfl

theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![t.val, 0] := by decide +kernel

theorem b0 (t : Fin grid0.N) (r : Fin 512) (k : Fin 1024) (h : 512 * t.val + r.val < 16384) :
    (iblk m c 0 t : Vec Ideal S512x1024 .bf16) (ix2 r k) = (m ((c : Thread nD τ).loc main_arg0) : Vec Ideal S16384x1024 .bf16) (ix2 ⟨512 * t.val + r.val, h⟩ k) := by
  refine Eq.trans ?_ (congrFun (V_main_arg0 m c) _)
  blk_ext [iblk, (idx t).1]

theorem b1 (t : Fin grid0.N) (r : Fin 512) (k : Fin 1024) (h : 512 * t.val + r.val < 16384) :
    (iblk m c 1 t : Vec Ideal S512x1024 .bf16) (ix2 r k) = (m ((c : Thread nD τ).loc main_arg1) : Vec Ideal S16384x1024 .bf16) (ix2 ⟨512 * t.val + r.val, h⟩ k) := by
  refine Eq.trans ?_ (congrFun (V_main_arg1 m c) _)
  blk_ext [iblk, (idx t).2.1]

theorem b2 (t : Fin grid0.N) (r : Fin 512) (k : Fin 2048) (h : 512 * t.val + r.val < 16384) :
    (iblk m c 2 t : Vec Ideal S512x2048 .f32) (ix2 r k) = (m ((c : Thread nD τ).loc main_arg2) : Vec Ideal S4x4096x2048 .f32)
      (ix3 (⟨(512 * t.val + r.val) / 4096, by omega⟩ : Fin 4) (⟨(512 * t.val + r.val) % 4096, by omega⟩ : Fin 4096) k) := by
  refine Eq.trans (b := (V m c main_v0 : Vec Ideal S16384x2048 .f32) (ix2 ⟨512 * t.val + r.val, h⟩ k)) ?_ ?_
  · blk_ext [iblk, (idx t).2.2.1]
  · rw [V_v0, rows_eq]; rfl

theorem b3 (t : Fin grid0.N) (r k : Fin 2048) :
    (iblk m c 3 t : Vec Ideal S2048x2048 .bf16) (ix2 r k) = (m ((c : Thread nD τ).loc main_arg3) : Vec Ideal S1x2048x2048 .f32) (ix3 0 r k) := by
  refine Eq.trans (b := (V m c main_v2 : Vec Ideal S2048x2048 .bf16) (ix2 r k)) ?_ ?_
  · blk_ext [iblk, (idx t).2.2.2.1]
  · rw [V_v2, wrow_eq]; rfl

theorem b4 (t : Fin grid0.N) (k : Fin 2048) :
    (iblk m c 4 t : Vec Ideal S1x2048 .f32) (ix2 0 k) = (m ((c : Thread nD τ).loc main_arg4) : Vec Ideal S2048 .f32) (ix1 k) := by
  refine Eq.trans (b := (V m c main_v3 : Vec Ideal S1x2048 .f32) (ix2 0 k)) ?_ ?_
  · blk_ext [iblk, (idx t).2.2.2.2.1]
  · rw [V_v3]; pointwise

/-- The kernel's whole array. -/
theorem kernel : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have ht : t.val < 32 := t.isLt
  blk_simp
  rw [after0_5]
  frame_out
  obtain ⟨r, j, rfl⟩ : ∃ (r : Fin 512) (j : Fin 2048), y = ix2 r j := ⟨y 0, y 1, eq_ix2 y⟩
  pointwise [k0_pay1]
  have h : 512 * t.val + r.val < 16384 := by omega
  have e : ((View.whole main_v4).slice (win0_5.rect t)).emb (ix2 r j) = (ix2 (⟨512 * t.val + r.val, h⟩ : Fin 16384) j : SO.Idx) := by
    blk_ext [(idx t).2.2.2.2.2]
  rw [e]
  simp only [b0 m c t _ _ h, b1 m c t _ _ h, b2 m c t _ _ h, b3 m c t, b4 m c t]
  rfl

end

section
open Cert.ReferenceOutIdeal Cert.ReferenceOutIdeal.Gen

/-- The reference's sum before the norm. -/
def RY : FVec Ideal S16384x2048 .f32 :=
  addf (shapeCast S16384x2048 x shapeCasts_S4x4096x2048_S16384x2048)
    (Host.dotGeneral dot_S16384x2048_S2048x2048_S16384x2048_1_0_0_1_n_n none
      (concatenate S16384x2048 1 [⟨S16384x1024, (extf .f32 a bitsLt_bf16_f32)⟩, ⟨S16384x1024, (extf .f32 b bitsLt_bf16_f32)⟩] concatenates_S16384x1024_S16384x1024_S16384x2048_d1 : FVec Ideal S16384x2048 .f32)
      (shapeCast S2048x2048 w shapeCasts_S1x2048x2048_S2048x2048))

theorem RY_apply (r : Fin 16384) (j : Fin 2048) : RY a b x w (ix2 r j) = Y a b x w r j := by
  unfold RY
  rw [rows_eq, wrow_eq]
  pointwise
  rfl

/-- The reference's whole array. -/
def RO (y : FVec Ideal S16384x2048 .f32) : FVec Ideal S16384x2048 .f32 :=
  mulf (mulf y (broadcastInDim S16384x2048 ![0, 1] bcast_S16384x1_S16384x2048_0_1 (Host.rsqrt (addf (Host.divf (broadcastInDim S16384x1 ![0] bcast_S16384_S16384x1_0
    (Host.reduceAdd (mulf y y) (constant S_ .f32 0x00000000#32) reducesTo_S16384x2048_S16384_d1 h_S_)) (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

theorem RO_apply (y : FVec Ideal S16384x2048 .f32) (r : Fin 16384) (j : Fin 2048) : RO g y (ix2 r j) =
    y (ix2 r j) * Ideal.rsqrt (Ideal.div (∑ k : Fin 2048, y (ix2 r k) * y (ix2 r k)) (Ideal.ofBits .f32 0x45000000#32)
        + Ideal.ofBits .f32 0x358637BD#32) * g (ix1 j) := by
  pointwise [RO]

/-- The reference's array is the projected rows, normed. -/
theorem reference : RO g (RY a b x w) = G a b x w g := by
  funext i
  obtain ⟨r, j, rfl⟩ : ∃ (r : Fin 16384) (j : Fin 2048), i = ix2 r j := ⟨i 0, i 1, eq_ix2 i⟩
  rw [RO_apply]
  simp only [RY_apply]
  rfl

end

end Cert.Out
-- ==== Proof.Sweep.lean ====
/- A batch's sixteen blocks, one after the other: the outputs and the state of the rule run over the whole sequence. -/
module

public import proofs.«01_k».proof.Proof.Host

@[expose] public section

noncomputable section

namespace Cert.Gdn

open Idealize.ShloMosaic Idealize.ShloMosaic.TcCoe Cert.KernelIdeal Cert.KernelIdeal.Gen

/-- Batch `b` as one long block of 4096 tokens: nothing carried into it, the state zero. -/
def Nums.bat (N : Nums) (b : ℕ) : Reals where
  xq := fun i j => N.P (4096 * b + i) j
  xk := fun i j => N.P (4096 * b + i) (1024 + j)
  xv := fun i j => N.P (4096 * b + i) (2048 + j)
  z := fun i j => N.P (4096 * b + i) (3072 + j)
  hq := fun _ _ => 0
  hk := fun _ _ => 0
  hv := fun _ _ => 0
  wq := N.W
  wk := fun i j => N.W i (1024 + j)
  wv := fun i j => N.W i (2048 + j)
  ga := fun i h => N.SM (4096 * b + i) (80 + h)
  gb := fun i h => N.SM (4096 * b + i) (88 + h)
  al := N.AL
  dt := N.DT
  ng := N.NG
  s := fun _ _ _ => 0

/-- The rows the convolution carries into block `u`. -/
def hist (x : ℕ → ℕ → ℝ) (u i j : ℕ) : ℝ := if u = 0 then 0 else x (256 * u - 8 + i) j

theorem cX_shift (x : ℕ → ℕ → ℝ) (u i j : ℕ) :
    cX (fun i j => x (256 * u + i) j) (hist x u) i j = cX x (fun _ _ => 0) (256 * u + i) j := by
  unfold cX hist
  by_cases hu : u = 0
  · subst hu; simp only [Nat.mul_zero, Nat.zero_add, if_true]
  · have h8 : ¬ 256 * u + i < 8 := by omega
    rw [if_neg h8, if_neg hu]
    by_cases hi : i < 8
    · rw [if_pos hi]; congr 1; omega
    · rw [if_neg hi]; exact congrArg (x · j) (by omega : 256 * u + (i - 8) = 256 * u + i - 8)

/-- The convolution of a block over the carried rows is that of the whole sequence. -/
theorem cO_shift (x w : ℕ → ℕ → ℝ) (u i j : ℕ) :
    cO (fun i j => x (256 * u + i) j) (hist x u) w i j = cO x (fun _ _ => 0) w (256 * u + i) j := by
  unfold cO cs
  rw [cX_shift, cX_shift, cX_shift]; rfl

variable (N : Nums) (b u : ℕ)

def Nums.Hs (a i j : ℕ) : ℝ :=
  hist (if a = 0 then (N.bat b).xq else if a = 1 then (N.bat b).xk else (N.bat b).xv) u i j

def Nums.Ss (h a d : ℕ) : ℝ := (N.bat b).S h (256 * u) a d

/-- Block `u` of batch `b`. -/
def Nums.R : Reals := (N.blk (16 * b + u)).reals (N.Ss b u) (N.Hs b u)

theorem row_eq (i : ℕ) : 256 * (16 * b + u) + i = 4096 * b + (256 * u + i) := by omega

theorem R_Q (h i x : ℕ) : (N.R b u).Q h i x = (N.bat b).Q h (256 * u + i) x := by
  have e : (N.R b u).xq = fun i j => (N.bat b).xq (256 * u + i) j := by
    funext i j; exact congrArg (N.P · j) (row_eq b u i)
  have e' : (N.R b u).hq = hist (N.bat b).xq u := rfl
  unfold Reals.Q
  rw [e, e']
  simp only [cO_shift]; rfl

theorem R_K (h i x : ℕ) : (N.R b u).K h i x = (N.bat b).K h (256 * u + i) x := by
  have e : (N.R b u).xk = fun i j => (N.bat b).xk (256 * u + i) j := by
    funext i j; exact congrArg (N.P · (1024 + j)) (row_eq b u i)
  have e' : (N.R b u).hk = hist (N.bat b).xk u := rfl
  unfold Reals.K
  rw [e, e']
  simp only [cO_shift]; rfl

theorem R_V (h i x : ℕ) : (N.R b u).V h i x = (N.bat b).V h (256 * u + i) x := by
  have e : (N.R b u).xv = fun i j => (N.bat b).xv (256 * u + i) j := by
    funext i j; exact congrArg (N.P · (2048 + j)) (row_eq b u i)
  have e' : (N.R b u).hv = hist (N.bat b).xv u := rfl
  unfold Reals.V
  rw [e, e']
  simp only [cO_shift]; rfl

theorem R_G (h i : ℕ) : (N.R b u).G h i = (N.bat b).G h (256 * u + i) := by
  show gate _ (N.SM (256 * (16 * b + u) + i) (80 + h) + _) = gate _ (N.SM (4096 * b + (256 * u + i)) (80 + h) + _)
  rw [row_eq]; rfl

theorem R_B (h i : ℕ) : (N.R b u).B h i = (N.bat b).B h (256 * u + i) := by
  show Gdn.sig (N.SM (256 * (16 * b + u) + i) (88 + h)) = Gdn.sig (N.SM (4096 * b + (256 * u + i)) (88 + h))
  rw [row_eq]

theorem R_S (h i : ℕ) : (N.R b u).S h i = (N.bat b).S h (256 * u + i) := by
  unfold Reals.S
  rw [drun_add, funext (R_G N b u h), funext (R_B N b u h), funext fun i => funext (R_K N b u h i), funext fun i => funext (R_V N b u h i)]
  rfl

theorem R_out (i j : ℕ) : (N.R b u).out i j = (N.bat b).out (256 * u + i) j := by
  have e : (N.R b u).O (j / 128) i = (N.bat b).O (j / 128) (256 * u + i) := by
    funext d
    unfold Reals.O
    simp only [R_Q, R_S]; rfl
  have e' : (N.R b u).z i j = (N.bat b).z (256 * u + i) j := congrArg (N.P · (3072 + j)) (row_eq b u i)
  unfold Reals.out
  rw [e, e']; rfl

/-- What block `u` carries out: the next block's rows and state. -/
theorem R_ca (a i j : ℕ) : (N.R b u).ca a i j = N.Hs b (u + 1) a i j := by
  have e : ∀ x : ℕ → ℕ → ℝ, hist x (u + 1) i j = x (256 * u + (248 + i)) j := fun x => by
    unfold hist; rw [if_neg (Nat.succ_ne_zero u)]; congr 1; omega
  unfold Nums.Hs
  rw [e]
  unfold Reals.ca
  split
  · exact congrArg (N.P · j) (row_eq b u _)
  · split
    · exact congrArg (N.P · (1024 + j)) (row_eq b u _)
    · exact congrArg (N.P · (2048 + j)) (row_eq b u _)

theorem R_Sn (h a d : ℕ) : (N.R b u).S h 256 a d = N.Ss b (u + 1) h a d := by
  rw [R_S]; rfl

theorem R_zero : N.R b 0 = (N.blk (16 * b)).reals (fun _ _ _ => 0) (fun _ _ _ => 0) := by
  have e : N.Hs b 0 = fun _ _ _ => 0 := by funext a i j; rfl
  have e' : N.Ss b 0 = fun _ _ _ => 0 := by funext h a d; rfl
  unfold Nums.R; rw [e, e']; rfl

section Points

variable {N} {m : (ℓ : Loc nD τ KernelIdeal.sig) → Buf (Elt Ideal) ℓ} {c : Dev nD}

/-- What is held after block `u` of batch `b`. -/
def Nums.held (N : Nums) (b u : ℕ) : B2 256 1024 × V3 8 128 128 × V3 3 8 1024 :=
  (c2 fun i j => (N.bat b).out (256 * u + i) j, c3 (N.Ss b (u + 1)), c3 (N.Hs b (u + 1)))

theorem R_held : ((c2 (N.R b u).out, c3 fun h a d => (N.R b u).S h 256 a d, c3 (N.R b u).ca) : B2 256 1024 × V3 8 128 128 × V3 3 8 1024) = N.held b u := by
  unfold Nums.held
  rw [funext fun i => funext (R_out N b u i), funext fun a => funext fun i => funext (R_ca N b u a i)]
  simp only [R_Sn]

theorem point_A (hm : KHeld m c N) (t : Fin cfg0.N) (h0 : t.val % 16 = 0) (ht : t.val = 16 * b) :
    outsAt0 m c t.val t.isLt = N.held b 0 := by
  rw [outsAt0_A m c t h0, hm.x0, hm.x1, hm.x2, hm.x3, hm.b4, hm.b5, hm.b6, hm.b7, hm.b8, hm.b9, hm.b10, ← R_held, R_zero, ← ht]
  exact congrArg₂ Prod.mk (outA_eq (X := N.blk t.val) ..) (congrArg₂ Prod.mk (stA_eq (X := N.blk t.val) ..) (caA_eq (X := N.blk t.val) ..))

theorem point_B (hm : KHeld m c N) (t : Fin cfg0.N) (h0 : ¬ t.val % 16 = 0) (ht : t.val = 16 * b + (u + 1))
    (hp : outsAt0 m c (t.val - 1) (Nat.lt_of_le_of_lt (Nat.sub_le _ _) t.isLt) = N.held b u) :
    outsAt0 m c t.val t.isLt = N.held b (u + 1) := by
  rw [outsAt0_B m c t h0, hp, hm.x0, hm.x1, hm.x2, hm.x3, hm.b4, hm.b5, hm.b6, hm.b7, hm.b8, hm.b9, hm.b10]
  refine Eq.trans ?_ (R_held (N := N) b (u + 1))
  unfold Nums.R
  rw [← ht]
  exact congrArg₂ Prod.mk (outB_eq (X := N.blk t.val) ..) (congrArg₂ Prod.mk (stB_eq (X := N.blk t.val) ..) (caB_eq (X := N.blk t.val) ..))

theorem outsAt0_eq (hm : KHeld m c N) (b : ℕ) (hb : b < 4) : ∀ (u : ℕ) (hu : u < 16) (h : 16 * b + u < cfg0.N), outsAt0 m c (16 * b + u) h = N.held b u
  | 0, _, h => point_A b hm ⟨16 * b, h⟩ (Nat.mul_mod_right 16 b) rfl
  | u + 1, hu, h => by
    have h' : 16 * b + u < cfg0.N := by omega
    exact point_B b u hm ⟨16 * b + (u + 1), h⟩ (by show ¬ (16 * b + (u + 1)) % 16 = 0; omega) rfl (outsAt0_eq hm b hb u (by omega) h')

/-- The array the sweep leaves. -/
theorem G11_eq (hm : KHeld m c N) :
    (Value.G11 m c : B2 16384 1024) = (c2 (fun r j => (N.bat (r / 4096)).out (r % 4096) j) : B2 16384 1024) := by
  funext i
  have hi0 : (i 0).val < 16384 := (i 0).isLt
  have hi1 : (i 1).val < 1024 := (i 1).isLt
  have hp : Value.pt11Of i = 16 * ((i 0).val / 4096) + (i 0).val % 4096 / 256 := by
    show 1 * ((i 0).val / 256 - 0) + 1 * ((i 1).val / 1024 - 0) = _
    omega
  have hl : Value.pt11Of i < cfg0.N := by rw [hp, show cfg0.N = 64 from N_0]; omega
  have e : outsAt0 m c (Value.pt11Of i) hl = N.held ((i 0).val / 4096) ((i 0).val % 4096 / 256) := by
    have e := outsAt0_eq hm ((i 0).val / 4096) (by omega) ((i 0).val % 4096 / 256) (by omega) (by rw [← hp]; exact hl)
    rw [← e]; congr 1
  unfold Value.G11
  rw [dif_pos hl, ← Value.outsAt0_sweep m c (Value.pt11Of i) hl, e]
  show (((N.bat ((i 0).val / 4096)).out (256 * ((i 0).val % 4096 / 256) + (i 0).val % 256) ((i 1).val % 1024) : ℝ) : EReal)
    = (((N.bat ((i 0).val / 4096)).out ((i 0).val % 4096) (i 1).val : ℝ) : EReal)
  congr 2 <;> omega

end Points

end Cert.Gdn
-- ==== Proof.RVec.lean ====
/- Arrays of rank three and four of real numbers under the host's operations. -/
module

public import proofs.«01_k».proof.Proof.Real

@[expose] public section

noncomputable section

namespace Cert.Gdn

open Idealize.ShloMosaic Finset

abbrev T3 (a b c : ℕ) := FVec Ideal ⟨3, ![a, b, c]⟩ .f32
abbrev T4 (a b c d : ℕ) := FVec Ideal ⟨4, ![a, b, c, d]⟩ .f32

/-- A rank-four array of real numbers. -/
def c4 {a b c d : ℕ} {φ : FTy} (A : ℕ → ℕ → ℕ → ℕ → ℝ) : FVec Ideal ⟨4, ![a, b, c, d]⟩ φ :=
  fun i => ((A (i 0).val (i 1).val (i 2).val (i 3).val : ℝ) : EReal)

variable {a b c d a' b' c' d' n : ℕ} {φ ψ : FTy}

theorem c4_congr {A B : ℕ → ℕ → ℕ → ℕ → ℝ} (h : ∀ i < a, ∀ j < b, ∀ k < c, ∀ l < d, A i j k l = B i j k l) :
    (c4 A : FVec Ideal ⟨4, ![a, b, c, d]⟩ φ) = c4 B :=
  funext fun i => congrArg (fun r : ℝ => (r : EReal)) (h _ (i 0).isLt _ (i 1).isLt _ (i 2).isLt _ (i 3).isLt)

/-! ### Elementwise, at any shape -/

/-- Real numbers as an array. -/
def L {s : Shape} (A : s.Idx → ℝ) : FVec Ideal s .f32 := fun i => ((A i : ℝ) : EReal)

variable {s : Shape} (A B : s.Idx → ℝ)

theorem addf_L : addf (L A) (L B) = L fun i => A i + B i := funext fun _ => (EReal.coe_add _ _).symm
theorem subf_L : subf (L A) (L B) = L fun i => A i - B i := funext fun _ => (EReal.coe_sub _ _).symm
theorem mulf_L : mulf (L A) (L B) = L fun i => A i * B i := funext fun _ => (EReal.coe_mul _ _).symm
theorem maximumf_L : maximumf (L A) (L B) = L fun i => max (A i) (B i) := funext fun _ => (EReal.coe_strictMono.monotone.map_max).symm
theorem hneg_L : Host.negf (L A) = L fun i => - A i := funext fun _ => (EReal.coe_neg _).symm
theorem hexp_L : Host.exp (L A) = L fun i => Real.exp (A i) := rfl
theorem habs_L : Host.absf (L A) = L fun i => |A i| := funext fun i => by
  show (max ((A _ : ℝ) : EReal) (-((A _ : ℝ) : EReal))) = _
  rw [← EReal.coe_neg, ← EReal.coe_strictMono.monotone.map_max]; rfl
theorem hdiv_L (h : ∀ i, B i ≠ 0) : Host.divf (L A) (L B) = L fun i => A i / B i := funext fun i => by
  show Ideal.div ((A _ : ℝ) : EReal) ((B _ : ℝ) : EReal) = ((A _ / B _ : ℝ) : EReal)
  rw [Ideal.div_coe (h _), ← EReal.coe_mul]; congr 1; ring
theorem hrsqrt_L (h : ∀ i, 0 < A i) : Host.rsqrt (L A) = L fun i => (Real.sqrt (A i))⁻¹ := funext fun i => by
  show Ideal.rsqrt ((A _ : ℝ) : EReal) = _
  rw [Ideal.rsqrt_coe, if_neg (not_lt.2 (h _).le), if_neg (h _).ne']; rfl
theorem hlog1p_L (h : ∀ i, 0 < 1 + A i) : Host.log1p (L A) = L fun i => Real.log (1 + A i) := funext fun i => by
  show Ideal.log (1 + ((A _ : ℝ) : EReal)) = _
  rw [← EReal.coe_one, ← EReal.coe_add, Ideal.log_coe, if_neg (not_le.2 (h _))]; rfl
/-- A real number is not unequal to itself. -/
theorem une_L (X Y : FVec Ideal s .f32) : select (cmpf .une (L A) (L A)) X Y = Y := funext fun i => by
  rw [ValueIdx.select_apply]
  show (if BitVec.ofBool (decide (((A i : ℝ) : EReal) ≠ _)) = 1#1 then _ else _) = _
  simp [L]

theorem full_L (w : BitVec 32) (x : ℝ) (h : Ideal.ofBits .f32 w = ((x : ℝ) : EReal)) {s₀ : Shape} (dims : Fin s₀.rank → Fin s.rank) (hb : s₀.BroadcastsInDim s dims) :
    broadcastInDim s dims hb (constant s₀ .f32 w : FVec Ideal s₀ .f32) = L fun _ => x := funext fun _ => h

theorem c1_L (A : ℕ → ℝ) : (c1 A : FVec Ideal ⟨1, ![a]⟩ .f32) = L fun i => A (i 0).val := rfl
theorem c2_L (A : ℕ → ℕ → ℝ) : (c2 A : FVec Ideal ⟨2, ![a, b]⟩ .f32) = L fun i => A (i 0).val (i 1).val := rfl
theorem c3_L (A : ℕ → ℕ → ℕ → ℝ) : (c3 A : T3 a b c) = L fun i => A (i 0).val (i 1).val (i 2).val := rfl
theorem c4_L (A : ℕ → ℕ → ℕ → ℕ → ℝ) : (c4 A : T4 a b c d) = L fun i => A (i 0).val (i 1).val (i 2).val (i 3).val := rfl

/-! ### Shapes -/

theorem slice_c3 (A : ℕ → ℕ → ℕ → ℝ) (o p q : ℕ) (h : Shape.Slices ⟨3, ![a, b, c]⟩ ![o, p, q] ⟨3, ![a', b', c']⟩) :
    extractStridedSlice ⟨3, ![a', b', c']⟩ ![o, p, q] (c3 A : FVec Ideal ⟨3, ![a, b, c]⟩ φ) h
      = (c3 (fun i j k => A (o + i) (p + j) (q + k)) : FVec Ideal _ φ) := rfl

theorem slice_c4 (A : ℕ → ℕ → ℕ → ℕ → ℝ) (o p q r : ℕ) (h : Shape.Slices ⟨4, ![a, b, c, d]⟩ ![o, p, q, r] ⟨4, ![a', b', c', d']⟩) :
    extractStridedSlice ⟨4, ![a', b', c', d']⟩ ![o, p, q, r] (c4 A : FVec Ideal ⟨4, ![a, b, c, d]⟩ φ) h
      = (c4 (fun i j k l => A (o + i) (p + j) (q + k) (r + l)) : FVec Ideal _ φ) := rfl

/-- The rows split in two axes. -/
theorem cast_23 (A : ℕ → ℕ → ℝ) (hn : a * b = n) (hs : Shape.ShapeCasts ⟨2, ![n, c]⟩ ⟨3, ![a, b, c]⟩) :
    shapeCast ⟨3, ![a, b, c]⟩ (c2 A : FVec Ideal ⟨2, ![n, c]⟩ φ) hs = (c3 (fun i j k => A (b * i + j) k) : FVec Ideal _ φ) := by
  funext y
  have h0 : (y 0).val < a := (y 0).isLt
  have h1 : (y 1).val < b := (y 1).isLt
  have hlt : b * (y 0).val + (y 1).val < n := by
    have := Nat.mul_le_mul_left b (Nat.succ_le_of_lt h0)
    rw [Nat.mul_comm b a, hn, Nat.mul_succ] at this
    omega
  refine (shapeCast_apply _ hs y (ValueIdx.ix2 ⟨b * (y 0).val + (y 1).val, hlt⟩ (y 2)) ?_).trans rfl
  rw [Shape.rowMajor_val_three, Shape.rowMajor_val_two]
  show (b * (y 0).val + (y 1).val) * c + (y 2).val = ((y 0).val * b + (y 1).val) * c + (y 2).val
  rw [Nat.mul_comm b]

/-- The rows of two axes in one. -/
theorem cast_32 (A : ℕ → ℕ → ℕ → ℝ) (hn : a * b = n) (hs : Shape.ShapeCasts ⟨3, ![a, b, c]⟩ ⟨2, ![n, c]⟩) :
    shapeCast ⟨2, ![n, c]⟩ (c3 A : FVec Ideal ⟨3, ![a, b, c]⟩ φ) hs = (c2 (fun i k => A (i / b) (i % b) k) : FVec Ideal _ φ) := by
  funext y
  have h0 : (y 0).val < n := (y 0).isLt
  have hb : 0 < b := by rcases Nat.eq_zero_or_pos b with h | h; · subst h; omega
                        · exact h
  have hq : (y 0).val / b < a := Nat.div_lt_of_lt_mul (by rw [Nat.mul_comm, hn]; exact h0)
  refine (shapeCast_apply _ hs y (ValueIdx.ix3 ⟨(y 0).val / b, hq⟩ ⟨(y 0).val % b, Nat.mod_lt _ hb⟩ (y 1)) ?_).trans rfl
  rw [Shape.rowMajor_val_three, Shape.rowMajor_val_two]
  show ((y 0).val / b * b + (y 0).val % b) * c + (y 1).val = (y 0).val * c + (y 1).val
  rw [Nat.div_add_mod']

/-- The last axis split in two. -/
theorem cast_34 (A : ℕ → ℕ → ℕ → ℝ) (hn : c * d = n) (hs : Shape.ShapeCasts ⟨3, ![a, b, n]⟩ ⟨4, ![a, b, c, d]⟩) :
    shapeCast ⟨4, ![a, b, c, d]⟩ (c3 A : FVec Ideal ⟨3, ![a, b, n]⟩ φ) hs = (c4 (fun i j k l => A i j (d * k + l)) : FVec Ideal _ φ) := by
  funext y
  have h2 : (y 2).val < c := (y 2).isLt
  have h3 : (y 3).val < d := (y 3).isLt
  have hlt : d * (y 2).val + (y 3).val < n := by
    have := Nat.mul_le_mul_left d (Nat.succ_le_of_lt h2)
    rw [Nat.mul_comm d c, hn, Nat.mul_succ] at this
    omega
  refine (shapeCast_apply _ hs y (ValueIdx.ix3 (y 0) (y 1) ⟨d * (y 2).val + (y 3).val, hlt⟩) ?_).trans rfl
  rw [Shape.rowMajor_val_three, Shape.rowMajor_val_four]
  show ((y 0).val * b + (y 1).val) * n + (d * (y 2).val + (y 3).val) = (((y 0).val * b + (y 1).val) * c + (y 2).val) * d + (y 3).val
  rw [← hn]; ring

/-- The last two axes in one. -/
theorem cast_43 (A : ℕ → ℕ → ℕ → ℕ → ℝ) (hn : c * d = n) (hs : Shape.ShapeCasts ⟨4, ![a, b, c, d]⟩ ⟨3, ![a, b, n]⟩) :
    shapeCast ⟨3, ![a, b, n]⟩ (c4 A : FVec Ideal ⟨4, ![a, b, c, d]⟩ φ) hs = (c3 (fun i j k => A i j (k / d) (k % d)) : FVec Ideal _ φ) := by
  funext y
  have h0 : (y 2).val < n := (y 2).isLt
  have hd : 0 < d := by rcases Nat.eq_zero_or_pos d with h | h; · subst h; omega
                        · exact h
  have hq : (y 2).val / d < c := Nat.div_lt_of_lt_mul (by rw [Nat.mul_comm, hn]; exact h0)
  refine (shapeCast_apply _ hs y (ValueIdx.ix4 (y 0) (y 1) ⟨(y 2).val / d, hq⟩ ⟨(y 2).val % d, Nat.mod_lt _ hd⟩) ?_).trans rfl
  rw [Shape.rowMajor_val_three, Shape.rowMajor_val_four]
  show (((y 0).val * b + (y 1).val) * c + (y 2).val / d) * d + (y 2).val % d = ((y 0).val * b + (y 1).val) * n + (y 2).val
  subst hn; rw [add_mul _ _ d, add_assoc, Nat.div_add_mod']; ring

/-- A leading axis of one element dropped. -/
theorem cast_drop3 (A : ℕ → ℕ → ℕ → ℕ → ℝ) (hs : Shape.ShapeCasts ⟨4, ![1, a, b, c]⟩ ⟨3, ![a, b, c]⟩) :
    shapeCast ⟨3, ![a, b, c]⟩ (c4 A : FVec Ideal ⟨4, ![1, a, b, c]⟩ φ) hs = (c3 (A 0) : FVec Ideal _ φ) := by
  funext j
  refine (shapeCast_apply _ hs j (ValueIdx.ix4 0 (j 0) (j 1) (j 2)) ?_).trans rfl
  rw [Shape.rowMajor_val_three, Shape.rowMajor_val_four]
  show ((0 * a + (j 0).val) * b + (j 1).val) * c + (j 2).val = ((j 0).val * b + (j 1).val) * c + (j 2).val
  rw [zero_mul, zero_add]

theorem cast_21 (A : ℕ → ℕ → ℝ) (hs : Shape.ShapeCasts ⟨2, ![1, a]⟩ ⟨1, ![a]⟩) :
    shapeCast ⟨1, ![a]⟩ (c2 A : FVec Ideal ⟨2, ![1, a]⟩ φ) hs = (c1 (A 0) : FVec Ideal _ φ) := by
  funext j
  refine (shapeCast_apply _ hs j (ValueIdx.ix2 0 (j 0)) ?_).trans rfl
  rw [Shape.rowMajor_val_two, Shape.rowMajor_val_one]
  show 0 * a + (j 0).val = (j 0).val
  rw [zero_mul, zero_add]

/-- The first two axes exchanged. -/
theorem swap_c4 (A : ℕ → ℕ → ℕ → ℕ → ℝ) (h : Shape.Transposes ⟨4, ![a, b, c, d]⟩ [1, 0, 2, 3] ⟨4, ![b, a, c, d]⟩) :
    transpose ⟨4, ![b, a, c, d]⟩ [1, 0, 2, 3] (c4 A : FVec Ideal ⟨4, ![a, b, c, d]⟩ φ) h = (c4 (fun i j k l => A j i k l) : FVec Ideal _ φ) := by
  funext j
  refine (transpose_apply _ _ h j (ValueIdx.ix4 (j 1) (j 0) (j 2) (j 3)) fun x => ?_).trans rfl
  match x with
  | ⟨0, _⟩ => rfl
  | ⟨1, _⟩ => rfl
  | ⟨2, _⟩ => rfl
  | ⟨3, _⟩ => rfl

theorem swap_c3 (A : ℕ → ℕ → ℕ → ℝ) (h : Shape.Transposes ⟨3, ![a, b, c]⟩ [1, 0, 2] ⟨3, ![b, a, c]⟩) :
    transpose ⟨3, ![b, a, c]⟩ [1, 0, 2] (c3 A : FVec Ideal ⟨3, ![a, b, c]⟩ φ) h = (c3 (fun i j k => A j i k) : FVec Ideal _ φ) := by
  funext j
  refine (transpose_apply _ _ h j (ValueIdx.ix3 (j 1) (j 0) (j 2)) fun x => ?_).trans rfl
  match x with
  | ⟨0, _⟩ => rfl
  | ⟨1, _⟩ => rfl
  | ⟨2, _⟩ => rfl

/-- The sum along the last of four axes, from zero. -/
theorem sum_c4 (A : ℕ → ℕ → ℕ → ℕ → ℝ) (h : Shape.ReducesTo ⟨4, ![a, b, c, d]⟩ [3] ⟨3, ![a, b, c]⟩) {u : Shape} (hu : 0 < u.numel) :
    Host.reduceAdd (c4 A : T4 a b c d) (constant u .f32 0x00000000#32 : FVec Ideal u .f32) h hu
      = (c3 (fun i j k => ∑ x ∈ range d, A i j k x) : T3 a b c) := by
  funext j
  show Ideal.hostReduceAdd h (c4 A : T4 a b c d) (Ideal.ofBits .f32 0x00000000#32) j = _
  rw [Ideal.hostReduceAdd_r4_a3, Ideal.ofBits_zero_f32]
  refine (zero_add _).trans ?_
  exact coe_sum_fin d fun x => A (j 0).val (j 1).val (j 2).val x

/-- The dimension numbers of a batch of vectors times a batch of matrices. -/
def VDims : DotDims ⟨3, ![4, 8, 128]⟩ ⟨4, ![4, 8, 128, 128]⟩ ⟨3, ![4, 8, 128]⟩ where
  lhsContracting := [2]
  rhsContracting := [2]
  lhsNonContracting := []
  rhsNonContracting := [3]
  lhsBatch := [0, 1]
  rhsBatch := [0, 1]
  wf := by decide

theorem dot_c3 (prec : Option ContractPrecision) (A : ℕ → ℕ → ℕ → ℝ) (B : ℕ → ℕ → ℕ → ℕ → ℝ) :
    Host.dotGeneral VDims prec (c3 A : T3 4 8 128) (c4 B : T4 4 8 128 128)
      = (c3 (fun i j l => ∑ k ∈ range 128, A i j k * B i j k l) : T3 4 8 128) := by
  funext j
  have hr : VDims.contr.rank = 1 := rfl
  have hs : VDims.contr.size ⟨0, by omega⟩ = 128 := rfl
  show FloatOps.dotGeneral VDims prec _ _ _ j = _
  rw [Ideal.dotGeneral_apply, ← Equiv.sum_comp (ValueIdx.contrEquiv1 VDims 128 hr hs).symm]
  have hl : ∀ k : Fin 128, (c3 A : T3 4 8 128) (VDims.lhsIdx j ((ValueIdx.contrEquiv1 VDims 128 hr hs).symm k))
      = ((A (j 0).val (j 1).val k.val : ℝ) : EReal) := fun k => by
    have hk := ValueIdx.contrEquiv1_symm_val VDims 128 hr hs k
    show ((A _ _ _ : ℝ) : EReal) = _
    congr 2
  have hrr : ∀ k : Fin 128, (c4 B : T4 4 8 128 128) (VDims.rhsIdx j ((ValueIdx.contrEquiv1 VDims 128 hr hs).symm k))
      = ((B (j 0).val (j 1).val k.val (j 2).val : ℝ) : EReal) := fun k => by
    have hk := ValueIdx.contrEquiv1_symm_val VDims 128 hr hs k
    show ((B _ _ _ _ : ℝ) : EReal) = _
    congr 2
  simp only [hl, hrr, ← EReal.coe_mul]
  exact coe_sum_fin 128 fun k => A (j 0).val (j 1).val k * B (j 0).val (j 1).val k (j 2).val

end Cert.Gdn
-- ==== Proof.Seq.lean ====
/- What the reference computes of its inputs before the loop, on real inputs: each token's query, key, value, decay and beta. -/
module

public import proofs.«01_k».proof.Proof.RVec
public import proofs.«01_k».proof.Proof.Sweep
public import Idealize.ShloMosaic.Lib.KernelVsHost
public import proofs.«01_k».proof.Proof.Gen.ReferenceIdeal.Step

@[expose] public section

noncomputable section

namespace Cert.Gdn

open Idealize.ShloMosaic Finset Cert.ReferenceIdeal Cert.ReferenceIdeal.Gen

variable (N : Nums)

/-- The arguments as arrays. -/
abbrev Nums.a0 : FVec Ideal S16384x7680 .bf16 := c2 N.P
abbrev Nums.a1 : FVec Ideal S16384x128 .f32 := c2 N.SM
abbrev Nums.a2 : FVec Ideal S1x4x3072 .f32 := c3 fun _ i j => N.W i j
abbrev Nums.a3 : FVec Ideal S1x8 .f32 := c2 fun _ j => N.AL j
abbrev Nums.a4 : FVec Ideal S1x8 .f32 := c2 fun _ j => N.DT j
abbrev Nums.a5 : FVec Ideal S1x128 .f32 := c2 fun _ j => N.NG j

/-- Batch `b`'s projections, their first 3072 columns those convolved. -/
def Nums.px (b i j : ℕ) : ℝ := N.P (4096 * b + i) j

theorem v2_eq : Step.A_main_v2 (F := Ideal) N.a0 N.a1 N.a2 N.a3 N.a4 = (c3 N.px : T3 4 4096 3072) := by
  unfold Step.A_main_v2 Step.A_main_v1 Step.A_main_v0
  rw [extf_c2, slice_c2]
  refine (cast_23 _ (by norm_num) _).trans ?_
  simp only [Nat.zero_add]; rfl

/-- Three rows of zeros before the first token. -/
theorem v8_eq : Step.A_main_v8 (F := Ideal) N.a0 N.a1 N.a2 N.a3 N.a4 = (c3 (fun b i j => if i < 3 then 0 else N.px b (i - 3) j) : T3 4 4099 3072) := by
  unfold Step.A_main_v8
  rw [v2_eq]
  funext y
  have h1 : (y 1).val < 4099 := (y 1).isLt
  show _ = (((if (y 1).val < 3 then 0 else N.px (y 0).val ((y 1).val - 3) (y 2).val : ℝ)) : EReal)
  by_cases h : (y 1).val < 3
  · rw [if_pos h]
    refine (pad_apply_of_not_inside _ _ _ _ _ _ _ y (1 : Fin 3) ?_).trans ?_
    · rintro ⟨h3, -, -⟩
      have h3' : 3 ≤ (y 1).val := h3
      omega
    · show (((0#32 : BitVec 32).toInt : ℝ) : EReal) = _
      simp
  · rw [if_neg h]
    refine (pad_apply_of_inside _ _ _ _ _ _ _ y (ValueIdx.ix3 (y 0) (⟨(y 1).val - 3, by omega⟩ : Fin 4096) (y 2)) fun a => ?_).trans rfl
    match a with
    | ⟨0, _⟩ => show (y 0).val = 0 + (y 0).val * (0 + 1); omega
    | ⟨1, _⟩ => show (y 1).val = 3 + ((y 1).val - 3) * (0 + 1); omega
    | ⟨2, _⟩ => show (y 2).val = 0 + (y 2).val * (0 + 1); omega

theorem v7_eq : Step.A_main_v7 (F := Ideal) N.a0 N.a1 N.a2 N.a3 N.a4 = (c2 N.W : FVec Ideal S4x3072 .f32) := by
  unfold Step.A_main_v7
  exact cast_drop (fun _ i j => N.W i j) _

/-- A row of the weights over every token. -/
theorem spread (f : ℕ → ℝ) : broadcastInDim S4x4096x3072 ![0, 1, 2] bcast_S1x1x3072_S4x4096x3072_0_1_2
      (broadcastInDim S1x1x3072 ![2] bcast_S3072_S1x1x3072_2 (c1 f : FVec Ideal S3072 .f32))
    = (c3 (fun _ _ j => f j) : T3 4 4096 3072) := rfl

/-- One tap: the padded rows from the `o`-th on, times the weights' row `o`. -/
theorem tap (o : ℕ) (h : Shape.Slices S4x4099x3072 ![0, o, 0] S4x4096x3072) (h' : Shape.Slices S4x3072 ![o, 0] S1x3072) :
    mulf (extractStridedSlice S4x4096x3072 ![0, o, 0] (Step.A_main_v8 (F := Ideal) N.a0 N.a1 N.a2 N.a3 N.a4) h)
      (broadcastInDim S4x4096x3072 ![0, 1, 2] bcast_S1x1x3072_S4x4096x3072_0_1_2
      (broadcastInDim S1x1x3072 ![2] bcast_S3072_S1x1x3072_2 (shapeCast S3072 (extractStridedSlice S1x3072 ![o, 0]
        (Step.A_main_v7 (F := Ideal) N.a0 N.a1 N.a2 N.a3 N.a4) h') shapeCasts_S1x3072_S3072)))
    = (c3 (fun b i j => (if o + i < 3 then 0 else N.px b (o + i - 3) j) * N.W o j) : T3 4 4096 3072) := by
  rw [v8_eq, v7_eq, slice_c3, slice_c2, cast_21, spread, c3_L, c3_L, mulf_L]
  simp only [Nat.zero_add, Nat.add_zero]; rfl

theorem addf_c3 {a b c : ℕ} (A B : ℕ → ℕ → ℕ → ℝ) : addf (c3 A : T3 a b c) (c3 B) = c3 fun i j k => A i j k + B i j k := addf_L _ _

theorem v35_eq : Step.A_main_v35 (F := Ideal) N.a0 N.a1 N.a2 N.a3 N.a4
    = (c3 (fun b i j => cs (N.px b) (fun _ _ => 0) N.W i j) : T3 4 4096 3072) := by
  have e : Step.A_main_v35 (F := Ideal) N.a0 N.a1 N.a2 N.a3 N.a4 = _ :=
    congrArg₂ addf (congrArg₂ addf (congrArg₂ addf (tap N 0 slices_S4x4099x3072_S4x4096x3072_0_0_0 slices_S4x3072_S1x3072_0_0)
      (tap N 1 slices_S4x4099x3072_S4x4096x3072_0_1_0 slices_S4x3072_S1x3072_1_0))
      (tap N 2 slices_S4x4099x3072_S4x4096x3072_0_2_0 slices_S4x3072_S1x3072_2_0))
      (tap N 3 slices_S4x4099x3072_S4x4096x3072_0_3_0 slices_S4x3072_S1x3072_3_0)
  rw [e, addf_c3, addf_c3, addf_c3]
  refine c3_congr fun b _ i _ j _ => ?_
  have hx : ∀ o < 4, cX (N.px b) (fun _ _ => 0) (i + 5 + o) j = if o + i < 3 then 0 else N.px b (o + i - 3) j := fun o _ => by
    unfold cX
    by_cases h : o + i < 3
    · rw [if_pos h, if_pos (by omega)]
    · rw [if_neg h, if_neg (by omega)]; congr 1; omega
  have h3 : N.px b i j = if 3 + i < 3 then 0 else N.px b (3 + i - 3) j := by
    rw [if_neg (by omega)]; congr 1; omega
  unfold cs
  show (if 0 + i < 3 then 0 else _) * _ + (if 1 + i < 3 then 0 else _) * _ + (if 2 + i < 3 then 0 else _) * _ + (if 3 + i < 3 then 0 else _) * _ = _
  rw [← hx 0 (by norm_num), ← hx 1 (by norm_num), ← hx 2 (by norm_num), ← h3]
  show _ = N.px b i j * N.W 3 j + cX _ _ (i + 7) j * N.W 2 j + cX _ _ (i + 6) j * N.W 1 j + cX _ _ (i + 5) j * N.W 0 j
  ring

theorem sig_ne (y : ℝ) : 1 + Real.exp (-y) ≠ 0 := (one_add_exp _).ne'

/-- One over one plus the exponential of the negation. -/
theorem hsig_L {s : Shape} (A : s.Idx → ℝ) (h : Shape.BroadcastsInDim S_ s ![]) :
    Host.divf (broadcastInDim s ![] h (constant S_ .f32 0x3F800000#32 : FVec Ideal S_ .f32))
      (addf (broadcastInDim s ![] h (constant S_ .f32 0x3F800000#32 : FVec Ideal S_ .f32)) (Host.exp (Host.negf (L A))))
    = L fun i => Gdn.sig (A i) := by
  rw [full_L _ 1 Ideal.ofBits_one_f32, hneg_L, hexp_L, addf_L, hdiv_L _ _ fun i => sig_ne _]; rfl

theorem v36_eq : Step.A_main_v36 (F := Ideal) N.a0 N.a1 N.a2 N.a3 N.a4
    = (c3 (fun b i j => cO (N.px b) (fun _ _ => 0) N.W i j) : T3 4 4096 3072) := by
  unfold Step.A_main_v36 Step.A_main_call1_v5 Step.A_main_call1_v3 Step.A_main_call1_v1 Step.A_main_call1_v0
    Step.K_main_call1_v2 Step.K_main_call1_v4 Step.K_main_call1_cst Step.K_main_call1_cst_0
  rw [v35_eq, c3_L, hsig_L, mulf_L]; rfl

/-- The convolved columns from the `o`-th on, by heads. -/
theorem heads (o : ℕ) (h : Shape.Slices S4x4096x3072 ![0, 0, o] S4x4096x1024) :
    shapeCast S4x4096x8x128 (extractStridedSlice S4x4096x1024 ![0, 0, o] (Step.A_main_v36 (F := Ideal) N.a0 N.a1 N.a2 N.a3 N.a4) h)
      shapeCasts_S4x4096x1024_S4x4096x8x128
    = (c4 (fun b i h x => cO (N.px b) (fun _ _ => 0) N.W i (o + (128 * h + x))) : T4 4 4096 8 128) := by
  rw [v36_eq, slice_c3]
  refine (cast_34 _ (by norm_num) _).trans ?_
  simp only [Nat.zero_add]

/-! ### The gates -/

theorem eights (f : ℕ → ℝ) : broadcastInDim S4x4096x8 ![0, 1, 2] bcast_S1x1x8_S4x4096x8_0_1_2
      (broadcastInDim S1x1x8 ![2] bcast_S8_S1x1x8_2 (c1 f : FVec Ideal S8 .f32))
    = (c3 (fun _ _ j => f j) : T3 4 4096 8) := rfl

theorem v4_eq : Step.A_main_v4 (F := Ideal) N.a0 N.a1 N.a2 N.a3 N.a4 = (c3 (fun b i h => N.SM (4096 * b + i) (80 + h)) : T3 4 4096 8) := by
  unfold Step.A_main_v4 Step.A_main_v3
  rw [slice_c2]
  refine (cast_23 _ (by norm_num) _).trans ?_
  simp only [Nat.zero_add]

theorem v6_eq : Step.A_main_v6 (F := Ideal) N.a0 N.a1 N.a2 N.a3 N.a4 = (c3 (fun b i h => N.SM (4096 * b + i) (88 + h)) : T3 4 4096 8) := by
  unfold Step.A_main_v6 Step.A_main_v5
  rw [slice_c2]
  refine (cast_23 _ (by norm_num) _).trans ?_
  simp only [Nat.zero_add]

theorem v49_eq : Step.A_main_v49 (F := Ideal) N.a0 N.a1 N.a2 N.a3 N.a4
    = (c3 (fun b i h => (N.bat b).ga i h + N.DT h) : T3 4 4096 8) := by
  unfold Step.A_main_v49 Step.A_main_v48 Step.A_main_v47 Step.A_main_v46
  rw [v4_eq, cast_21, eights, c3_L, c3_L, addf_L]; rfl

/-- The softplus. -/
theorem v50_eq : Step.A_main_v50 (F := Ideal) N.a0 N.a1 N.a2 N.a3 N.a4
    = L (s := S4x4096x8) fun i => max ((N.bat (i 0).val).ga (i 1).val (i 2).val + N.DT (i 2).val) 0
        + Real.log (1 + Real.exp (-|(N.bat (i 0).val).ga (i 1).val (i 2).val + N.DT (i 2).val|)) := by
  unfold Step.A_main_v50 Step.A_main_call2_v4 Step.A_main_call2_v6 Step.A_main_call2_v11 Step.A_main_call2_v1 Step.A_main_call2_v10
    Step.A_main_call2_v9 Step.A_main_call2_v8 Step.A_main_call2_v7 Step.A_main_call2_v3 Step.K_main_call2_v0 Step.K_main_call2_v2
    Step.K_main_call2_v5 Step.K_main_call2_cst
  rw [v49_eq, c3_L, full_L _ 0 Ideal.ofBits_zero_f32, subf_L, une_L, habs_L, hneg_L, hexp_L, hlog1p_L _ fun i => one_add_exp _, maximumf_L, addf_L]
  simp only [sub_zero]

theorem v53_eq : Step.A_main_v53 (F := Ideal) N.a0 N.a1 N.a2 N.a3 N.a4 = (c3 (fun b i h => (N.bat b).G h i) : T3 4 4096 8) := by
  unfold Step.A_main_v53 Step.A_main_v52 Step.A_main_v51 Step.A_main_v45 Step.A_main_v44 Step.A_main_v43
  rw [v50_eq, cast_21, c1_L, hexp_L, hneg_L]
  show mulf (broadcastInDim S4x4096x8 ![0, 1, 2] bcast_S1x1x8_S4x4096x8_0_1_2 (broadcastInDim S1x1x8 ![2] bcast_S8_S1x1x8_2
    (c1 (fun h => - Real.exp (N.AL h)) : FVec Ideal S8 .f32))) _ = _
  rw [eights, c3_L, mulf_L, c3_L]
  congr 1; funext i
  unfold Reals.G gate
  rw [zero_sub, zero_sub]; rfl

theorem v59_eq : Step.A_main_v59 (F := Ideal) N.a0 N.a1 N.a2 N.a3 N.a4 = (c3 (fun b i h => (N.bat b).B h i) : T3 4 4096 8) := by
  unfold Step.A_main_v59 Step.A_main_v57 Step.A_main_v55 Step.A_main_v54 Step.K_main_v56 Step.K_main_v58 Step.K_main_cst Step.K_main_cst_0
  rw [v6_eq, c3_L, hsig_L]; rfl

/-! ### Queries and keys -/

/-- A fourth axis of one element, spread. -/
theorem col4 (f : ℕ → ℕ → ℕ → ℕ → ℝ) : broadcastInDim S4x4096x8x128 ![0, 1, 2, 3] bcast_S4x4096x8x1_S4x4096x8x128_0_1_2_3 (c4 f : T4 4 4096 8 1)
    = (c4 (fun b i h _ => f b i h 0) : T4 4 4096 8 128) := rfl

theorem add4 (f : ℕ → ℕ → ℕ → ℝ) : broadcastInDim S4x4096x8x1 ![0, 1, 2] bcast_S4x4096x8_S4x4096x8x1_0_1_2 (c3 f : T3 4 4096 8)
    = (c4 (fun b i h _ => f b i h) : T4 4 4096 8 1) := rfl

/-- A head's row over its norm. -/
theorem hnorm (Y : ℕ → ℕ → ℕ → ℕ → ℝ) :
    mulf (c4 Y : T4 4 4096 8 128) (broadcastInDim S4x4096x8x128 ![0, 1, 2, 3] bcast_S4x4096x8x1_S4x4096x8x128_0_1_2_3
      (Host.rsqrt (addf (broadcastInDim S4x4096x8x1 ![0, 1, 2] bcast_S4x4096x8_S4x4096x8x1_0_1_2
        (Host.reduceAdd (mulf (c4 Y : T4 4 4096 8 128) (c4 Y : T4 4 4096 8 128)) (constant S_ .f32 0x00000000#32 : FVec Ideal S_ .f32) reducesTo_S4x4096x8x128_S4x4096x8_d3 h_S_))
        (broadcastInDim S4x4096x8x1 ![] bcast_S_S4x4096x8x1 (constant S_ .f32 0x358637BD#32 : FVec Ideal S_ .f32)))))
    = (c4 (fun b i h x => nrm (Y b i h) x) : T4 4 4096 8 128) := by
  have e : mulf (c4 Y : T4 4 4096 8 128) (c4 Y : T4 4 4096 8 128) = (c4 (fun b i h x => Y b i h x * Y b i h x) : T4 4 4096 8 128) := by
    rw [c4_L, mulf_L]; rfl
  rw [e, sum_c4, add4, full_L _ eps bits_eps, c4_L (d := 1), addf_L, hrsqrt_L _ fun i => sq_pos _]
  show mulf _ (broadcastInDim S4x4096x8x128 ![0, 1, 2, 3] bcast_S4x4096x8x1_S4x4096x8x128_0_1_2_3
    (c4 (fun b i h _ => (√(∑ x ∈ range 128, Y b i h x * Y b i h x + eps))⁻¹) : T4 4 4096 8 1)) = _
  rw [col4, c4_L, c4_L, mulf_L]; rfl

theorem v69_eq : Step.A_main_v69 (F := Ideal) N.a0 N.a1 N.a2 N.a3 N.a4 = (c4 (fun b i h x => (N.bat b).Q h i x) : T4 4 4096 8 128) := by
  unfold Step.A_main_v69 Step.A_main_v67 Step.A_main_v66 Step.A_main_v65 Step.A_main_v64 Step.A_main_v62 Step.A_main_v61 Step.A_main_v60
    Step.A_main_v38 Step.A_main_v37 Step.K_main_v63 Step.K_main_cst_2 Step.K_main_cst_1 Step.K_main_v68 Step.K_main_cst_3
  rw [heads, hnorm, full_L _ scl bits_scl, c4_L, mulf_L, c4_L]
  simp only [Nat.zero_add]; rfl

theorem v77_eq : Step.A_main_v77 (F := Ideal) N.a0 N.a1 N.a2 N.a3 N.a4 = (c4 (fun b i h x => (N.bat b).K h i x) : T4 4 4096 8 128) := by
  unfold Step.A_main_v77 Step.A_main_v76 Step.A_main_v75 Step.A_main_v74 Step.A_main_v72 Step.A_main_v71 Step.A_main_v70
    Step.A_main_v40 Step.A_main_v39 Step.K_main_v73 Step.K_main_cst_5 Step.K_main_cst_4
  rw [heads, hnorm]; rfl

theorem v42_eq : Step.A_main_v42 (F := Ideal) N.a0 N.a1 N.a2 N.a3 N.a4 = (c4 (fun b i h x => (N.bat b).V h i x) : T4 4 4096 8 128) := by
  unfold Step.A_main_v42 Step.A_main_v41
  rw [heads]; rfl

end Cert.Gdn
-- ==== Proof.Loop.lean ====
/- The reference's loop as a state taken 4096 times through one token's step: what a valuation of the loop's buffers holds is the
   state itself, and one application of the run's step is one token of it. -/
module

public import proofs.«01_k».proof.Proof.Gen.ReferenceIdeal.Run
public import proofs.«01_k».proof.Proof.Gen.ReferenceIdeal.Step
public import Idealize.ShloMosaic.Lib.Tactic

@[expose] public section

noncomputable section

namespace Cert.Gdn.Loop

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The state a valuation's buffers hold. -/
def held (V : Valuation τ sig (Elt F)) : Step.State F where
  main_v85_6 := V (Proc.devRef .tc main_v85_6)
  main_v85_7 := V (Proc.devRef .tc main_v85_7)
  main_v85_0 := V (Proc.devRef .tc main_v85_0)
  main_v85_1 := V (Proc.devRef .tc main_v85_1)
  main_v85_2 := V (Proc.devRef .tc main_v85_2)
  main_v85_3 := V (Proc.devRef .tc main_v85_3)
  main_v85_4 := V (Proc.devRef .tc main_v85_4)

/-- A valuation is at token `n`, in state `s`. -/
def At (V : Valuation τ sig (Elt F)) (n : ℕ) (s : Step.State F) : Prop :=
  held V = s ∧ V (Proc.devRef .tc main_v85_5) = constantI S_ 32 (BitVec.ofNat 32 n)

set_option maxRecDepth 16384 in
set_option maxHeartbeats 1000000 in
/-- The state matrix after a token. -/
theorem fst_step (V : Valuation τ sig (Elt F)) (n : ℕ) (h : V (Proc.devRef .tc main_v85_5) = constantI S_ 32 (BitVec.ofNat 32 n)) :
    step_main_v85_6 V = Step.b37 n (held V) := by
  simp only [Step.b0, Step.b1, Step.b2, Step.b3, Step.b4, Step.b5, Step.b6, Step.b7, Step.b8, Step.b9, Step.b10, Step.b11, Step.b12, Step.b13, Step.b14, Step.b15, Step.b16, Step.b17, Step.b18, Step.b19, Step.b20, Step.b21, Step.b22, Step.b23, Step.b24, Step.b25, Step.b26, Step.b27, Step.b28, Step.b29, Step.b30, Step.b31, Step.b32, Step.b33, Step.b34, Step.b35, Step.b36, Step.b37, Step.b38, Step.b39, Step.b40, Step.b41, Step.b42, Step.b43, held, step_main_v85_6, res_main_while0b_v128, res_main_while0b_v117, res_main_while0b_v110, h]
  rfl

set_option maxRecDepth 16384 in
set_option maxHeartbeats 1000000 in
/-- The outputs after a token. -/
theorem snd_step (V : Valuation τ sig (Elt F)) (n : ℕ) (h : V (Proc.devRef .tc main_v85_5) = constantI S_ 32 (BitVec.ofNat 32 n)) :
    step_main_v85_7 V = Step.b43 n (held V) := by
  simp only [Step.b0, Step.b1, Step.b2, Step.b3, Step.b4, Step.b5, Step.b6, Step.b7, Step.b8, Step.b9, Step.b10, Step.b11, Step.b12, Step.b13, Step.b14, Step.b15, Step.b16, Step.b17, Step.b18, Step.b19, Step.b20, Step.b21, Step.b22, Step.b23, Step.b24, Step.b25, Step.b26, Step.b27, Step.b28, Step.b29, Step.b30, Step.b31, Step.b32, Step.b33, Step.b34, Step.b35, Step.b36, Step.b37, Step.b38, Step.b39, Step.b40, Step.b41, Step.b42, Step.b43, held, step_main_v85_7, res_main_while0b_v128, res_main_while0b_v117, res_main_while0b_v110, h]
  rfl

/-- One token further. -/
theorem at_step {V : Valuation τ sig (Elt F)} {n : ℕ} {s : Step.State F} (h : At V n s) : At (STEP V) (n + 1) (Step.step n s) := by
  obtain ⟨rfl, hn⟩ := h
  refine ⟨?_, (STEP_main_v85_5 V).trans ?_⟩
  · unfold held Step.step
    rw [STEP_main_v85_6, STEP_main_v85_7, STEP_main_v85_0, STEP_main_v85_1, STEP_main_v85_2, STEP_main_v85_3, STEP_main_v85_4,
      fst_step V n hn, snd_step V n hn]
    rfl
  · unfold step_main_v85_5
    rw [hn]
    funext i
    show BitVec.ofNat 32 n + 1#32 = BitVec.ofNat 32 (n + 1)
    simp only [BitVec.ofNat_add]

variable (m : (ℓ : Loc nD τ sig) → Buf (Elt F) ℓ) (c : Dev nD)

/-- The state before the first token, from the memory the run starts from. -/
def start : Step.State F :=
  Step.init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The state before token `n`. -/
def iter : ℕ → Step.State F
  | 0 => start m c
  | n + 1 => Step.step n (iter n)

set_option maxRecDepth 65536 in
set_option maxHeartbeats 1000000 in
/-- The operations before the loop leave the first state. -/
theorem at_zero : At (entryContents preI m c) 0 (start m c) := by
  refine ⟨?_, ?_⟩
  · unfold held
    simp only [entryContents, afterL_cons, afterL_nil]; after_reads_simp; rfl
  · simp only [entryContents, afterL_cons, afterL_nil]; after_reads_simp; rfl

/-- Before token `n` the valuation is in state `n`. -/
theorem at_iter (n : ℕ) : At (STEP^[n] (entryContents preI m c)) n (iter m c n) := by
  induction n with
  | zero => exact at_zero m c
  | succ n ih => rw [Function.iterate_succ_apply']; exact at_step ih

set_option maxRecDepth 16384 in
set_option maxHeartbeats 1000000 in
/-- The result is the tail of the last state's outputs. -/
theorem out_eq {V : Valuation τ sig (Elt F)} {n : ℕ} {s : Step.State F} (h : At V n s) :
    out_main_v108 V = Step.R_main_v108 s (V (Proc.devRef .tc main_arg0)) (V (Proc.devRef .tc main_arg5)) := by
  obtain ⟨rfl, -⟩ := h
  rfl

/-- Every run of the reference ends with its result the tail of state 4096, its arguments as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v108)
        = Step.R_main_v108 (iter m c 4096) (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2⟩) (Value.run m ρ)
  have e := out_eq (at_iter m c 4096)
  rw [iter_main_arg0 m c 4096, iter_main_arg5 m c 4096] at e
  exact e

end Cert.Gdn.Loop
-- ==== Proof.Token.lean ====
/- The reference's loop on real inputs: the state before token `n` is the rule's, its outputs those of the tokens before. -/
module

public import proofs.«01_k».proof.Proof.Seq
public import proofs.«01_k».proof.Proof.Loop
public import Idealize.ShloMosaic.Lib.WordCmp

@[expose] public section

noncomputable section

namespace Cert.Gdn

open Idealize.ShloMosaic Idealize.ShloMosaic.TcCoe Finset Cert.ReferenceIdeal Cert.ReferenceIdeal.Gen

theorem toInt_nat {n : ℕ} (h : n < 4096) : (BitVec.ofNat 32 n).toInt = (n : ℤ) := by
  rw [BitVec.toInt_eq_toNat_of_lt (by rw [BitVec.toNat_ofNat]; omega), BitVec.toNat_ofNat]; omega

/-- Token `n`'s row of a stack. -/
theorem take4 {n : ℕ} (hn : n < 4096) (A : ℕ → ℕ → ℕ → ℕ → ℝ) :
    shapeCast S4x8x128 (Host.dynamicSlice S1x4x8x128 (c4 A : T4 4096 4 8 128)
      (fun k => (((![(constantI S_ 32 (BitVec.ofNat 32 n) : IVec S_ 32), constantI S_ 32 0#32, constantI S_ 32 0#32, constantI S_ 32 0#32] : Fin 4 → IVec S_ 32)) k (Shape.Idx.first h_S_)).toInt)
      sliceFits_S4096x4x8x128_S1x4x8x128) shapeCasts_S1x4x8x128_S4x8x128
    = (c3 (A n) : T3 4 8 128) := by
  have hs : Shape.Slices S4096x4x8x128 ![n, 0, 0, 0] S1x4x8x128 := ⟨rfl, fun a => by
    match a with
    | ⟨0, _⟩ => show n + 1 ≤ 4096; omega
    | ⟨1, _⟩ => exact le_refl 4
    | ⟨2, _⟩ => exact le_refl 8
    | ⟨3, _⟩ => exact le_refl 128⟩
  rw [WordCmp.dynamicSlice_eq_extract S1x4x8x128 _ _ _ ![n, 0, 0, 0] hs (fun a => by
    match a with
    | ⟨0, _⟩ => exact toInt_nat hn
    | ⟨1, _⟩ => rfl
    | ⟨2, _⟩ => rfl
    | ⟨3, _⟩ => rfl), slice_c4, cast_drop3]
  simp only [Nat.zero_add, Nat.add_zero]

theorem take3 {n : ℕ} (hn : n < 4096) (A : ℕ → ℕ → ℕ → ℝ) :
    shapeCast S4x8 (Host.dynamicSlice S1x4x8 (c3 A : T3 4096 4 8)
      (fun k => (((![(constantI S_ 32 (BitVec.ofNat 32 n) : IVec S_ 32), constantI S_ 32 0#32, constantI S_ 32 0#32] : Fin 3 → IVec S_ 32)) k (Shape.Idx.first h_S_)).toInt)
      sliceFits_S4096x4x8_S1x4x8) shapeCasts_S1x4x8_S4x8
    = (c2 (A n) : FVec Ideal S4x8 .f32) := by
  have hs : Shape.Slices S4096x4x8 ![n, 0, 0] S1x4x8 := ⟨rfl, fun a => by
    match a with
    | ⟨0, _⟩ => show n + 1 ≤ 4096; omega
    | ⟨1, _⟩ => exact le_refl 4
    | ⟨2, _⟩ => exact le_refl 8⟩
  rw [WordCmp.dynamicSlice_eq_extract S1x4x8 _ _ _ ![n, 0, 0] hs (fun a => by
    match a with
    | ⟨0, _⟩ => exact toInt_nat hn
    | ⟨1, _⟩ => rfl
    | ⟨2, _⟩ => rfl), slice_c3, cast_drop]
  simp only [Nat.zero_add, Nat.add_zero]

/-- Token `n`'s row of a stack written. -/
theorem put4 {n : ℕ} (hn : n < 4096) (A : ℕ → ℕ → ℕ → ℕ → ℝ) (U : ℕ → ℕ → ℕ → ℝ) :
    Host.dynamicUpdateSlice (c4 A : T4 4096 4 8 128) (c4 (fun _ j k l => U j k l) : T4 1 4 8 128)
      (fun k => (((![(constantI S_ 32 (BitVec.ofNat 32 n) : IVec S_ 32), constantI S_ 32 0#32, constantI S_ 32 0#32, constantI S_ 32 0#32] : Fin 4 → IVec S_ 32)) k (Shape.Idx.first h_S_)).toInt)
      updateFits_S4096x4x8x128_S1x4x8x128
    = (c4 (fun i j k l => if i = n then U j k l else A i j k l) : T4 4096 4 8 128) := by
  have hs : Shape.Slices S4096x4x8x128 ![n, 0, 0, 0] S1x4x8x128 := ⟨rfl, fun a => by
    match a with
    | ⟨0, _⟩ => show n + 1 ≤ 4096; omega
    | ⟨1, _⟩ => exact le_refl 4
    | ⟨2, _⟩ => exact le_refl 8
    | ⟨3, _⟩ => exact le_refl 128⟩
  rw [WordCmp.dynamicUpdateSlice_eq_update _ _ _ _ ![n, 0, 0, 0] hs (fun a => by
    match a with
    | ⟨0, _⟩ => exact toInt_nat hn
    | ⟨1, _⟩ => rfl
    | ⟨2, _⟩ => rfl
    | ⟨3, _⟩ => rfl)]
  funext y
  unfold updateSlice
  show _ = (((if (y 0).val = n then U (y 1).val (y 2).val (y 3).val else A (y 0).val (y 1).val (y 2).val (y 3).val : ℝ)) : EReal)
  by_cases h : (y 0).val = n
  · rw [if_pos h, dif_pos fun a => by
      match a with
      | ⟨0, _⟩ => show n ≤ (y 0).val ∧ (y 0).val < n + 1; omega
      | ⟨1, _⟩ => have := (y 1).isLt; exact ⟨Nat.zero_le _, by show (y 1).val < 0 + 4; rw [Nat.zero_add]; exact this⟩
      | ⟨2, _⟩ => have := (y 2).isLt; exact ⟨Nat.zero_le _, by show (y 2).val < 0 + 8; rw [Nat.zero_add]; exact this⟩
      | ⟨3, _⟩ => have := (y 3).isLt; exact ⟨Nat.zero_le _, by show (y 3).val < 0 + 128; rw [Nat.zero_add]; exact this⟩]
    rfl
  · rw [if_neg h, dif_neg fun hin => by
      have h0 : n ≤ (y 0).val ∧ (y 0).val < n + 1 := hin (0 : Fin 4)
      omega]
    rfl

theorem spread2 (f : ℕ → ℕ → ℝ) : broadcastInDim S4x8x128x128 ![0, 1, 2, 3] bcast_S4x8x1x1_S4x8x128x128_0_1_2_3
      (broadcastInDim S4x8x1x1 ![0, 1] bcast_S4x8_S4x8x1x1_0_1 (c2 f : FVec Ideal S4x8 .f32))
    = (c4 (fun b h _ _ => f b h) : T4 4 8 128 128) := rfl

theorem spread1 (f : ℕ → ℕ → ℝ) : broadcastInDim S4x8x128 ![0, 1, 2] bcast_S4x8x1_S4x8x128_0_1_2
      (broadcastInDim S4x8x1 ![0, 1] bcast_S4x8_S4x8x1_0_1 (c2 f : FVec Ideal S4x8 .f32))
    = (c3 (fun b h _ => f b h) : T3 4 8 128) := rfl

theorem spreadR (f : ℕ → ℕ → ℕ → ℝ) : broadcastInDim S4x8x128x128 ![0, 1, 2, 3] bcast_S4x8x128x1_S4x8x128x128_0_1_2_3
      (broadcastInDim S4x8x128x1 ![0, 1, 2] bcast_S4x8x128_S4x8x128x1_0_1_2 (c3 f : T3 4 8 128))
    = (c4 (fun b h x _ => f b h x) : T4 4 8 128 128) := rfl

theorem spreadC (f : ℕ → ℕ → ℕ → ℝ) : broadcastInDim S4x8x128x128 ![0, 1, 2, 3] bcast_S4x8x1x128_S4x8x128x128_0_1_2_3
      (broadcastInDim S4x8x1x128 ![0, 1, 3] bcast_S4x8x128_S4x8x1x128_0_1_3 (c3 f : T3 4 8 128))
    = (c4 (fun b h _ x => f b h x) : T4 4 8 128 128) := rfl

theorem spread0 (f : ℕ → ℕ → ℕ → ℝ) : broadcastInDim S1x4x8x128 ![1, 2, 3] bcast_S4x8x128_S1x4x8x128_1_2_3 (c3 f : T3 4 8 128)
    = (c4 (fun _ b h x => f b h x) : T4 1 4 8 128) := rfl

variable (N : Nums)

/-- The state before token `n`. -/
def Nums.tok (n : ℕ) : Step.State Ideal where
  main_v85_6 := (c4 (fun b h a d => (N.bat b).S h n a d) : T4 4 8 128 128)
  main_v85_7 := (c4 (fun t b h d => if t < n then (N.bat b).O h t d else 0) : T4 4096 4 8 128)
  main_v85_0 := (c4 (fun t b h x => (N.bat b).Q h t x) : T4 4096 4 8 128)
  main_v85_1 := (c4 (fun t b h x => (N.bat b).K h t x) : T4 4096 4 8 128)
  main_v85_2 := (c4 (fun t b h x => (N.bat b).V h t x) : T4 4096 4 8 128)
  main_v85_3 := (c3 (fun t b h => (N.bat b).G h t) : T3 4096 4 8)
  main_v85_4 := (c3 (fun t b h => (N.bat b).B h t) : T3 4096 4 8)

theorem init_eq : Step.init (F := Ideal) N.a0 N.a1 N.a2 N.a3 N.a4 = N.tok 0 := by
  unfold Step.init Nums.tok Step.A_main_v79 Step.A_main_v80 Step.A_main_v81 Step.A_main_v82 Step.A_main_v83
  rw [v69_eq, v77_eq, v42_eq, v53_eq, v59_eq, swap_c4, swap_c4, swap_c4, swap_c3, swap_c3]
  unfold Step.K_main_v78 Step.K_main_v84 Step.K_main_cst_6 Step.K_main_cst_7
  rw [full_L _ 0 Ideal.ofBits_zero_f32, full_L _ 0 Ideal.ofBits_zero_f32]
  simp only [Nat.not_lt_zero, if_false]; rfl

variable {N} {n : ℕ} (hn : n < 4096)
include hn

theorem b4_eq : Step.b4 n (N.tok n) = (c3 (fun b h x => (N.bat b).Q h n x) : T3 4 8 128) := by
  unfold Step.b4 Step.b3 Step.b0 Step.b1 Step.b2; exact take4 hn (fun t b h x => (N.bat b).Q h t x)
theorem b9_eq : Step.b9 n (N.tok n) = (c3 (fun b h x => (N.bat b).K h n x) : T3 4 8 128) := by
  unfold Step.b9 Step.b8 Step.b5 Step.b6 Step.b7; exact take4 hn (fun t b h x => (N.bat b).K h t x)
theorem b14_eq : Step.b14 n (N.tok n) = (c3 (fun b h x => (N.bat b).V h n x) : T3 4 8 128) := by
  unfold Step.b14 Step.b13 Step.b10 Step.b11 Step.b12; exact take4 hn (fun t b h x => (N.bat b).V h t x)
theorem b18_eq : Step.b18 n (N.tok n) = (c2 (fun b h => (N.bat b).G h n) : FVec Ideal S4x8 .f32) := by
  unfold Step.b18 Step.b17 Step.b15 Step.b16; exact take3 hn (fun t b h => (N.bat b).G h t)
theorem b22_eq : Step.b22 n (N.tok n) = (c2 (fun b h => (N.bat b).B h n) : FVec Ideal S4x8 .f32) := by
  unfold Step.b22 Step.b21 Step.b19 Step.b20; exact take3 hn (fun t b h => (N.bat b).B h t)

/-- The decayed state. -/
theorem b26_eq : Step.b26 n (N.tok n)
    = (c4 (fun b h a d => (N.bat b).S h n a d * Real.exp ((N.bat b).G h n)) : T4 4 8 128 128) := by
  unfold Step.b26 Step.b25 Step.b24 Step.b23
  rw [b18_eq hn, c2_L, hexp_L]
  show mulf _ (broadcastInDim S4x8x128x128 ![0, 1, 2, 3] bcast_S4x8x1x1_S4x8x128x128_0_1_2_3
      (broadcastInDim S4x8x1x1 ![0, 1] bcast_S4x8_S4x8x1x1_0_1 (c2 (fun b h => Real.exp ((N.bat b).G h n)) : FVec Ideal S4x8 .f32))) = _
  rw [spread2]
  exact mulf_L _ _

/-- What the token writes at its key. -/
theorem b31_eq : Step.b31 n (N.tok n)
    = (c3 (fun b h d => uval 128 ((N.bat b).G h n) ((N.bat b).B h n) ((N.bat b).K h n) ((N.bat b).V h n) ((N.bat b).S h n) d) : T3 4 8 128) := by
  unfold Step.b31 Step.b30 Step.b27 Step.b29 Step.b28
  rw [b22_eq hn, b14_eq hn, b9_eq hn, b26_eq hn, spread1, show dot_S4x8x128_S4x8x128x128_S4x8x128_2_2_n_3_01_01 = VDims from rfl, dot_c3,
    c3_L, c3_L, c3_L, subf_L, mulf_L]
  rfl

theorem b37_eq : Step.b37 n (N.tok n) = (c4 (fun b h a d => (N.bat b).S h (n + 1) a d) : T4 4 8 128 128) := by
  unfold Step.b37 Step.b36 Step.b35 Step.b34 Step.b33 Step.b32
  rw [b31_eq hn, b9_eq hn, b26_eq hn, spreadR, spreadC, c4_L, c4_L, c4_L, mulf_L, addf_L]
  rfl

theorem b43_eq : Step.b43 n (N.tok n)
    = (c4 (fun t b h d => if t < n + 1 then (N.bat b).O h t d else 0) : T4 4096 4 8 128) := by
  unfold Step.b43 Step.b40 Step.b41 Step.b42 Step.b39 Step.b38
  rw [b4_eq hn, b37_eq hn, show dot_S4x8x128_S4x8x128x128_S4x8x128_2_2_n_3_01_01 = VDims from rfl, dot_c3, spread0]
  refine (put4 hn (fun t b h d => if t < n then (N.bat b).O h t d else 0) _).trans (c4_congr fun t _ b _ h _ d _ => ?_)
  by_cases e : t = n
  · subst e; rw [if_pos rfl, if_pos (Nat.lt_succ_self _)]; rfl
  · rw [if_neg e]
    by_cases e' : t < n
    · rw [if_pos e', if_pos (by omega)]
    · rw [if_neg e', if_neg (by omega)]

theorem step_eq : Step.step n (N.tok n) = N.tok (n + 1) := by
  unfold Step.step
  rw [b37_eq hn, b43_eq hn]; rfl

end Cert.Gdn
-- ==== Proof.Tail.lean ====
/- The reference's result on real inputs: after the last token, the normed and gated outputs, row by row. -/
module

public import proofs.«01_k».proof.Proof.Token

@[expose] public section

noncomputable section

namespace Cert.Gdn

open Idealize.ShloMosaic Idealize.ShloMosaic.TcCoe Finset Cert.ReferenceIdeal Cert.ReferenceIdeal.Gen

/-- The memory holds these numbers as the reference's arguments. -/
structure RHeld (m : (ℓ : Loc nD τ ReferenceIdeal.sig) → Buf (Elt Ideal) ℓ) (c : Dev nD) (N : Nums) : Prop where
  h0 : (m ((c.tc : Thread nD τ).loc main_arg0) : FVec Ideal S16384x7680 .bf16) = N.a0
  h1 : (m ((c.tc : Thread nD τ).loc main_arg1) : FVec Ideal S16384x128 .f32) = N.a1
  h2 : (m ((c.tc : Thread nD τ).loc main_arg2) : FVec Ideal S1x4x3072 .f32) = N.a2
  h3 : (m ((c.tc : Thread nD τ).loc main_arg3) : FVec Ideal S1x8 .f32) = N.a3
  h4 : (m ((c.tc : Thread nD τ).loc main_arg4) : FVec Ideal S1x8 .f32) = N.a4
  h5 : (m ((c.tc : Thread nD τ).loc main_arg5) : FVec Ideal S1x128 .f32) = N.a5

variable {m : (ℓ : Loc nD τ ReferenceIdeal.sig) → Buf (Elt Ideal) ℓ} {c : Dev nD} {N : Nums}

/-- The loop's state before token `n`. -/
theorem iter_eq (hm : RHeld m c N) : ∀ n ≤ 4096, Loop.iter m c n = N.tok n
  | 0, _ => by
    show Step.init _ _ _ _ _ = _
    rw [hm.h0, hm.h1, hm.h2, hm.h3, hm.h4]; exact init_eq N
  | n + 1, h => by
    show Step.step n (Loop.iter m c n) = _
    rw [iter_eq hm n (by omega)]; exact step_eq (by omega)

theorem mulf_c4 {a b c d : ℕ} (A B : ℕ → ℕ → ℕ → ℕ → ℝ) : mulf (c4 A : T4 a b c d) (c4 B) = c4 fun i j k l => A i j k l * B i j k l := mulf_L _ _
theorem mulf_c3 {a b c : ℕ} (A B : ℕ → ℕ → ℕ → ℝ) : mulf (c3 A : T3 a b c) (c3 B) = c3 fun i j k => A i j k * B i j k := mulf_L _ _

/-- A head's row over the root of its mean square. -/
theorem tnorm (Y : ℕ → ℕ → ℕ → ℕ → ℝ) :
    mulf (c4 Y : T4 4 4096 8 128) (broadcastInDim S4x4096x8x128 ![0, 1, 2, 3] bcast_S4x4096x8x1_S4x4096x8x128_0_1_2_3
      (Host.rsqrt (addf (Host.divf (broadcastInDim S4x4096x8x1 ![0, 1, 2] bcast_S4x4096x8_S4x4096x8x1_0_1_2
        (Host.reduceAdd (mulf (c4 Y : T4 4 4096 8 128) (c4 Y : T4 4 4096 8 128)) (constant S_ .f32 0x00000000#32 : FVec Ideal S_ .f32) reducesTo_S4x4096x8x128_S4x4096x8_d3 h_S_))
        (broadcastInDim S4x4096x8x1 ![] bcast_S_S4x4096x8x1 (constant S_ .f32 0x43000000#32 : FVec Ideal S_ .f32)))
        (broadcastInDim S4x4096x8x1 ![] bcast_S_S4x4096x8x1 (constant S_ .f32 0x358637BD#32 : FVec Ideal S_ .f32)))))
    = (c4 (fun b i h x => Y b i h x * (√((∑ x ∈ range 128, Y b i h x * Y b i h x) / 128 + eps))⁻¹) : T4 4 4096 8 128) := by
  rw [mulf_c4 Y Y, sum_c4, add4, full_L _ eps bits_eps, full_L _ 128 bits_128, c4_L (d := 1), hdiv_L _ _ fun _ => by norm_num, addf_L, hrsqrt_L _ fun i => ms_pos _]
  show mulf _ (broadcastInDim S4x4096x8x128 ![0, 1, 2, 3] bcast_S4x4096x8x1_S4x4096x8x128_0_1_2_3
    (c4 (fun b i h _ => (√((∑ x ∈ range 128, Y b i h x * Y b i h x) / 128 + eps))⁻¹) : T4 4 4096 8 1)) = _
  rw [col4, mulf_c4]

/-- The weights of a head's columns, spread. -/
theorem spreadG (f : ℕ → ℝ) : broadcastInDim S4x4096x8x128 ![0, 1, 2, 3] bcast_S1x1x1x128_S4x4096x8x128_0_1_2_3
      (broadcastInDim S1x1x1x128 ![3] bcast_S128_S1x1x1x128_3 (c1 f : FVec Ideal S128 .f32))
    = (c4 (fun _ _ _ x => f x) : T4 4 4096 8 128) := rfl

/-- The outputs of all tokens, a batch's tokens together. -/
theorem outs_eq : transpose S4x4096x8x128 [1, 0, 2, 3] (N.tok 4096).main_v85_7 transposes_S4096x4x8x128_S4x4096x8x128_1_0_2_3
    = (c4 (fun b t h d => (N.bat b).O h t d) : T4 4 4096 8 128) := by
  refine (swap_c4 (fun t b h d => if t < 4096 then (N.bat b).O h t d else 0) _).trans (c4_congr fun b _ t ht h _ d _ => ?_)
  rw [if_pos ht]

theorem zcols : shapeCast S4x4096x1024 (extf .f32 (extractStridedSlice S16384x1024 ![0, 3072] N.a0 slices_S16384x7680_S16384x1024_0_3072) bitsLt_bf16_f32) shapeCasts_S16384x1024_S4x4096x1024
    = (c3 (fun b t j => (N.bat b).z t j) : T3 4 4096 1024) := by
  rw [slice_c2, extf_c2]
  refine (cast_23 _ (by norm_num) _).trans ?_
  simp only [Nat.zero_add]; rfl

theorem zgate (A : ℕ → ℕ → ℕ → ℝ) (h : Shape.BroadcastsInDim S_ S4x4096x1024 ![]) :
    mulf (c3 A : T3 4 4096 1024) (Host.divf (broadcastInDim S4x4096x1024 ![] h (constant S_ .f32 0x3F800000#32 : FVec Ideal S_ .f32))
      (addf (broadcastInDim S4x4096x1024 ![] h (constant S_ .f32 0x3F800000#32 : FVec Ideal S_ .f32)) (Host.exp (Host.negf (c3 A : T3 4 4096 1024)))))
    = (c3 (fun b t j => A b t j * Gdn.sig (A b t j)) : T3 4 4096 1024) := by
  rw [c3_L, hsig_L, mulf_L]; rfl

theorem truncf_c3 {a b c : ℕ} (A : ℕ → ℕ → ℕ → ℝ) (h : (FTy.bf16).bits < (FTy.f32).bits) :
    truncf .bf16 (c3 A : T3 a b c) h = (c3 A : FVec Ideal ⟨3, ![a, b, c]⟩ .bf16) := rfl

theorem tail_eq : (Step.R_main_v108 (N.tok 4096) N.a0 N.a5 : FVec Ideal S16384x1024 .bf16)
    = (c2 (fun r j => (N.bat (r / 4096)).out (r % 4096) j) : FVec Ideal S16384x1024 .bf16) := by
  unfold Step.R_main_v108
  rw [outs_eq, tnorm, cast_21, spreadG, mulf_c4, zcols, cast_43 (hn := by norm_num), zgate, mulf_c3, truncf_c3]
  refine (cast_32 _ (by norm_num) _).trans rfl

end Cert.Gdn
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.KernelInIdeal.Value
public import proofs.«01_k».proof.Proof.Gen.ReferenceInIdeal.Run
public import proofs.«01_k».proof.Proof.Finite
public import proofs.«01_k».proof.Proof.In
public import proofs.«01_k».proof.Proof.Out
public import proofs.«01_k».proof.Proof.Sweep
public import proofs.«01_k».proof.Proof.Tail

@[expose] public section

noncomputable section

namespace Cert.Proof

open Idealize.ShloMosaic Idealize.SL.Sem

/-- The kernel ends, its arguments unchanged and every counter at zero. -/
theorem frame_k : Cert.quiescent_Kernel := fun m ρ _ => Cert.Kernel.Gen.frame m ρ

/-- The same over the ideal numbers. -/
theorem frame_ki : Cert.quiescent_KernelIdeal := fun m ρ _ => Cert.KernelIdeal.Gen.frame m ρ

/-- The reference ends, its arguments unchanged and every counter at zero (it has none). -/
theorem frame_ri : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- On finite arguments the kernel, by chunks of 64 tokens, and the reference, token by token, end at one result. -/
theorem value : @Cert.algebraic_KernelIdeal_ReferenceIdeal_pre_finite _ _ Cert.Gdn.pre_facts := by
  intro m g m' g' hpre hargs
  refine ⟨fun c => Cert.KernelIdeal.Value.G11 m c, Cert.KernelIdeal.Value.run m g, ?_⟩
  refine (θ_run Cert.ReferenceIdeal.defs _ _).mono (fun r h c => ⟨(h c).1.trans ?_, (h c).2⟩) (Cert.Gdn.Loop.run m' g')
  obtain ⟨N, hK⟩ := Cert.Gdn.held_of_finite m hpre c
  obtain ⟨h0, h1, h2, h3, h4, h5⟩ := hargs c
  have hR : Cert.Gdn.RHeld m' c N := ⟨h0.trans hK.h0, h1.trans hK.h1, h2.trans hK.h2, h3.trans hK.h3, h4.trans hK.h4, h5.trans hK.h5⟩
  rw [Cert.Gdn.iter_eq hR 4096 le_rfl]
  refine Eq.trans ?_ (Cert.Gdn.G11_eq hK).symm
  refine Eq.trans ?_ Cert.Gdn.tail_eq
  exact congrArg₂ (Cert.ReferenceIdeal.Step.R_main_v108 (N.tok 4096)) hR.h0 hR.h5

/-- The output projection ends, its arguments unchanged and every counter at zero. -/
theorem frame_out_k : Cert.quiescent_KernelOut := fun m ρ _ => Cert.KernelOut.Gen.frame m ρ

/-- The same over the ideal numbers. -/
theorem frame_out_ki : Cert.quiescent_KernelOutIdeal := fun m ρ _ => Cert.KernelOutIdeal.Gen.frame m ρ

/-- The output projection's reference ends, its arguments unchanged and every counter at zero (it has none). -/
theorem frame_out_ri : Cert.quiescent_ReferenceOutIdeal := fun m ρ _ =>
  (θ_run Cert.ReferenceOutIdeal.defs _ _).mono (fun r h => ⟨fun c => (h c).2, sem_eq_zero_of_no_sems (by decide) r.2⟩) (Cert.ReferenceOutIdeal.Value.run m ρ)

/-- The output projection, its two halves apart in the kernel, is the reference's product of the halves side by side, the norm the same. -/
theorem value_out : Cert.algebraic_KernelOutIdeal_ReferenceOutIdeal := by
  intro m g m' g' hpre hargs
  refine ⟨fun c => (Cert.KernelOutIdeal.Gen.dats m 0 c).arrAt 5 Cert.KernelOutIdeal.cfg0.N, Cert.KernelOutIdeal.Value.run_blocks m g, ?_⟩
  refine (θ_run Cert.ReferenceOutIdeal.defs _ _).mono (fun r h c => ⟨(h c).1.trans ?_, (h c).2⟩) (Cert.ReferenceOutIdeal.Value.run m' g')
  obtain ⟨h0, h1, h2, h3, h4⟩ := hargs c
  refine Eq.trans ?_ (Cert.Out.kernel m c).symm
  refine (Cert.Out.reference _ _ _ _ _).trans ?_
  rw [h0, h1, h2, h3, h4]

/-- The input projection ends, its arguments unchanged and every counter at zero. -/
theorem frame_in_k : Cert.quiescent_KernelIn := fun m ρ _ => Cert.KernelIn.Gen.frame m ρ

/-- The same over the ideal numbers. -/
theorem frame_in_ki : Cert.quiescent_KernelInIdeal := fun m ρ _ => Cert.KernelInIdeal.Gen.frame m ρ

/-- Everything claimed. -/
theorem claim : Cert.Claim :=
  ⟨Cert.Kernel.Gen.facts, Cert.KernelIdeal.Gen.facts, Cert.ReferenceIdeal.Gen.facts, Cert.KernelOut.Gen.facts, Cert.KernelOutIdeal.Gen.facts,
    Cert.ReferenceOutIdeal.Gen.facts, Cert.KernelIn.Gen.facts, Cert.KernelInIdeal.Gen.facts, Cert.ReferenceInIdeal.Gen.facts, Cert.Gdn.pre_facts,
    frame_k, frame_ki, fun m ρ _ => frame_ki m ρ trivial, frame_ri, fun m ρ _ => frame_ri m ρ trivial,
    frame_out_k, frame_out_ki, frame_out_ri, frame_in_k, frame_in_ki, Cert.In.frame_ri, trivial, value, trivial, value_out, trivial, Cert.In.value⟩

end Cert.Proof

end
